-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![65536, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S65536x1024 : Shape := ⟨2, ![65536, 1024]⟩
abbrev S2x4096x1024 : Shape := ⟨3, ![2, 4096, 1024]⟩
abbrev S4 : Shape := ⟨1, ![4]⟩
abbrev S3 : Shape := ⟨1, ![3]⟩
abbrev S6 : Shape := ⟨1, ![6]⟩
abbrev S_ : Shape := ⟨0, ![]⟩
abbrev S1 : Shape := ⟨1, ![1]⟩
abbrev S4096x1024 : Shape := ⟨2, ![4096, 1024]⟩
abbrev S1x4096x1024 : Shape := ⟨3, ![1, 4096, 1024]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S16384x1024, .f32⟩
  | .hbm, ⟨1, _⟩ => ⟨S65536x1024, .f32⟩
  | .local _ .vmem, ⟨0, _⟩ => ⟨S2x4096x1024, .f32⟩
  | _, _ => ⟨S16384x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_37 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_36 : BitVec 32 := 8#32
  let v53 : BitVec 32 := Scalar.muli v37 c8_i32_36
  let v54 : BitVec 32 := Scalar.addi c0_i32_37 v53
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_38 : BitVec 32 := 4#32
  let v55 : BitVec 32 := Scalar.muli v41 c4_i32_38
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v57 : BitVec 32 := Scalar.muli v8 c1_i32_39
  let v58 : BitVec 32 := Scalar.addi v56 v57
  v58.toNat
def k0_dev2 (d0 : Dev nD) : Nat :=
  let c0_i32_42 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_41 : BitVec 32 := 8#32
  let v59 : BitVec 32 := Scalar.muli v43 c8_i32_41
  let v60 : BitVec 32 := Scalar.addi c0_i32_42 v59
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_43 : BitVec 32 := 4#32
  let v61 : BitVec 32 := Scalar.muli v47 c4_i32_43
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v63 : BitVec 32 := Scalar.muli v8 c1_i32_44
  let v64 : BitVec 32 := Scalar.addi v62 v63
  v64.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_45 : BitVec 32 := 3#32
  let v65 : BitVec 1 := Scalar.cmpi .slt v8 c3_i32_45
  let v66 : BitVec 32 := Scalar.extui v65
  let c0_i32_46 : BitVec 32 := 0#32
  let v67 : BitVec 1 := Scalar.cmpi .ne v66 c0_i32_46
  v67

def k0_dev3 (d0 : Dev nD) : Nat :=
  let c0_i32_284 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_283 : BitVec 32 := 8#32
  let v333 : BitVec 32 := Scalar.muli v2 c8_i32_283
  let v334 : BitVec 32 := Scalar.addi c0_i32_284 v333
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v335 : BitVec 32 := Scalar.muli v5 c4_i32_285
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v48 : BitVec 32 := Scalar.addi v8 c1_i32_31
  let c3_i32_32 : BitVec 32 := 3#32
  let v49 : BitVec 32 := Scalar.minsi v48 c3_i32_32
  let c1_i32_286 : BitVec 32 := 1#32
  let v337 : BitVec 32 := Scalar.muli v49 c1_i32_286
  let v338 : BitVec 32 := Scalar.addi v336 v337
  v338.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_47 : BitVec 32 := 0#32
  let v68 : BitVec 1 := Scalar.cmpi .sgt v8 c0_i32_47
  let v69 : BitVec 32 := Scalar.extui v68
  let c0_i32_48 : BitVec 32 := 0#32
  let v70 : BitVec 1 := Scalar.cmpi .ne v69 c0_i32_48
  v70

def k0_dev4 (d0 : Dev nD) : Nat :=
  let c0_i32_284 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_283 : BitVec 32 := 8#32
  let v333 : BitVec 32 := Scalar.muli v2 c8_i32_283
  let v334 : BitVec 32 := Scalar.addi c0_i32_284 v333
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v335 : BitVec 32 := Scalar.muli v5 c4_i32_285
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v50 : BitVec 32 := Scalar.subi v8 c1_i32_33
  let c0_i32_34 : BitVec 32 := 0#32
  let v51 : BitVec 32 := Scalar.maxsi v50 c0_i32_34
  let c1_i32_286 : BitVec 32 := 1#32
  let v337 : BitVec 32 := Scalar.muli v51 c1_i32_286
  let v338 : BitVec 32 := Scalar.addi v336 v337
  v338.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_54 : BitVec 32 := 3#32
  let v77 : BitVec 1 := Scalar.cmpi .slt v8 c3_i32_54
  let v78 : BitVec 32 := Scalar.extui v77
  let c0_i32_55 : BitVec 32 := 0#32
  let v79 : BitVec 1 := Scalar.cmpi .ne v78 c0_i32_55
  v79

def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_283 : BitVec 32 := 16384#32
  let v334 : BitVec 32 := Scalar.muli v8 c16384_i32_283
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_284 : BitVec 32 := 4096#32
  let v335 : BitVec 32 := Scalar.muli v13 c4096_i32_284
  let v336 : BitVec 32 := Scalar.addi v334 v335
  let c0_i32_291 : BitVec 32 := 0#32
  ![v336.toNat, 0]
def k0_off2 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_282 : BitVec 32 := 4096#32
  let v333 : BitVec 32 := Scalar.muli v13 c4096_i32_282
  let c0_i32_292 : BitVec 32 := 0#32
  ![v333.toNat, 0]
def k0_dev5 (d0 : Dev nD) : Nat :=
  let c0_i32_288 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_287 : BitVec 32 := 8#32
  let v337 : BitVec 32 := Scalar.muli v2 c8_i32_287
  let v338 : BitVec 32 := Scalar.addi c0_i32_288 v337
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_289 : BitVec 32 := 4#32
  let v339 : BitVec 32 := Scalar.muli v5 c4_i32_289
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v48 : BitVec 32 := Scalar.addi v8 c1_i32_31
  let c3_i32_32 : BitVec 32 := 3#32
  let v49 : BitVec 32 := Scalar.minsi v48 c3_i32_32
  let c1_i32_290 : BitVec 32 := 1#32
  let v341 : BitVec 32 := Scalar.muli v49 c1_i32_290
  let v342 : BitVec 32 := Scalar.addi v340 v341
  v342.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_56 : BitVec 32 := 0#32
  let v80 : BitVec 1 := Scalar.cmpi .sgt v8 c0_i32_56
  let v81 : BitVec 32 := Scalar.extui v80
  let c0_i32_57 : BitVec 32 := 0#32
  let v82 : BitVec 1 := Scalar.cmpi .ne v81 c0_i32_57
  v82

def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_283 : BitVec 32 := 16384#32
  let v334 : BitVec 32 := Scalar.muli v8 c16384_i32_283
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_284 : BitVec 32 := 4096#32
  let v335 : BitVec 32 := Scalar.muli v13 c4096_i32_284
  let v336 : BitVec 32 := Scalar.addi v334 v335
  let c0_i32_291 : BitVec 32 := 0#32
  ![v336.toNat, 0]
def k0_off4 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_282 : BitVec 32 := 4096#32
  let v333 : BitVec 32 := Scalar.muli v13 c4096_i32_282
  let c0_i32_292 : BitVec 32 := 0#32
  ![v333.toNat, 0]
def k0_dev6 (d0 : Dev nD) : Nat :=
  let c0_i32_288 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_287 : BitVec 32 := 8#32
  let v337 : BitVec 32 := Scalar.muli v2 c8_i32_287
  let v338 : BitVec 32 := Scalar.addi c0_i32_288 v337
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_289 : BitVec 32 := 4#32
  let v339 : BitVec 32 := Scalar.muli v5 c4_i32_289
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v50 : BitVec 32 := Scalar.subi v8 c1_i32_33
  let c0_i32_34 : BitVec 32 := 0#32
  let v51 : BitVec 32 := Scalar.maxsi v50 c0_i32_34
  let c1_i32_290 : BitVec 32 := 1#32
  let v341 : BitVec 32 := Scalar.muli v51 c1_i32_290
  let v342 : BitVec 32 := Scalar.addi v340 v341
  v342.toNat
def k0_off5 (d0 : Dev nD) (c0_i32_70 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v93 : BitVec 32 := Scalar.muli v8 c16384_i32
  let v94 : BitVec 32 := Scalar.addi v93 c0_i32_70
  let c0_i32_73 : BitVec 32 := 0#32
  ![v94.toNat, 0]
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v173 : BitVec 32 := Scalar.subi v8 c1_i32_152
  let c0_i32_153 : BitVec 32 := 0#32
  let v174 : BitVec 32 := Scalar.subi v173 c0_i32_153
  let c0_i32_154 : BitVec 32 := 0#32
  let v175 : BitVec 1 := Scalar.cmpi .sge v174 c0_i32_154
  let v181 : BitVec 32 := Scalar.extui v175
  let c0_i32_160 : BitVec 32 := 0#32
  let v182 : BitVec 1 := Scalar.cmpi .ne v181 c0_i32_160
  v182

def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v171 : BitVec 32 := Scalar.subi v8 c1_i32_150
  let c0_i32_151 : BitVec 32 := 0#32
  let v172 : BitVec 32 := Scalar.subi v171 c0_i32_151
  let c16384_i32_282 : BitVec 32 := 16384#32
  let v333 : BitVec 32 := Scalar.muli v172 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_283 : BitVec 32 := 4096#32
  let v334 : BitVec 32 := Scalar.muli v13 c4096_i32_283
  let v335 : BitVec 32 := Scalar.addi v333 v334
  let c0_i32_290 : BitVec 32 := 0#32
  ![v335.toNat, 0]
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_292 : BitVec 32 := 3#32
  let v346 : BitVec 1 := Scalar.cmpi .slt v8 c3_i32_292
  let v347 : BitVec 32 := Scalar.extui v346
  let c0_i32_293 : BitVec 32 := 0#32
  let v348 : BitVec 1 := Scalar.cmpi .ne v347 c0_i32_293
  v348

def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v171 : BitVec 32 := Scalar.subi v8 c1_i32_150
  let c0_i32_151 : BitVec 32 := 0#32
  let v172 : BitVec 32 := Scalar.subi v171 c0_i32_151
  let c16384_i32_282 : BitVec 32 := 16384#32
  let v333 : BitVec 32 := Scalar.muli v172 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_283 : BitVec 32 := 4096#32
  let v334 : BitVec 32 := Scalar.muli v13 c4096_i32_283
  let v335 : BitVec 32 := Scalar.addi v333 v334
  let c0_i32_316 : BitVec 32 := 0#32
  ![v335.toNat, 0]
def k0_dev7 (d0 : Dev nD) : Nat :=
  let c0_i32_313 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_312 : BitVec 32 := 8#32
  let v373 : BitVec 32 := Scalar.muli v2 c8_i32_312
  let v374 : BitVec 32 := Scalar.addi c0_i32_313 v373
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v375 : BitVec 32 := Scalar.muli v5 c4_i32_314
  let v376 : BitVec 32 := Scalar.addi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v48 : BitVec 32 := Scalar.addi v8 c1_i32_31
  let c3_i32_32 : BitVec 32 := 3#32
  let v49 : BitVec 32 := Scalar.minsi v48 c3_i32_32
  let c1_i32_315 : BitVec 32 := 1#32
  let v377 : BitVec 32 := Scalar.muli v49 c1_i32_315
  let v378 : BitVec 32 := Scalar.addi v376 v377
  v378.toNat
def k0_dev8 (d0 : Dev nD) : Nat :=
  let c0_i32_297 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_296 : BitVec 32 := 8#32
  let v349 : BitVec 32 := Scalar.muli v37 c8_i32_296
  let v350 : BitVec 32 := Scalar.addi c0_i32_297 v349
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_298 : BitVec 32 := 4#32
  let v351 : BitVec 32 := Scalar.muli v41 c4_i32_298
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v353 : BitVec 32 := Scalar.muli v8 c1_i32_299
  let v354 : BitVec 32 := Scalar.addi v352 v353
  v354.toNat
def k0_dev9 (d0 : Dev nD) : Nat :=
  let c0_i32_305 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_304 : BitVec 32 := 8#32
  let v361 : BitVec 32 := Scalar.muli v43 c8_i32_304
  let v362 : BitVec 32 := Scalar.addi c0_i32_305 v361
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_306 : BitVec 32 := 4#32
  let v363 : BitVec 32 := Scalar.muli v47 c4_i32_306
  let v364 : BitVec 32 := Scalar.addi v362 v363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_307 : BitVec 32 := 1#32
  let v365 : BitVec 32 := Scalar.muli v8 c1_i32_307
  let v366 : BitVec 32 := Scalar.addi v364 v365
  v366.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_157 : BitVec 32 := 1#32
  let v178 : BitVec 32 := Scalar.addi v8 c1_i32_157
  let c0_i32_158 : BitVec 32 := 0#32
  let v179 : BitVec 32 := Scalar.addi v178 c0_i32_158
  let c3_i32_159 : BitVec 32 := 3#32
  let v180 : BitVec 1 := Scalar.cmpi .sle v179 c3_i32_159
  let v183 : BitVec 32 := Scalar.extui v180
  let c0_i32_161 : BitVec 32 := 0#32
  let v184 : BitVec 1 := Scalar.cmpi .ne v183 c0_i32_161
  v184

def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v176 : BitVec 32 := Scalar.addi v8 c1_i32_155
  let c0_i32_156 : BitVec 32 := 0#32
  let v177 : BitVec 32 := Scalar.addi v176 c0_i32_156
  let c16384_i32_282 : BitVec 32 := 16384#32
  let v333 : BitVec 32 := Scalar.muli v177 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_283 : BitVec 32 := 4096#32
  let v334 : BitVec 32 := Scalar.muli v13 c4096_i32_283
  let v335 : BitVec 32 := Scalar.addi v333 v334
  let c0_i32_290 : BitVec 32 := 0#32
  ![v335.toNat, 0]
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_292 : BitVec 32 := 0#32
  let v346 : BitVec 1 := Scalar.cmpi .sgt v8 c0_i32_292
  let v347 : BitVec 32 := Scalar.extui v346
  let c0_i32_293 : BitVec 32 := 0#32
  let v348 : BitVec 1 := Scalar.cmpi .ne v347 c0_i32_293
  v348

def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v176 : BitVec 32 := Scalar.addi v8 c1_i32_155
  let c0_i32_156 : BitVec 32 := 0#32
  let v177 : BitVec 32 := Scalar.addi v176 c0_i32_156
  let c16384_i32_282 : BitVec 32 := 16384#32
  let v333 : BitVec 32 := Scalar.muli v177 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_283 : BitVec 32 := 4096#32
  let v334 : BitVec 32 := Scalar.muli v13 c4096_i32_283
  let v335 : BitVec 32 := Scalar.addi v333 v334
  let c0_i32_316 : BitVec 32 := 0#32
  ![v335.toNat, 0]
def k0_dev10 (d0 : Dev nD) : Nat :=
  let c0_i32_313 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_312 : BitVec 32 := 8#32
  let v373 : BitVec 32 := Scalar.muli v2 c8_i32_312
  let v374 : BitVec 32 := Scalar.addi c0_i32_313 v373
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v375 : BitVec 32 := Scalar.muli v5 c4_i32_314
  let v376 : BitVec 32 := Scalar.addi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v50 : BitVec 32 := Scalar.subi v8 c1_i32_33
  let c0_i32_34 : BitVec 32 := 0#32
  let v51 : BitVec 32 := Scalar.maxsi v50 c0_i32_34
  let c1_i32_315 : BitVec 32 := 1#32
  let v377 : BitVec 32 := Scalar.muli v51 c1_i32_315
  let v378 : BitVec 32 := Scalar.addi v376 v377
  v378.toNat
def k0_dev11 (d0 : Dev nD) : Nat :=
  let c0_i32_297 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_296 : BitVec 32 := 8#32
  let v349 : BitVec 32 := Scalar.muli v37 c8_i32_296
  let v350 : BitVec 32 := Scalar.addi c0_i32_297 v349
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_298 : BitVec 32 := 4#32
  let v351 : BitVec 32 := Scalar.muli v41 c4_i32_298
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v353 : BitVec 32 := Scalar.muli v8 c1_i32_299
  let v354 : BitVec 32 := Scalar.addi v352 v353
  v354.toNat
def k0_dev12 (d0 : Dev nD) : Nat :=
  let c0_i32_305 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_304 : BitVec 32 := 8#32
  let v361 : BitVec 32 := Scalar.muli v43 c8_i32_304
  let v362 : BitVec 32 := Scalar.addi c0_i32_305 v361
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_306 : BitVec 32 := 4#32
  let v363 : BitVec 32 := Scalar.muli v47 c4_i32_306
  let v364 : BitVec 32 := Scalar.addi v362 v363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_307 : BitVec 32 := 1#32
  let v365 : BitVec 32 := Scalar.muli v8 c1_i32_307
  let v366 : BitVec 32 := Scalar.addi v364 v365
  v366.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v187 : BitVec 32 := Scalar.subi v8 c1_i32_164
  let c1_i32_165 : BitVec 32 := 1#32
  let v188 : BitVec 32 := Scalar.subi v187 c1_i32_165
  let c0_i32_166 : BitVec 32 := 0#32
  let v189 : BitVec 1 := Scalar.cmpi .sge v188 c0_i32_166
  let v195 : BitVec 32 := Scalar.extui v189
  let c0_i32_172 : BitVec 32 := 0#32
  let v196 : BitVec 1 := Scalar.cmpi .ne v195 c0_i32_172
  v196

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v185 : BitVec 32 := Scalar.subi v8 c1_i32_162
  let c1_i32_163 : BitVec 32 := 1#32
  let v186 : BitVec 32 := Scalar.subi v185 c1_i32_163
  let c16384_i32_282 : BitVec 32 := 16384#32
  let v333 : BitVec 32 := Scalar.muli v186 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_283 : BitVec 32 := 4096#32
  let v334 : BitVec 32 := Scalar.muli v13 c4096_i32_283
  let v335 : BitVec 32 := Scalar.addi v333 v334
  let c0_i32_290 : BitVec 32 := 0#32
  ![v335.toNat, 0]
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_292 : BitVec 32 := 3#32
  let v346 : BitVec 1 := Scalar.cmpi .slt v8 c3_i32_292
  let v347 : BitVec 32 := Scalar.extui v346
  let c0_i32_293 : BitVec 32 := 0#32
  let v348 : BitVec 1 := Scalar.cmpi .ne v347 c0_i32_293
  v348

def k0_off11 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v185 : BitVec 32 := Scalar.subi v8 c1_i32_162
  let c1_i32_163 : BitVec 32 := 1#32
  let v186 : BitVec 32 := Scalar.subi v185 c1_i32_163
  let c16384_i32_282 : BitVec 32 := 16384#32
  let v333 : BitVec 32 := Scalar.muli v186 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_283 : BitVec 32 := 4096#32
  let v334 : BitVec 32 := Scalar.muli v13 c4096_i32_283
  let v335 : BitVec 32 := Scalar.addi v333 v334
  let c0_i32_316 : BitVec 32 := 0#32
  ![v335.toNat, 0]
def k0_dev13 (d0 : Dev nD) : Nat :=
  let c0_i32_313 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_312 : BitVec 32 := 8#32
  let v373 : BitVec 32 := Scalar.muli v2 c8_i32_312
  let v374 : BitVec 32 := Scalar.addi c0_i32_313 v373
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v375 : BitVec 32 := Scalar.muli v5 c4_i32_314
  let v376 : BitVec 32 := Scalar.addi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v48 : BitVec 32 := Scalar.addi v8 c1_i32_31
  let c3_i32_32 : BitVec 32 := 3#32
  let v49 : BitVec 32 := Scalar.minsi v48 c3_i32_32
  let c1_i32_315 : BitVec 32 := 1#32
  let v377 : BitVec 32 := Scalar.muli v49 c1_i32_315
  let v378 : BitVec 32 := Scalar.addi v376 v377
  v378.toNat
def k0_dev14 (d0 : Dev nD) : Nat :=
  let c0_i32_297 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_296 : BitVec 32 := 8#32
  let v349 : BitVec 32 := Scalar.muli v37 c8_i32_296
  let v350 : BitVec 32 := Scalar.addi c0_i32_297 v349
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_298 : BitVec 32 := 4#32
  let v351 : BitVec 32 := Scalar.muli v41 c4_i32_298
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v353 : BitVec 32 := Scalar.muli v8 c1_i32_299
  let v354 : BitVec 32 := Scalar.addi v352 v353
  v354.toNat
def k0_dev15 (d0 : Dev nD) : Nat :=
  let c0_i32_305 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_304 : BitVec 32 := 8#32
  let v361 : BitVec 32 := Scalar.muli v43 c8_i32_304
  let v362 : BitVec 32 := Scalar.addi c0_i32_305 v361
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_306 : BitVec 32 := 4#32
  let v363 : BitVec 32 := Scalar.muli v47 c4_i32_306
  let v364 : BitVec 32 := Scalar.addi v362 v363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_307 : BitVec 32 := 1#32
  let v365 : BitVec 32 := Scalar.muli v8 c1_i32_307
  let v366 : BitVec 32 := Scalar.addi v364 v365
  v366.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_169 : BitVec 32 := 1#32
  let v192 : BitVec 32 := Scalar.addi v8 c1_i32_169
  let c1_i32_170 : BitVec 32 := 1#32
  let v193 : BitVec 32 := Scalar.addi v192 c1_i32_170
  let c3_i32_171 : BitVec 32 := 3#32
  let v194 : BitVec 1 := Scalar.cmpi .sle v193 c3_i32_171
  let v197 : BitVec 32 := Scalar.extui v194
  let c0_i32_173 : BitVec 32 := 0#32
  let v198 : BitVec 1 := Scalar.cmpi .ne v197 c0_i32_173
  v198

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v190 : BitVec 32 := Scalar.addi v8 c1_i32_167
  let c1_i32_168 : BitVec 32 := 1#32
  let v191 : BitVec 32 := Scalar.addi v190 c1_i32_168
  let c16384_i32_282 : BitVec 32 := 16384#32
  let v333 : BitVec 32 := Scalar.muli v191 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_283 : BitVec 32 := 4096#32
  let v334 : BitVec 32 := Scalar.muli v13 c4096_i32_283
  let v335 : BitVec 32 := Scalar.addi v333 v334
  let c0_i32_290 : BitVec 32 := 0#32
  ![v335.toNat, 0]
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_292 : BitVec 32 := 0#32
  let v346 : BitVec 1 := Scalar.cmpi .sgt v8 c0_i32_292
  let v347 : BitVec 32 := Scalar.extui v346
  let c0_i32_293 : BitVec 32 := 0#32
  let v348 : BitVec 1 := Scalar.cmpi .ne v347 c0_i32_293
  v348

def k0_off13 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v190 : BitVec 32 := Scalar.addi v8 c1_i32_167
  let c1_i32_168 : BitVec 32 := 1#32
  let v191 : BitVec 32 := Scalar.addi v190 c1_i32_168
  let c16384_i32_282 : BitVec 32 := 16384#32
  let v333 : BitVec 32 := Scalar.muli v191 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_283 : BitVec 32 := 4096#32
  let v334 : BitVec 32 := Scalar.muli v13 c4096_i32_283
  let v335 : BitVec 32 := Scalar.addi v333 v334
  let c0_i32_316 : BitVec 32 := 0#32
  ![v335.toNat, 0]
def k0_dev16 (d0 : Dev nD) : Nat :=
  let c0_i32_313 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_312 : BitVec 32 := 8#32
  let v373 : BitVec 32 := Scalar.muli v2 c8_i32_312
  let v374 : BitVec 32 := Scalar.addi c0_i32_313 v373
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v375 : BitVec 32 := Scalar.muli v5 c4_i32_314
  let v376 : BitVec 32 := Scalar.addi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v50 : BitVec 32 := Scalar.subi v8 c1_i32_33
  let c0_i32_34 : BitVec 32 := 0#32
  let v51 : BitVec 32 := Scalar.maxsi v50 c0_i32_34
  let c1_i32_315 : BitVec 32 := 1#32
  let v377 : BitVec 32 := Scalar.muli v51 c1_i32_315
  let v378 : BitVec 32 := Scalar.addi v376 v377
  v378.toNat
def k0_dev17 (d0 : Dev nD) : Nat :=
  let c0_i32_297 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_296 : BitVec 32 := 8#32
  let v349 : BitVec 32 := Scalar.muli v37 c8_i32_296
  let v350 : BitVec 32 := Scalar.addi c0_i32_297 v349
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_298 : BitVec 32 := 4#32
  let v351 : BitVec 32 := Scalar.muli v41 c4_i32_298
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v353 : BitVec 32 := Scalar.muli v8 c1_i32_299
  let v354 : BitVec 32 := Scalar.addi v352 v353
  v354.toNat
def k0_dev18 (d0 : Dev nD) : Nat :=
  let c0_i32_305 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_304 : BitVec 32 := 8#32
  let v361 : BitVec 32 := Scalar.muli v43 c8_i32_304
  let v362 : BitVec 32 := Scalar.addi c0_i32_305 v361
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_306 : BitVec 32 := 4#32
  let v363 : BitVec 32 := Scalar.muli v47 c4_i32_306
  let v364 : BitVec 32 := Scalar.addi v362 v363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_307 : BitVec 32 := 1#32
  let v365 : BitVec 32 := Scalar.muli v8 c1_i32_307
  let v366 : BitVec 32 := Scalar.addi v364 v365
  v366.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v201 : BitVec 32 := Scalar.subi v8 c1_i32_176
  let c2_i32_177 : BitVec 32 := 2#32
  let v202 : BitVec 32 := Scalar.subi v201 c2_i32_177
  let c0_i32_178 : BitVec 32 := 0#32
  let v203 : BitVec 1 := Scalar.cmpi .sge v202 c0_i32_178
  let v209 : BitVec 32 := Scalar.extui v203
  let c0_i32_184 : BitVec 32 := 0#32
  let v210 : BitVec 1 := Scalar.cmpi .ne v209 c0_i32_184
  v210

def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v199 : BitVec 32 := Scalar.subi v8 c1_i32_174
  let c2_i32_175 : BitVec 32 := 2#32
  let v200 : BitVec 32 := Scalar.subi v199 c2_i32_175
  let c16384_i32_282 : BitVec 32 := 16384#32
  let v333 : BitVec 32 := Scalar.muli v200 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_283 : BitVec 32 := 4096#32
  let v334 : BitVec 32 := Scalar.muli v13 c4096_i32_283
  let v335 : BitVec 32 := Scalar.addi v333 v334
  let c0_i32_290 : BitVec 32 := 0#32
  ![v335.toNat, 0]
def k0_dev19 (d0 : Dev nD) : Nat :=
  let c0_i32_295 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_294 : BitVec 32 := 8#32
  let v346 : BitVec 32 := Scalar.muli v37 c8_i32_294
  let v347 : BitVec 32 := Scalar.addi c0_i32_295 v346
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_296 : BitVec 32 := 4#32
  let v348 : BitVec 32 := Scalar.muli v41 c4_i32_296
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v350 : BitVec 32 := Scalar.muli v8 c1_i32_297
  let v351 : BitVec 32 := Scalar.addi v349 v350
  v351.toNat
def k0_dev20 (d0 : Dev nD) : Nat :=
  let c0_i32_303 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_302 : BitVec 32 := 8#32
  let v358 : BitVec 32 := Scalar.muli v43 c8_i32_302
  let v359 : BitVec 32 := Scalar.addi c0_i32_303 v358
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_304 : BitVec 32 := 4#32
  let v360 : BitVec 32 := Scalar.muli v47 c4_i32_304
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v362 : BitVec 32 := Scalar.muli v8 c1_i32_305
  let v363 : BitVec 32 := Scalar.addi v361 v362
  v363.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v206 : BitVec 32 := Scalar.addi v8 c1_i32_181
  let c2_i32_182 : BitVec 32 := 2#32
  let v207 : BitVec 32 := Scalar.addi v206 c2_i32_182
  let c3_i32_183 : BitVec 32 := 3#32
  let v208 : BitVec 1 := Scalar.cmpi .sle v207 c3_i32_183
  let v211 : BitVec 32 := Scalar.extui v208
  let c0_i32_185 : BitVec 32 := 0#32
  let v212 : BitVec 1 := Scalar.cmpi .ne v211 c0_i32_185
  v212

def k0_off15 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v204 : BitVec 32 := Scalar.addi v8 c1_i32_179
  let c2_i32_180 : BitVec 32 := 2#32
  let v205 : BitVec 32 := Scalar.addi v204 c2_i32_180
  let c16384_i32_282 : BitVec 32 := 16384#32
  let v333 : BitVec 32 := Scalar.muli v205 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_283 : BitVec 32 := 4096#32
  let v334 : BitVec 32 := Scalar.muli v13 c4096_i32_283
  let v335 : BitVec 32 := Scalar.addi v333 v334
  let c0_i32_290 : BitVec 32 := 0#32
  ![v335.toNat, 0]
def k0_dev21 (d0 : Dev nD) : Nat :=
  let c0_i32_294 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_293 : BitVec 32 := 8#32
  let v346 : BitVec 32 := Scalar.muli v37 c8_i32_293
  let v347 : BitVec 32 := Scalar.addi c0_i32_294 v346
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_295 : BitVec 32 := 4#32
  let v348 : BitVec 32 := Scalar.muli v41 c4_i32_295
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_296 : BitVec 32 := 1#32
  let v350 : BitVec 32 := Scalar.muli v8 c1_i32_296
  let v351 : BitVec 32 := Scalar.addi v349 v350
  v351.toNat
def k0_dev22 (d0 : Dev nD) : Nat :=
  let c0_i32_302 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_301 : BitVec 32 := 8#32
  let v358 : BitVec 32 := Scalar.muli v43 c8_i32_301
  let v359 : BitVec 32 := Scalar.addi c0_i32_302 v358
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_303 : BitVec 32 := 4#32
  let v360 : BitVec 32 := Scalar.muli v47 c4_i32_303
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v362 : BitVec 32 := Scalar.muli v8 c1_i32_304
  let v363 : BitVec 32 := Scalar.addi v361 v362
  v363.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v215 : BitVec 32 := Scalar.subi v8 c1_i32_188
  let c0_i32_189 : BitVec 32 := 0#32
  let v216 : BitVec 32 := Scalar.subi v215 c0_i32_189
  let c0_i32_190 : BitVec 32 := 0#32
  let v217 : BitVec 1 := Scalar.cmpi .sge v216 c0_i32_190
  let v223 : BitVec 32 := Scalar.extui v217
  let c0_i32_196 : BitVec 32 := 0#32
  let v224 : BitVec 1 := Scalar.cmpi .ne v223 c0_i32_196
  v224

def k0_off16 (d0 : Dev nD) (c3_i32 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v213 : BitVec 32 := Scalar.subi v8 c1_i32_186
  let c0_i32_187 : BitVec 32 := 0#32
  let v214 : BitVec 32 := Scalar.subi v213 c0_i32_187
  let c16384_i32_282 : BitVec 32 := 16384#32
  let v333 : BitVec 32 := Scalar.muli v214 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_283 : BitVec 32 := 4096#32
  let v334 : BitVec 32 := Scalar.muli v35 c4096_i32_283
  let v335 : BitVec 32 := Scalar.addi v333 v334
  let c0_i32_290 : BitVec 32 := 0#32
  ![v335.toNat, 0]
def k0_off17 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v213 : BitVec 32 := Scalar.subi v8 c1_i32_186
  let c0_i32_187 : BitVec 32 := 0#32
  let v214 : BitVec 32 := Scalar.subi v213 c0_i32_187
  let c16384_i32_292 : BitVec 32 := 16384#32
  let v346 : BitVec 32 := Scalar.muli v214 c16384_i32_292
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_293 : BitVec 32 := 4096#32
  let v347 : BitVec 32 := Scalar.muli v35 c4096_i32_293
  let v348 : BitVec 32 := Scalar.addi v346 v347
  let c0_i32_300 : BitVec 32 := 0#32
  ![v348.toNat, 0]
def k0_dev23 (d0 : Dev nD) : Nat :=
  let c0_i32_297 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_296 : BitVec 32 := 8#32
  let v349 : BitVec 32 := Scalar.muli v37 c8_i32_296
  let v350 : BitVec 32 := Scalar.addi c0_i32_297 v349
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_298 : BitVec 32 := 4#32
  let v351 : BitVec 32 := Scalar.muli v41 c4_i32_298
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v353 : BitVec 32 := Scalar.muli v8 c1_i32_299
  let v354 : BitVec 32 := Scalar.addi v352 v353
  v354.toNat
def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v213 : BitVec 32 := Scalar.subi v8 c1_i32_186
  let c0_i32_187 : BitVec 32 := 0#32
  let v214 : BitVec 32 := Scalar.subi v213 c0_i32_187
  let c16384_i32_312 : BitVec 32 := 16384#32
  let v374 : BitVec 32 := Scalar.muli v214 c16384_i32_312
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c4096_i32_313 : BitVec 32 := 4096#32
  let v375 : BitVec 32 := Scalar.muli v24 c4096_i32_313
  let v376 : BitVec 32 := Scalar.addi v374 v375
  let c2048_i32 : BitVec 32 := 2048#32
  let v377 : BitVec 32 := Scalar.addi v376 c2048_i32
  let c0_i32_320 : BitVec 32 := 0#32
  ![v377.toNat, 0]
def k0_dev24 (d0 : Dev nD) : Nat :=
  let c0_i32_317 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_316 : BitVec 32 := 8#32
  let v378 : BitVec 32 := Scalar.muli v43 c8_i32_316
  let v379 : BitVec 32 := Scalar.addi c0_i32_317 v378
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_318 : BitVec 32 := 4#32
  let v380 : BitVec 32 := Scalar.muli v47 c4_i32_318
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v382 : BitVec 32 := Scalar.muli v8 c1_i32_319
  let v383 : BitVec 32 := Scalar.addi v381 v382
  v383.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v220 : BitVec 32 := Scalar.addi v8 c1_i32_193
  let c0_i32_194 : BitVec 32 := 0#32
  let v221 : BitVec 32 := Scalar.addi v220 c0_i32_194
  let c3_i32_195 : BitVec 32 := 3#32
  let v222 : BitVec 1 := Scalar.cmpi .sle v221 c3_i32_195
  let v225 : BitVec 32 := Scalar.extui v222
  let c0_i32_197 : BitVec 32 := 0#32
  let v226 : BitVec 1 := Scalar.cmpi .ne v225 c0_i32_197
  v226

def k0_off19 (d0 : Dev nD) (c3_i32 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v218 : BitVec 32 := Scalar.addi v8 c1_i32_191
  let c0_i32_192 : BitVec 32 := 0#32
  let v219 : BitVec 32 := Scalar.addi v218 c0_i32_192
  let c16384_i32_282 : BitVec 32 := 16384#32
  let v333 : BitVec 32 := Scalar.muli v219 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_283 : BitVec 32 := 4096#32
  let v334 : BitVec 32 := Scalar.muli v35 c4096_i32_283
  let v335 : BitVec 32 := Scalar.addi v333 v334
  let c0_i32_290 : BitVec 32 := 0#32
  ![v335.toNat, 0]
def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v218 : BitVec 32 := Scalar.addi v8 c1_i32_191
  let c0_i32_192 : BitVec 32 := 0#32
  let v219 : BitVec 32 := Scalar.addi v218 c0_i32_192
  let c16384_i32_292 : BitVec 32 := 16384#32
  let v346 : BitVec 32 := Scalar.muli v219 c16384_i32_292
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_293 : BitVec 32 := 4096#32
  let v347 : BitVec 32 := Scalar.muli v35 c4096_i32_293
  let v348 : BitVec 32 := Scalar.addi v346 v347
  let c0_i32_300 : BitVec 32 := 0#32
  ![v348.toNat, 0]
def k0_dev25 (d0 : Dev nD) : Nat :=
  let c0_i32_297 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_296 : BitVec 32 := 8#32
  let v349 : BitVec 32 := Scalar.muli v37 c8_i32_296
  let v350 : BitVec 32 := Scalar.addi c0_i32_297 v349
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_298 : BitVec 32 := 4#32
  let v351 : BitVec 32 := Scalar.muli v41 c4_i32_298
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v353 : BitVec 32 := Scalar.muli v8 c1_i32_299
  let v354 : BitVec 32 := Scalar.addi v352 v353
  v354.toNat
def k0_off21 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v218 : BitVec 32 := Scalar.addi v8 c1_i32_191
  let c0_i32_192 : BitVec 32 := 0#32
  let v219 : BitVec 32 := Scalar.addi v218 c0_i32_192
  let c16384_i32_312 : BitVec 32 := 16384#32
  let v374 : BitVec 32 := Scalar.muli v219 c16384_i32_312
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c4096_i32_313 : BitVec 32 := 4096#32
  let v375 : BitVec 32 := Scalar.muli v24 c4096_i32_313
  let v376 : BitVec 32 := Scalar.addi v374 v375
  let c2048_i32 : BitVec 32 := 2048#32
  let v377 : BitVec 32 := Scalar.addi v376 c2048_i32
  let c0_i32_320 : BitVec 32 := 0#32
  ![v377.toNat, 0]
def k0_dev26 (d0 : Dev nD) : Nat :=
  let c0_i32_317 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_316 : BitVec 32 := 8#32
  let v378 : BitVec 32 := Scalar.muli v43 c8_i32_316
  let v379 : BitVec 32 := Scalar.addi c0_i32_317 v378
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_318 : BitVec 32 := 4#32
  let v380 : BitVec 32 := Scalar.muli v47 c4_i32_318
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v382 : BitVec 32 := Scalar.muli v8 c1_i32_319
  let v383 : BitVec 32 := Scalar.addi v381 v382
  v383.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v229 : BitVec 32 := Scalar.subi v8 c1_i32_200
  let c1_i32_201 : BitVec 32 := 1#32
  let v230 : BitVec 32 := Scalar.subi v229 c1_i32_201
  let c0_i32_202 : BitVec 32 := 0#32
  let v231 : BitVec 1 := Scalar.cmpi .sge v230 c0_i32_202
  let v237 : BitVec 32 := Scalar.extui v231
  let c0_i32_208 : BitVec 32 := 0#32
  let v238 : BitVec 1 := Scalar.cmpi .ne v237 c0_i32_208
  v238

def k0_off22 (d0 : Dev nD) (c3_i32 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v227 : BitVec 32 := Scalar.subi v8 c1_i32_198
  let c1_i32_199 : BitVec 32 := 1#32
  let v228 : BitVec 32 := Scalar.subi v227 c1_i32_199
  let c16384_i32_282 : BitVec 32 := 16384#32
  let v333 : BitVec 32 := Scalar.muli v228 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_283 : BitVec 32 := 4096#32
  let v334 : BitVec 32 := Scalar.muli v35 c4096_i32_283
  let v335 : BitVec 32 := Scalar.addi v333 v334
  let c0_i32_290 : BitVec 32 := 0#32
  ![v335.toNat, 0]
def k0_off23 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v227 : BitVec 32 := Scalar.subi v8 c1_i32_198
  let c1_i32_199 : BitVec 32 := 1#32
  let v228 : BitVec 32 := Scalar.subi v227 c1_i32_199
  let c16384_i32_292 : BitVec 32 := 16384#32
  let v346 : BitVec 32 := Scalar.muli v228 c16384_i32_292
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_293 : BitVec 32 := 4096#32
  let v347 : BitVec 32 := Scalar.muli v35 c4096_i32_293
  let v348 : BitVec 32 := Scalar.addi v346 v347
  let c0_i32_300 : BitVec 32 := 0#32
  ![v348.toNat, 0]
def k0_dev27 (d0 : Dev nD) : Nat :=
  let c0_i32_297 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_296 : BitVec 32 := 8#32
  let v349 : BitVec 32 := Scalar.muli v37 c8_i32_296
  let v350 : BitVec 32 := Scalar.addi c0_i32_297 v349
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_298 : BitVec 32 := 4#32
  let v351 : BitVec 32 := Scalar.muli v41 c4_i32_298
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v353 : BitVec 32 := Scalar.muli v8 c1_i32_299
  let v354 : BitVec 32 := Scalar.addi v352 v353
  v354.toNat
def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v227 : BitVec 32 := Scalar.subi v8 c1_i32_198
  let c1_i32_199 : BitVec 32 := 1#32
  let v228 : BitVec 32 := Scalar.subi v227 c1_i32_199
  let c16384_i32_312 : BitVec 32 := 16384#32
  let v374 : BitVec 32 := Scalar.muli v228 c16384_i32_312
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c4096_i32_313 : BitVec 32 := 4096#32
  let v375 : BitVec 32 := Scalar.muli v24 c4096_i32_313
  let v376 : BitVec 32 := Scalar.addi v374 v375
  let c2048_i32 : BitVec 32 := 2048#32
  let v377 : BitVec 32 := Scalar.addi v376 c2048_i32
  let c0_i32_320 : BitVec 32 := 0#32
  ![v377.toNat, 0]
def k0_dev28 (d0 : Dev nD) : Nat :=
  let c0_i32_317 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_316 : BitVec 32 := 8#32
  let v378 : BitVec 32 := Scalar.muli v43 c8_i32_316
  let v379 : BitVec 32 := Scalar.addi c0_i32_317 v378
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_318 : BitVec 32 := 4#32
  let v380 : BitVec 32 := Scalar.muli v47 c4_i32_318
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v382 : BitVec 32 := Scalar.muli v8 c1_i32_319
  let v383 : BitVec 32 := Scalar.addi v381 v382
  v383.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_205 : BitVec 32 := 1#32
  let v234 : BitVec 32 := Scalar.addi v8 c1_i32_205
  let c1_i32_206 : BitVec 32 := 1#32
  let v235 : BitVec 32 := Scalar.addi v234 c1_i32_206
  let c3_i32_207 : BitVec 32 := 3#32
  let v236 : BitVec 1 := Scalar.cmpi .sle v235 c3_i32_207
  let v239 : BitVec 32 := Scalar.extui v236
  let c0_i32_209 : BitVec 32 := 0#32
  let v240 : BitVec 1 := Scalar.cmpi .ne v239 c0_i32_209
  v240

def k0_off25 (d0 : Dev nD) (c3_i32 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v232 : BitVec 32 := Scalar.addi v8 c1_i32_203
  let c1_i32_204 : BitVec 32 := 1#32
  let v233 : BitVec 32 := Scalar.addi v232 c1_i32_204
  let c16384_i32_282 : BitVec 32 := 16384#32
  let v333 : BitVec 32 := Scalar.muli v233 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_283 : BitVec 32 := 4096#32
  let v334 : BitVec 32 := Scalar.muli v35 c4096_i32_283
  let v335 : BitVec 32 := Scalar.addi v333 v334
  let c0_i32_290 : BitVec 32 := 0#32
  ![v335.toNat, 0]
def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v232 : BitVec 32 := Scalar.addi v8 c1_i32_203
  let c1_i32_204 : BitVec 32 := 1#32
  let v233 : BitVec 32 := Scalar.addi v232 c1_i32_204
  let c16384_i32_292 : BitVec 32 := 16384#32
  let v346 : BitVec 32 := Scalar.muli v233 c16384_i32_292
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_293 : BitVec 32 := 4096#32
  let v347 : BitVec 32 := Scalar.muli v35 c4096_i32_293
  let v348 : BitVec 32 := Scalar.addi v346 v347
  let c0_i32_300 : BitVec 32 := 0#32
  ![v348.toNat, 0]
def k0_dev29 (d0 : Dev nD) : Nat :=
  let c0_i32_297 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_296 : BitVec 32 := 8#32
  let v349 : BitVec 32 := Scalar.muli v37 c8_i32_296
  let v350 : BitVec 32 := Scalar.addi c0_i32_297 v349
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_298 : BitVec 32 := 4#32
  let v351 : BitVec 32 := Scalar.muli v41 c4_i32_298
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v353 : BitVec 32 := Scalar.muli v8 c1_i32_299
  let v354 : BitVec 32 := Scalar.addi v352 v353
  v354.toNat
def k0_off27 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v232 : BitVec 32 := Scalar.addi v8 c1_i32_203
  let c1_i32_204 : BitVec 32 := 1#32
  let v233 : BitVec 32 := Scalar.addi v232 c1_i32_204
  let c16384_i32_312 : BitVec 32 := 16384#32
  let v374 : BitVec 32 := Scalar.muli v233 c16384_i32_312
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c4096_i32_313 : BitVec 32 := 4096#32
  let v375 : BitVec 32 := Scalar.muli v24 c4096_i32_313
  let v376 : BitVec 32 := Scalar.addi v374 v375
  let c2048_i32 : BitVec 32 := 2048#32
  let v377 : BitVec 32 := Scalar.addi v376 c2048_i32
  let c0_i32_320 : BitVec 32 := 0#32
  ![v377.toNat, 0]
def k0_dev30 (d0 : Dev nD) : Nat :=
  let c0_i32_317 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_316 : BitVec 32 := 8#32
  let v378 : BitVec 32 := Scalar.muli v43 c8_i32_316
  let v379 : BitVec 32 := Scalar.addi c0_i32_317 v378
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_318 : BitVec 32 := 4#32
  let v380 : BitVec 32 := Scalar.muli v47 c4_i32_318
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v382 : BitVec 32 := Scalar.muli v8 c1_i32_319
  let v383 : BitVec 32 := Scalar.addi v381 v382
  v383.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v243 : BitVec 32 := Scalar.subi v8 c1_i32_212
  let c2_i32_213 : BitVec 32 := 2#32
  let v244 : BitVec 32 := Scalar.subi v243 c2_i32_213
  let c0_i32_214 : BitVec 32 := 0#32
  let v245 : BitVec 1 := Scalar.cmpi .sge v244 c0_i32_214
  let v251 : BitVec 32 := Scalar.extui v245
  let c0_i32_220 : BitVec 32 := 0#32
  let v252 : BitVec 1 := Scalar.cmpi .ne v251 c0_i32_220
  v252

def k0_off28 (d0 : Dev nD) (c3_i32 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v241 : BitVec 32 := Scalar.subi v8 c1_i32_210
  let c2_i32_211 : BitVec 32 := 2#32
  let v242 : BitVec 32 := Scalar.subi v241 c2_i32_211
  let c16384_i32_282 : BitVec 32 := 16384#32
  let v333 : BitVec 32 := Scalar.muli v242 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_283 : BitVec 32 := 4096#32
  let v334 : BitVec 32 := Scalar.muli v35 c4096_i32_283
  let v335 : BitVec 32 := Scalar.addi v333 v334
  let c0_i32_290 : BitVec 32 := 0#32
  ![v335.toNat, 0]
def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v241 : BitVec 32 := Scalar.subi v8 c1_i32_210
  let c2_i32_211 : BitVec 32 := 2#32
  let v242 : BitVec 32 := Scalar.subi v241 c2_i32_211
  let c16384_i32_292 : BitVec 32 := 16384#32
  let v346 : BitVec 32 := Scalar.muli v242 c16384_i32_292
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_293 : BitVec 32 := 4096#32
  let v347 : BitVec 32 := Scalar.muli v35 c4096_i32_293
  let v348 : BitVec 32 := Scalar.addi v346 v347
  let c0_i32_300 : BitVec 32 := 0#32
  ![v348.toNat, 0]
def k0_dev31 (d0 : Dev nD) : Nat :=
  let c0_i32_297 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_296 : BitVec 32 := 8#32
  let v349 : BitVec 32 := Scalar.muli v37 c8_i32_296
  let v350 : BitVec 32 := Scalar.addi c0_i32_297 v349
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_298 : BitVec 32 := 4#32
  let v351 : BitVec 32 := Scalar.muli v41 c4_i32_298
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v353 : BitVec 32 := Scalar.muli v8 c1_i32_299
  let v354 : BitVec 32 := Scalar.addi v352 v353
  v354.toNat
def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v241 : BitVec 32 := Scalar.subi v8 c1_i32_210
  let c2_i32_211 : BitVec 32 := 2#32
  let v242 : BitVec 32 := Scalar.subi v241 c2_i32_211
  let c16384_i32_312 : BitVec 32 := 16384#32
  let v374 : BitVec 32 := Scalar.muli v242 c16384_i32_312
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c4096_i32_313 : BitVec 32 := 4096#32
  let v375 : BitVec 32 := Scalar.muli v24 c4096_i32_313
  let v376 : BitVec 32 := Scalar.addi v374 v375
  let c2048_i32 : BitVec 32 := 2048#32
  let v377 : BitVec 32 := Scalar.addi v376 c2048_i32
  let c0_i32_320 : BitVec 32 := 0#32
  ![v377.toNat, 0]
def k0_dev32 (d0 : Dev nD) : Nat :=
  let c0_i32_317 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_316 : BitVec 32 := 8#32
  let v378 : BitVec 32 := Scalar.muli v43 c8_i32_316
  let v379 : BitVec 32 := Scalar.addi c0_i32_317 v378
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_318 : BitVec 32 := 4#32
  let v380 : BitVec 32 := Scalar.muli v47 c4_i32_318
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v382 : BitVec 32 := Scalar.muli v8 c1_i32_319
  let v383 : BitVec 32 := Scalar.addi v381 v382
  v383.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_217 : BitVec 32 := 1#32
  let v248 : BitVec 32 := Scalar.addi v8 c1_i32_217
  let c2_i32_218 : BitVec 32 := 2#32
  let v249 : BitVec 32 := Scalar.addi v248 c2_i32_218
  let c3_i32_219 : BitVec 32 := 3#32
  let v250 : BitVec 1 := Scalar.cmpi .sle v249 c3_i32_219
  let v253 : BitVec 32 := Scalar.extui v250
  let c0_i32_221 : BitVec 32 := 0#32
  let v254 : BitVec 1 := Scalar.cmpi .ne v253 c0_i32_221
  v254

def k0_off31 (d0 : Dev nD) (c3_i32 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v246 : BitVec 32 := Scalar.addi v8 c1_i32_215
  let c2_i32_216 : BitVec 32 := 2#32
  let v247 : BitVec 32 := Scalar.addi v246 c2_i32_216
  let c16384_i32_282 : BitVec 32 := 16384#32
  let v333 : BitVec 32 := Scalar.muli v247 c16384_i32_282
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_283 : BitVec 32 := 4096#32
  let v334 : BitVec 32 := Scalar.muli v35 c4096_i32_283
  let v335 : BitVec 32 := Scalar.addi v333 v334
  let c0_i32_289 : BitVec 32 := 0#32
  ![v335.toNat, 0]
def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v246 : BitVec 32 := Scalar.addi v8 c1_i32_215
  let c2_i32_216 : BitVec 32 := 2#32
  let v247 : BitVec 32 := Scalar.addi v246 c2_i32_216
  let c16384_i32_291 : BitVec 32 := 16384#32
  let v346 : BitVec 32 := Scalar.muli v247 c16384_i32_291
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4096_i32_292 : BitVec 32 := 4096#32
  let v347 : BitVec 32 := Scalar.muli v35 c4096_i32_292
  let v348 : BitVec 32 := Scalar.addi v346 v347
  let c0_i32_299 : BitVec 32 := 0#32
  ![v348.toNat, 0]
def k0_dev33 (d0 : Dev nD) : Nat :=
  let c0_i32_296 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c2_i32_17 : BitVec 32 := 2#32
  let v36 : BitVec 1 := Scalar.cmpi .sge v24 c2_i32_17
  let c1_i32_18 : BitVec 32 := 1#32
  let c0_i32_19 : BitVec 32 := 0#32
  let v37 : BitVec 32 := Scalar.select v36 c1_i32_18 c0_i32_19
  let c8_i32_295 : BitVec 32 := 8#32
  let v349 : BitVec 32 := Scalar.muli v37 c8_i32_295
  let v350 : BitVec 32 := Scalar.addi c0_i32_296 v349
  let c1_i32_20 : BitVec 32 := 1#32
  let v38 : BitVec 1 := Scalar.cmpi .eq v24 c1_i32_20
  let c2_i32_21 : BitVec 32 := 2#32
  let v39 : BitVec 1 := Scalar.cmpi .eq v24 c2_i32_21
  let v40 : BitVec 1 := Scalar.ori v38 v39
  let c1_i32_22 : BitVec 32 := 1#32
  let c0_i32_23 : BitVec 32 := 0#32
  let v41 : BitVec 32 := Scalar.select v40 c1_i32_22 c0_i32_23
  let c4_i32_297 : BitVec 32 := 4#32
  let v351 : BitVec 32 := Scalar.muli v41 c4_i32_297
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_298 : BitVec 32 := 1#32
  let v353 : BitVec 32 := Scalar.muli v8 c1_i32_298
  let v354 : BitVec 32 := Scalar.addi v352 v353
  v354.toNat
def k0_off33 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v246 : BitVec 32 := Scalar.addi v8 c1_i32_215
  let c2_i32_216 : BitVec 32 := 2#32
  let v247 : BitVec 32 := Scalar.addi v246 c2_i32_216
  let c16384_i32_311 : BitVec 32 := 16384#32
  let v374 : BitVec 32 := Scalar.muli v247 c16384_i32_311
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c1_i32_4 : BitVec 32 := 1#32
  let v14 : BitVec 32 := Scalar.addi v13 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c4096_i32_312 : BitVec 32 := 4096#32
  let v375 : BitVec 32 := Scalar.muli v24 c4096_i32_312
  let v376 : BitVec 32 := Scalar.addi v374 v375
  let c2048_i32 : BitVec 32 := 2048#32
  let v377 : BitVec 32 := Scalar.addi v376 c2048_i32
  let c0_i32_319 : BitVec 32 := 0#32
  ![v377.toNat, 0]
def k0_dev34 (d0 : Dev nD) : Nat :=
  let c0_i32_316 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c3_i32 : BitVec 32 := 3#32
  let v25 : BitVec 32 := Scalar.addi v13 c3_i32
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c2_i32_24 : BitVec 32 := 2#32
  let v42 : BitVec 1 := Scalar.cmpi .sge v35 c2_i32_24
  let c1_i32_25 : BitVec 32 := 1#32
  let c0_i32_26 : BitVec 32 := 0#32
  let v43 : BitVec 32 := Scalar.select v42 c1_i32_25 c0_i32_26
  let c8_i32_315 : BitVec 32 := 8#32
  let v378 : BitVec 32 := Scalar.muli v43 c8_i32_315
  let v379 : BitVec 32 := Scalar.addi c0_i32_316 v378
  let c1_i32_27 : BitVec 32 := 1#32
  let v44 : BitVec 1 := Scalar.cmpi .eq v35 c1_i32_27
  let c2_i32_28 : BitVec 32 := 2#32
  let v45 : BitVec 1 := Scalar.cmpi .eq v35 c2_i32_28
  let v46 : BitVec 1 := Scalar.ori v44 v45
  let c1_i32_29 : BitVec 32 := 1#32
  let c0_i32_30 : BitVec 32 := 0#32
  let v47 : BitVec 32 := Scalar.select v46 c1_i32_29 c0_i32_30
  let c4_i32_317 : BitVec 32 := 4#32
  let v380 : BitVec 32 := Scalar.muli v47 c4_i32_317
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v382 : BitVec 32 := Scalar.muli v8 c1_i32_318
  let v383 : BitVec 32 := Scalar.addi v381 v382
  v383.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v257 : BitVec 32 := Scalar.subi v8 c1_i32_224
  let c0_i32_225 : BitVec 32 := 0#32
  let v258 : BitVec 32 := Scalar.subi v257 c0_i32_225
  let c0_i32_226 : BitVec 32 := 0#32
  let v259 : BitVec 1 := Scalar.cmpi .sge v258 c0_i32_226
  let v265 : BitVec 32 := Scalar.extui v259
  let c0_i32_232 : BitVec 32 := 0#32
  let v266 : BitVec 1 := Scalar.cmpi .ne v265 c0_i32_232
  v266

def k0_off34 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v255 : BitVec 32 := Scalar.subi v8 c1_i32_222
  let c0_i32_223 : BitVec 32 := 0#32
  let v256 : BitVec 32 := Scalar.subi v255 c0_i32_223
  let c16384_i32_289 : BitVec 32 := 16384#32
  let v344 : BitVec 32 := Scalar.muli v256 c16384_i32_289
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_290 : BitVec 32 := 4096#32
  let v345 : BitVec 32 := Scalar.muli v343 c4096_i32_290
  let v346 : BitVec 32 := Scalar.addi v344 v345
  let c0_i32_297 : BitVec 32 := 0#32
  ![v346.toNat, 0]
def k0_off35 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v255 : BitVec 32 := Scalar.subi v8 c1_i32_222
  let c0_i32_223 : BitVec 32 := 0#32
  let v256 : BitVec 32 := Scalar.subi v255 c0_i32_223
  let c16384_i32_299 : BitVec 32 := 16384#32
  let v357 : BitVec 32 := Scalar.muli v256 c16384_i32_299
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_300 : BitVec 32 := 4096#32
  let v358 : BitVec 32 := Scalar.muli v343 c4096_i32_300
  let v359 : BitVec 32 := Scalar.addi v357 v358
  let c2048_i32 : BitVec 32 := 2048#32
  let v360 : BitVec 32 := Scalar.addi v359 c2048_i32
  let c0_i32_307 : BitVec 32 := 0#32
  ![v360.toNat, 0]
def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v255 : BitVec 32 := Scalar.subi v8 c1_i32_222
  let c0_i32_223 : BitVec 32 := 0#32
  let v256 : BitVec 32 := Scalar.subi v255 c0_i32_223
  let c16384_i32_309 : BitVec 32 := 16384#32
  let v371 : BitVec 32 := Scalar.muli v256 c16384_i32_309
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_310 : BitVec 32 := 4096#32
  let v372 : BitVec 32 := Scalar.muli v13 c4096_i32_310
  let v373 : BitVec 32 := Scalar.addi v371 v372
  let c0_i32_314 : BitVec 32 := 0#32
  ![v373.toNat, 0]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v262 : BitVec 32 := Scalar.addi v8 c1_i32_229
  let c0_i32_230 : BitVec 32 := 0#32
  let v263 : BitVec 32 := Scalar.addi v262 c0_i32_230
  let c3_i32_231 : BitVec 32 := 3#32
  let v264 : BitVec 1 := Scalar.cmpi .sle v263 c3_i32_231
  let v267 : BitVec 32 := Scalar.extui v264
  let c0_i32_233 : BitVec 32 := 0#32
  let v268 : BitVec 1 := Scalar.cmpi .ne v267 c0_i32_233
  v268

def k0_off37 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v260 : BitVec 32 := Scalar.addi v8 c1_i32_227
  let c0_i32_228 : BitVec 32 := 0#32
  let v261 : BitVec 32 := Scalar.addi v260 c0_i32_228
  let c16384_i32_289 : BitVec 32 := 16384#32
  let v344 : BitVec 32 := Scalar.muli v261 c16384_i32_289
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_290 : BitVec 32 := 4096#32
  let v345 : BitVec 32 := Scalar.muli v343 c4096_i32_290
  let v346 : BitVec 32 := Scalar.addi v344 v345
  let c0_i32_297 : BitVec 32 := 0#32
  ![v346.toNat, 0]
def k0_off38 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v260 : BitVec 32 := Scalar.addi v8 c1_i32_227
  let c0_i32_228 : BitVec 32 := 0#32
  let v261 : BitVec 32 := Scalar.addi v260 c0_i32_228
  let c16384_i32_299 : BitVec 32 := 16384#32
  let v357 : BitVec 32 := Scalar.muli v261 c16384_i32_299
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_300 : BitVec 32 := 4096#32
  let v358 : BitVec 32 := Scalar.muli v343 c4096_i32_300
  let v359 : BitVec 32 := Scalar.addi v357 v358
  let c2048_i32 : BitVec 32 := 2048#32
  let v360 : BitVec 32 := Scalar.addi v359 c2048_i32
  let c0_i32_307 : BitVec 32 := 0#32
  ![v360.toNat, 0]
def k0_off39 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v260 : BitVec 32 := Scalar.addi v8 c1_i32_227
  let c0_i32_228 : BitVec 32 := 0#32
  let v261 : BitVec 32 := Scalar.addi v260 c0_i32_228
  let c16384_i32_309 : BitVec 32 := 16384#32
  let v371 : BitVec 32 := Scalar.muli v261 c16384_i32_309
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_310 : BitVec 32 := 4096#32
  let v372 : BitVec 32 := Scalar.muli v13 c4096_i32_310
  let v373 : BitVec 32 := Scalar.addi v371 v372
  let c0_i32_314 : BitVec 32 := 0#32
  ![v373.toNat, 0]
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v271 : BitVec 32 := Scalar.subi v8 c1_i32_236
  let c1_i32_237 : BitVec 32 := 1#32
  let v272 : BitVec 32 := Scalar.subi v271 c1_i32_237
  let c0_i32_238 : BitVec 32 := 0#32
  let v273 : BitVec 1 := Scalar.cmpi .sge v272 c0_i32_238
  let v279 : BitVec 32 := Scalar.extui v273
  let c0_i32_244 : BitVec 32 := 0#32
  let v280 : BitVec 1 := Scalar.cmpi .ne v279 c0_i32_244
  v280

def k0_off40 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v269 : BitVec 32 := Scalar.subi v8 c1_i32_234
  let c1_i32_235 : BitVec 32 := 1#32
  let v270 : BitVec 32 := Scalar.subi v269 c1_i32_235
  let c16384_i32_289 : BitVec 32 := 16384#32
  let v344 : BitVec 32 := Scalar.muli v270 c16384_i32_289
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_290 : BitVec 32 := 4096#32
  let v345 : BitVec 32 := Scalar.muli v343 c4096_i32_290
  let v346 : BitVec 32 := Scalar.addi v344 v345
  let c0_i32_297 : BitVec 32 := 0#32
  ![v346.toNat, 0]
def k0_off41 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v269 : BitVec 32 := Scalar.subi v8 c1_i32_234
  let c1_i32_235 : BitVec 32 := 1#32
  let v270 : BitVec 32 := Scalar.subi v269 c1_i32_235
  let c16384_i32_299 : BitVec 32 := 16384#32
  let v357 : BitVec 32 := Scalar.muli v270 c16384_i32_299
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_300 : BitVec 32 := 4096#32
  let v358 : BitVec 32 := Scalar.muli v343 c4096_i32_300
  let v359 : BitVec 32 := Scalar.addi v357 v358
  let c2048_i32 : BitVec 32 := 2048#32
  let v360 : BitVec 32 := Scalar.addi v359 c2048_i32
  let c0_i32_307 : BitVec 32 := 0#32
  ![v360.toNat, 0]
def k0_off42 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v269 : BitVec 32 := Scalar.subi v8 c1_i32_234
  let c1_i32_235 : BitVec 32 := 1#32
  let v270 : BitVec 32 := Scalar.subi v269 c1_i32_235
  let c16384_i32_309 : BitVec 32 := 16384#32
  let v371 : BitVec 32 := Scalar.muli v270 c16384_i32_309
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_310 : BitVec 32 := 4096#32
  let v372 : BitVec 32 := Scalar.muli v13 c4096_i32_310
  let v373 : BitVec 32 := Scalar.addi v371 v372
  let c0_i32_314 : BitVec 32 := 0#32
  ![v373.toNat, 0]
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v276 : BitVec 32 := Scalar.addi v8 c1_i32_241
  let c1_i32_242 : BitVec 32 := 1#32
  let v277 : BitVec 32 := Scalar.addi v276 c1_i32_242
  let c3_i32_243 : BitVec 32 := 3#32
  let v278 : BitVec 1 := Scalar.cmpi .sle v277 c3_i32_243
  let v281 : BitVec 32 := Scalar.extui v278
  let c0_i32_245 : BitVec 32 := 0#32
  let v282 : BitVec 1 := Scalar.cmpi .ne v281 c0_i32_245
  v282

def k0_off43 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v274 : BitVec 32 := Scalar.addi v8 c1_i32_239
  let c1_i32_240 : BitVec 32 := 1#32
  let v275 : BitVec 32 := Scalar.addi v274 c1_i32_240
  let c16384_i32_289 : BitVec 32 := 16384#32
  let v344 : BitVec 32 := Scalar.muli v275 c16384_i32_289
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_290 : BitVec 32 := 4096#32
  let v345 : BitVec 32 := Scalar.muli v343 c4096_i32_290
  let v346 : BitVec 32 := Scalar.addi v344 v345
  let c0_i32_297 : BitVec 32 := 0#32
  ![v346.toNat, 0]
def k0_off44 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v274 : BitVec 32 := Scalar.addi v8 c1_i32_239
  let c1_i32_240 : BitVec 32 := 1#32
  let v275 : BitVec 32 := Scalar.addi v274 c1_i32_240
  let c16384_i32_299 : BitVec 32 := 16384#32
  let v357 : BitVec 32 := Scalar.muli v275 c16384_i32_299
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_300 : BitVec 32 := 4096#32
  let v358 : BitVec 32 := Scalar.muli v343 c4096_i32_300
  let v359 : BitVec 32 := Scalar.addi v357 v358
  let c2048_i32 : BitVec 32 := 2048#32
  let v360 : BitVec 32 := Scalar.addi v359 c2048_i32
  let c0_i32_307 : BitVec 32 := 0#32
  ![v360.toNat, 0]
def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v274 : BitVec 32 := Scalar.addi v8 c1_i32_239
  let c1_i32_240 : BitVec 32 := 1#32
  let v275 : BitVec 32 := Scalar.addi v274 c1_i32_240
  let c16384_i32_309 : BitVec 32 := 16384#32
  let v371 : BitVec 32 := Scalar.muli v275 c16384_i32_309
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_310 : BitVec 32 := 4096#32
  let v372 : BitVec 32 := Scalar.muli v13 c4096_i32_310
  let v373 : BitVec 32 := Scalar.addi v371 v372
  let c0_i32_314 : BitVec 32 := 0#32
  ![v373.toNat, 0]
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v285 : BitVec 32 := Scalar.subi v8 c1_i32_248
  let c2_i32_249 : BitVec 32 := 2#32
  let v286 : BitVec 32 := Scalar.subi v285 c2_i32_249
  let c0_i32_250 : BitVec 32 := 0#32
  let v287 : BitVec 1 := Scalar.cmpi .sge v286 c0_i32_250
  let v293 : BitVec 32 := Scalar.extui v287
  let c0_i32_256 : BitVec 32 := 0#32
  let v294 : BitVec 1 := Scalar.cmpi .ne v293 c0_i32_256
  v294

def k0_off46 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v283 : BitVec 32 := Scalar.subi v8 c1_i32_246
  let c2_i32_247 : BitVec 32 := 2#32
  let v284 : BitVec 32 := Scalar.subi v283 c2_i32_247
  let c16384_i32_289 : BitVec 32 := 16384#32
  let v344 : BitVec 32 := Scalar.muli v284 c16384_i32_289
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_290 : BitVec 32 := 4096#32
  let v345 : BitVec 32 := Scalar.muli v343 c4096_i32_290
  let v346 : BitVec 32 := Scalar.addi v344 v345
  let c0_i32_297 : BitVec 32 := 0#32
  ![v346.toNat, 0]
def k0_off47 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v283 : BitVec 32 := Scalar.subi v8 c1_i32_246
  let c2_i32_247 : BitVec 32 := 2#32
  let v284 : BitVec 32 := Scalar.subi v283 c2_i32_247
  let c16384_i32_299 : BitVec 32 := 16384#32
  let v357 : BitVec 32 := Scalar.muli v284 c16384_i32_299
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_300 : BitVec 32 := 4096#32
  let v358 : BitVec 32 := Scalar.muli v343 c4096_i32_300
  let v359 : BitVec 32 := Scalar.addi v357 v358
  let c2048_i32 : BitVec 32 := 2048#32
  let v360 : BitVec 32 := Scalar.addi v359 c2048_i32
  let c0_i32_307 : BitVec 32 := 0#32
  ![v360.toNat, 0]
def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v283 : BitVec 32 := Scalar.subi v8 c1_i32_246
  let c2_i32_247 : BitVec 32 := 2#32
  let v284 : BitVec 32 := Scalar.subi v283 c2_i32_247
  let c16384_i32_309 : BitVec 32 := 16384#32
  let v371 : BitVec 32 := Scalar.muli v284 c16384_i32_309
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_310 : BitVec 32 := 4096#32
  let v372 : BitVec 32 := Scalar.muli v13 c4096_i32_310
  let v373 : BitVec 32 := Scalar.addi v371 v372
  let c0_i32_314 : BitVec 32 := 0#32
  ![v373.toNat, 0]
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_253 : BitVec 32 := 1#32
  let v290 : BitVec 32 := Scalar.addi v8 c1_i32_253
  let c2_i32_254 : BitVec 32 := 2#32
  let v291 : BitVec 32 := Scalar.addi v290 c2_i32_254
  let c3_i32_255 : BitVec 32 := 3#32
  let v292 : BitVec 1 := Scalar.cmpi .sle v291 c3_i32_255
  let v295 : BitVec 32 := Scalar.extui v292
  let c0_i32_257 : BitVec 32 := 0#32
  let v296 : BitVec 1 := Scalar.cmpi .ne v295 c0_i32_257
  v296

def k0_off49 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v288 : BitVec 32 := Scalar.addi v8 c1_i32_251
  let c2_i32_252 : BitVec 32 := 2#32
  let v289 : BitVec 32 := Scalar.addi v288 c2_i32_252
  let c16384_i32_289 : BitVec 32 := 16384#32
  let v344 : BitVec 32 := Scalar.muli v289 c16384_i32_289
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_290 : BitVec 32 := 4096#32
  let v345 : BitVec 32 := Scalar.muli v343 c4096_i32_290
  let v346 : BitVec 32 := Scalar.addi v344 v345
  let c0_i32_296 : BitVec 32 := 0#32
  ![v346.toNat, 0]
def k0_off50 (d0 : Dev nD) (c2_i32_282 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v288 : BitVec 32 := Scalar.addi v8 c1_i32_251
  let c2_i32_252 : BitVec 32 := 2#32
  let v289 : BitVec 32 := Scalar.addi v288 c2_i32_252
  let c16384_i32_298 : BitVec 32 := 16384#32
  let v357 : BitVec 32 := Scalar.muli v289 c16384_i32_298
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let v333 : BitVec 32 := Scalar.addi v13 c2_i32_282
  let c4_i32_283 : BitVec 32 := 4#32
  let c0_i32_284 : BitVec 32 := 0#32
  let v334 : BitVec 1 := Scalar.cmpi .eq c4_i32_283 c0_i32_284
  let c1_i32_285 : BitVec 32 := 1#32
  let v335 : BitVec 32 := Scalar.select v334 c1_i32_285 c4_i32_283
  let v336 : BitVec 32 := Scalar.remsi v333 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c4096_i32_299 : BitVec 32 := 4096#32
  let v358 : BitVec 32 := Scalar.muli v343 c4096_i32_299
  let v359 : BitVec 32 := Scalar.addi v357 v358
  let c2048_i32 : BitVec 32 := 2048#32
  let v360 : BitVec 32 := Scalar.addi v359 c2048_i32
  let c0_i32_306 : BitVec 32 := 0#32
  ![v360.toNat, 0]
def k0_off51 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v288 : BitVec 32 := Scalar.addi v8 c1_i32_251
  let c2_i32_252 : BitVec 32 := 2#32
  let v289 : BitVec 32 := Scalar.addi v288 c2_i32_252
  let c16384_i32_308 : BitVec 32 := 16384#32
  let v371 : BitVec 32 := Scalar.muli v289 c16384_i32_308
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_309 : BitVec 32 := 4096#32
  let v372 : BitVec 32 := Scalar.muli v13 c4096_i32_309
  let v373 : BitVec 32 := Scalar.addi v371 v372
  let c0_i32_313 : BitVec 32 := 0#32
  ![v373.toNat, 0]
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_258 : BitVec 32 := 0#32
  let v297 : BitVec 32 := Scalar.subi v8 c0_i32_258
  let c0_i32_259 : BitVec 32 := 0#32
  let v298 : BitVec 1 := Scalar.cmpi .sge v297 c0_i32_259
  let c3_i32_260 : BitVec 32 := 3#32
  let v299 : BitVec 1 := Scalar.cmpi .slt v8 c3_i32_260
  let v300 : BitVec 1 := Scalar.andi v298 v299
  let v301 : BitVec 32 := Scalar.extui v300
  let c0_i32_261 : BitVec 32 := 0#32
  let v302 : BitVec 1 := Scalar.cmpi .ne v301 c0_i32_261
  v302

def k0_off52 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_282 : BitVec 32 := 0#32
  let v333 : BitVec 32 := Scalar.subi v8 c0_i32_282
  let c16384_i32_283 : BitVec 32 := 16384#32
  let v334 : BitVec 32 := Scalar.muli v333 c16384_i32_283
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_284 : BitVec 32 := 4096#32
  let v335 : BitVec 32 := Scalar.muli v13 c4096_i32_284
  let v336 : BitVec 32 := Scalar.addi v334 v335
  let c0_i32_288 : BitVec 32 := 0#32
  ![v336.toNat, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_262 : BitVec 32 := 0#32
  let v303 : BitVec 32 := Scalar.addi v8 c0_i32_262
  let c3_i32_263 : BitVec 32 := 3#32
  let v304 : BitVec 1 := Scalar.cmpi .sle v303 c3_i32_263
  let c0_i32_264 : BitVec 32 := 0#32
  let v305 : BitVec 1 := Scalar.cmpi .sgt v8 c0_i32_264
  let v306 : BitVec 1 := Scalar.andi v304 v305
  let v307 : BitVec 32 := Scalar.extui v306
  let c0_i32_265 : BitVec 32 := 0#32
  let v308 : BitVec 1 := Scalar.cmpi .ne v307 c0_i32_265
  v308

def k0_off53 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_282 : BitVec 32 := 0#32
  let v333 : BitVec 32 := Scalar.addi v8 c0_i32_282
  let c16384_i32_283 : BitVec 32 := 16384#32
  let v334 : BitVec 32 := Scalar.muli v333 c16384_i32_283
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_284 : BitVec 32 := 4096#32
  let v335 : BitVec 32 := Scalar.muli v13 c4096_i32_284
  let v336 : BitVec 32 := Scalar.addi v334 v335
  let c0_i32_288 : BitVec 32 := 0#32
  ![v336.toNat, 0]
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_266 : BitVec 32 := 1#32
  let v309 : BitVec 32 := Scalar.subi v8 c1_i32_266
  let c0_i32_267 : BitVec 32 := 0#32
  let v310 : BitVec 1 := Scalar.cmpi .sge v309 c0_i32_267
  let c3_i32_268 : BitVec 32 := 3#32
  let v311 : BitVec 1 := Scalar.cmpi .slt v8 c3_i32_268
  let v312 : BitVec 1 := Scalar.andi v310 v311
  let v313 : BitVec 32 := Scalar.extui v312
  let c0_i32_269 : BitVec 32 := 0#32
  let v314 : BitVec 1 := Scalar.cmpi .ne v313 c0_i32_269
  v314

def k0_off54 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v333 : BitVec 32 := Scalar.subi v8 c1_i32_282
  let c16384_i32_283 : BitVec 32 := 16384#32
  let v334 : BitVec 32 := Scalar.muli v333 c16384_i32_283
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_284 : BitVec 32 := 4096#32
  let v335 : BitVec 32 := Scalar.muli v13 c4096_i32_284
  let v336 : BitVec 32 := Scalar.addi v334 v335
  let c0_i32_288 : BitVec 32 := 0#32
  ![v336.toNat, 0]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_270 : BitVec 32 := 1#32
  let v315 : BitVec 32 := Scalar.addi v8 c1_i32_270
  let c3_i32_271 : BitVec 32 := 3#32
  let v316 : BitVec 1 := Scalar.cmpi .sle v315 c3_i32_271
  let c0_i32_272 : BitVec 32 := 0#32
  let v317 : BitVec 1 := Scalar.cmpi .sgt v8 c0_i32_272
  let v318 : BitVec 1 := Scalar.andi v316 v317
  let v319 : BitVec 32 := Scalar.extui v318
  let c0_i32_273 : BitVec 32 := 0#32
  let v320 : BitVec 1 := Scalar.cmpi .ne v319 c0_i32_273
  v320

def k0_off55 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v333 : BitVec 32 := Scalar.addi v8 c1_i32_282
  let c16384_i32_283 : BitVec 32 := 16384#32
  let v334 : BitVec 32 := Scalar.muli v333 c16384_i32_283
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_284 : BitVec 32 := 4096#32
  let v335 : BitVec 32 := Scalar.muli v13 c4096_i32_284
  let v336 : BitVec 32 := Scalar.addi v334 v335
  let c0_i32_288 : BitVec 32 := 0#32
  ![v336.toNat, 0]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_274 : BitVec 32 := 2#32
  let v321 : BitVec 32 := Scalar.subi v8 c2_i32_274
  let c0_i32_275 : BitVec 32 := 0#32
  let v322 : BitVec 1 := Scalar.cmpi .sge v321 c0_i32_275
  let c3_i32_276 : BitVec 32 := 3#32
  let v323 : BitVec 1 := Scalar.cmpi .slt v8 c3_i32_276
  let v324 : BitVec 1 := Scalar.andi v322 v323
  let v325 : BitVec 32 := Scalar.extui v324
  let c0_i32_277 : BitVec 32 := 0#32
  let v326 : BitVec 1 := Scalar.cmpi .ne v325 c0_i32_277
  v326

def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_282 : BitVec 32 := 2#32
  let v333 : BitVec 32 := Scalar.subi v8 c2_i32_282
  let c16384_i32_283 : BitVec 32 := 16384#32
  let v334 : BitVec 32 := Scalar.muli v333 c16384_i32_283
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_284 : BitVec 32 := 4096#32
  let v335 : BitVec 32 := Scalar.muli v13 c4096_i32_284
  let v336 : BitVec 32 := Scalar.addi v334 v335
  let c0_i32_288 : BitVec 32 := 0#32
  ![v336.toNat, 0]
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_278 : BitVec 32 := 2#32
  let v327 : BitVec 32 := Scalar.addi v8 c2_i32_278
  let c3_i32_279 : BitVec 32 := 3#32
  let v328 : BitVec 1 := Scalar.cmpi .sle v327 c3_i32_279
  let c0_i32_280 : BitVec 32 := 0#32
  let v329 : BitVec 1 := Scalar.cmpi .sgt v8 c0_i32_280
  let v330 : BitVec 1 := Scalar.andi v328 v329
  let v331 : BitVec 32 := Scalar.extui v330
  let c0_i32_281 : BitVec 32 := 0#32
  let v332 : BitVec 1 := Scalar.cmpi .ne v331 c0_i32_281
  v332

def k0_off57 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_282 : BitVec 32 := 2#32
  let v333 : BitVec 32 := Scalar.addi v8 c2_i32_282
  let c16384_i32_283 : BitVec 32 := 16384#32
  let v334 : BitVec 32 := Scalar.muli v333 c16384_i32_283
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let c0_i32 : BitVec 32 := 0#32
  let v10 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_3 : BitVec 32 := 1#32
  let v11 : BitVec 32 := Scalar.subi c1_i32_3 v5
  let v12 : BitVec 32 := Scalar.select v10 v5 v11
  let v13 : BitVec 32 := Scalar.addi v9 v12
  let c4096_i32_284 : BitVec 32 := 4096#32
  let v335 : BitVec 32 := Scalar.muli v13 c4096_i32_284
  let v336 : BitVec 32 := Scalar.addi v334 v335
  let c0_i32_288 : BitVec 32 := 0#32
  ![v336.toNat, 0]
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/- The mesh of sixteen devices and the table of the kernel's transfers, as arithmetic on device numbers: nothing here
   speaks of a program. A device's number is `8 x + 4 y + z`; the four `(x, y)` columns form a ring, the four `z` planes
   a line. -/
module

public import Mathlib.Data.Fintype.Basic
public import Mathlib.Data.Fintype.Sum
public import Mathlib.Data.Fintype.Prod
public import Mathlib.Data.Fintype.Option
public import Mathlib.Data.Fin.VecNotation
public import Mathlib.Tactic.FinCases
public import Mathlib.Tactic.IntervalCases

@[expose] public section

namespace Cert.Mesh

/-- A device of the mesh. -/
abbrev D := Fin 16

/-- A device's plane. -/
def zc (c : D) : ℕ := c.val % 4
/-- A device's place on its plane's ring. -/
def pc (c : D) : ℕ := if c.val / 8 = 0 then c.val / 4 % 2 else 3 - c.val / 4 % 2

/-- The device at place `p` of the ring of plane `z`. -/
def devAt (p z : ℕ) : D :=
  ⟨(if p % 4 = 0 then 0 else if p % 4 = 1 then 4 else if p % 4 = 2 then 12 else 8) + z % 4, by split_ifs <;> omega⟩

/-- The next device on the ring. -/
def nxt : D ≃ D where
  toFun c := devAt (pc c + 1) (zc c)
  invFun c := devAt (pc c + 3) (zc c)
  left_inv := by decide
  right_inv := by decide
/-- The device before on the ring. -/
def prv : D ≃ D := nxt.symm
/-- The device one plane up (the last plane's is on the first: no transfer goes there). -/
def zup : D ≃ D where
  toFun c := devAt (pc c) (zc c + 1)
  invFun c := devAt (pc c) (zc c + 3)
  left_inv := by decide
  right_inv := by decide
/-- The device one plane down. -/
def zdn : D ≃ D := zup.symm

/-! ## The transfers

A device issues at most one transfer of each kind per index. The kinds: `0` along the line of planes, `1` and `2` of a
quarter to the next and to the previous device of the ring, `3` and `4` of a quarter's halves onward along the ring.
An index `0, 1, 2` is a step of what travels up the planes, `3, 4, 5` a step of what travels down. -/

/-- A transfer: its kind and index. -/
abbrev X := Fin 5 × Fin 6

/-- The step an index names. -/
def st (i : Fin 6) : ℕ := i.val % 3
/-- Whether something arrives at plane `z` in step `i`. -/
def act (z : ℕ) (i : Fin 6) : Bool := if i.val < 3 then decide (st i + 1 ≤ z) else decide (z + 1 + st i ≤ 3)
/-- The plane whose rows arrive at plane `z` in step `i`. -/
def kin (z : ℕ) (i : Fin 6) : ℕ := if i.val < 3 then z - 1 - st i else z + 1 + st i
/-- Whether plane `z` sends on along the planes in step `i`. -/
def zact (z : ℕ) (i : Fin 6) : Bool :=
  if i.val < 3 then decide (z < 3) && decide (st i ≤ z) else decide (0 < z) && decide (z + st i ≤ 3)
/-- The plane whose rows it sends. -/
def kout (z : ℕ) (i : Fin 6) : ℕ := if i.val < 3 then z - st i else z + st i

/-- Whether device `c` issues the transfer. -/
def on (x : X) (c : D) : Bool := if x.1 = 0 then zact (zc c) x.2 else act (zc c) x.2
/-- Where it goes. -/
def tgt (x : X) : D ≃ D :=
  if x.1 = 0 then (if x.2.val < 3 then zup else zdn) else if x.1 = 1 ∨ x.1 = 3 then nxt else prv
/-- The plane whose rows it moves. -/
def kk (x : X) (c : D) : ℕ := if x.1 = 0 then kout (zc c) x.2 else kin (zc c) x.2
/-- The ring place whose quarter it moves. -/
def qq (x : X) (c : D) : ℕ := if x.1 = 3 then (pc c + 3) % 4 else if x.1 = 4 then (pc c + 1) % 4 else pc c
/-- The first of the rows it moves. -/
def lo (x : X) (c : D) : ℕ := kk x c * 16384 + qq x c * 4096 + (if x.1 = 4 then 2048 else 0)
/-- How many rows it moves. -/
def len (x : X) : ℕ := if x.1.val < 3 then 4096 else 2048
/-- Whether it is a first step along the planes, which reads the argument. -/
def first (x : X) : Bool := decide (x.1 = 0) && decide (st x.2 = 0)

/-- The device whose argument row `r` of the result on device `c` holds. -/
def src (c : D) (r : ℕ) : D := if r / 16384 = zc c then c else devAt (r % 16384 / 4096) (r / 16384)

/-! ## The cells

A cell is a semaphore of a device that others raise: the barrier's, and per kind and index one that counts what left
and one that counts what landed. -/

/-- A cell: the barrier's, or (twice the kind, and one more for what landed) and the index. -/
abbrev Cell := Option (Fin 10 × Fin 6)

/-- The cell counting what left. -/
def sc (x : X) : Cell := some (⟨2 * x.1.val, by have := x.1.isLt; omega⟩, x.2)
/-- The cell, on the target, counting what landed. -/
def rc (x : X) : Cell := some (⟨2 * x.1.val + 1, by have := x.1.isLt; omega⟩, x.2)

/-- The kind of transfer a cell is of. -/
def kd (f : Fin 10) : Fin 5 := ⟨f.val / 2, by have := f.isLt; omega⟩

/-- The number of a cell's semaphore in the kernel's pool. -/
def num (f : Fin 10) (i : Fin 6) : Fin 64 :=
  ⟨if f.val < 2 then 4 + 6 * (i.val / 3) + 3 * f.val + st i else 16 + 6 * (f.val - 2) + i.val, by
    have := f.isLt; have := i.isLt; unfold st; split_ifs <;> omega⟩

/-- A barrier signal: to the next, the previous device of the ring, one plane up, one plane down. -/
abbrev B := Fin 4
/-- Where it goes. -/
def btgt (b : B) : D ≃ D := if b = 0 then nxt else if b = 1 then prv else if b = 2 then zup else zdn
/-- Whether device `c` gives it. -/
def bon (b : B) (c : D) : Bool := if b = 2 then decide (zc c < 3) else if b = 3 then decide (0 < zc c) else true
/-- The signals a device's barrier receives. -/
def bset (c : D) : Finset B := Finset.univ.filter fun b => bon b ((btgt b).symm c)

/-- Everything a device raises on others: the barrier signals and the transfers. -/
abbrev S := B ⊕ X
/-- Where it goes. -/
def stgt : S → D ≃ D := Sum.elim btgt tgt
/-- Whether device `c` does it. -/
def son : S → D → Bool := Sum.elim bon on
/-- The cell it raises. -/
def srcv : S → Cell := Sum.elim (fun _ => none) rc
/-- The duty of that cell it pays. -/
def sname : S → B := Sum.elim id fun _ => 0

/-- The order in which the kernel does them. -/
def order : List S :=
  [.inl 0, .inl 1, .inl 2, .inl 3, .inr (0, 0), .inr (0, 3),
   .inr (0, 1), .inr (1, 0), .inr (2, 0), .inr (0, 4), .inr (1, 3), .inr (2, 3),
   .inr (0, 2), .inr (1, 1), .inr (2, 1), .inr (0, 5), .inr (1, 4), .inr (2, 4),
   .inr (1, 2), .inr (2, 2), .inr (1, 5), .inr (2, 5),
   .inr (3, 0), .inr (4, 0), .inr (3, 3), .inr (4, 3), .inr (3, 1), .inr (4, 1), .inr (3, 4), .inr (4, 4),
   .inr (3, 2), .inr (4, 2), .inr (3, 5), .inr (4, 5)]

/-- The level of a cell: a device waits only below everything it still owes. -/
def level : Cell → ℕ
  | none => 1
  | some (f, i) => if f.val % 2 = 0 then 0 else if f.val = 1 then 2 + st i else if f.val < 6 then 5 else 6

/-- Whether a cell is ever raised on device `c`. -/
def live (c : D) : Cell → Bool
  | none => true
  | some (f, i) => if f.val = 0 then zact (zc c) i else act (zc c) i

/-! ## Facts of the tables -/

theorem order_nodup : order.Nodup := by decide +kernel
theorem order_all : order.toFinset = Finset.univ := by decide +kernel
theorem mem_order (s : S) : s ∈ order := List.mem_toFinset.mp (order_all ▸ Finset.mem_univ s)
/-- Every transfer's two cells are live where they are. -/
theorem live_sc (x : X) (c : D) : live c (sc x) = on x c := by revert x c; decide +kernel
theorem live_rc (x : X) (c : D) : live (tgt x c) (rc x) = on x c := by revert x c; decide +kernel
theorem num_inj : ∀ f i f' i', num f i = num f' i' → f = f' ∧ i = i' := by decide +kernel
theorem num_ge (f : Fin 10) (i : Fin 6) : 4 ≤ (num f i).val := by revert f i; decide
theorem zc_lt (c : D) : zc c < 4 := Nat.mod_lt _ (by decide)
theorem pc_lt (c : D) : pc c < 4 := by revert c; decide
theorem devAt_pz (c : D) : devAt (pc c) (zc c) = c := by revert c; decide
theorem pc_nxt (c : D) : pc (nxt c) = (pc c + 1) % 4 := by revert c; decide
theorem pc_prv (c : D) : pc (prv c) = (pc c + 3) % 4 := by revert c; decide
theorem zc_nxt (c : D) : zc (nxt c) = zc c := by revert c; decide
theorem zc_prv (c : D) : zc (prv c) = zc c := by revert c; decide
theorem pc_zup (c : D) : pc (zup c) = pc c := by revert c; decide
theorem pc_zdn (c : D) : pc (zdn c) = pc c := by revert c; decide

/-- A transfer's rows lie in the result. -/
theorem lo_le (x : X) (c : D) (h : on x c = true) : lo x c + len x ≤ 65536 := by revert x c; decide +kernel

theorem row_split {k q h r l : ℕ} (hr : k * 16384 + q * 4096 + h ≤ r) (hl : r < k * 16384 + q * 4096 + h + l)
    (hh : h + l ≤ 4096) (hq : q < 4) : r / 16384 = k ∧ r % 16384 / 4096 = q := by omega

theorem row_of (x : X) (c : D) {r : ℕ} (h1 : lo x c ≤ r) (h2 : r < lo x c + len x) :
    r / 16384 = kk x c ∧ r % 16384 / 4096 = qq x c := by
  unfold lo len at *
  refine row_split (h := if x.1 = 4 then 2048 else 0) (l := if x.1.val < 3 then 4096 else 2048) h1 h2 ?_ ?_
  · clear h1 h2; generalize x.1 = k; revert k; decide
  · unfold qq; have := pc_lt c; split_ifs <;> omega

/-- A transfer that is no first step moves rows that both ends keep from one and the same device. -/
theorem src_tgt (x : X) (c : D) (h : on x c = true) (hf : first x = false) {r : ℕ} (h1 : lo x c ≤ r) (h2 : r < lo x c + len x) :
    src (tgt x c) r = src c r := by
  obtain ⟨hk, hq⟩ := row_of x c h1 h2
  unfold src; rw [hk, hq]
  revert x c; intro x c; revert x c
  have key : ∀ (x : X) (c : D), on x c = true → first x = false → kk x c ≠ zc (tgt x c) ∧ kk x c ≠ zc c := by decide +kernel
  intro x c h hf _ _ _ _
  rw [if_neg (key x c h hf).1, if_neg (key x c h hf).2]

/-- A first step moves the sender's own rows. -/
theorem src_first (x : X) (c : D) (h : on x c = true) (hf : first x = true) {r : ℕ} (h1 : lo x c ≤ r) (h2 : r < lo x c + len x) :
    src (tgt x c) r = c ∧ r % 16384 + zc c * 16384 = r ∧ lo x c = zc c * 16384 + pc c * 4096 ∧ len x = 4096 := by
  obtain ⟨hk, hq⟩ := row_of x c h1 h2
  have key : ∀ (x : X) (c : D), on x c = true → first x = true →
      kk x c ≠ zc (tgt x c) ∧ kk x c = zc c ∧ qq x c = pc c ∧ lo x c = zc c * 16384 + pc c * 4096 ∧ len x = 4096 := by decide +kernel
  obtain ⟨h3, h4, h5, h6, h7⟩ := key x c h hf
  refine ⟨?_, by omega, h6, h7⟩
  unfold src; rw [hk, hq, if_neg h3, h4, h5, devAt_pz]

end Cert.Mesh
-- ==== Proof.PiecesIdeal.lean ====
/- The buffers of the kernel cut into runs of whole rows, what the result holds in the end, and what one copy of rows
   into rows leaves. -/
module

public import proofs.«01_k».proof.Proof.Mesh
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Rows -/

/-- The shape of `l` rows. -/
abbrev rowsS (l : ℕ) : Shape := ⟨2, ![l, 1024]⟩
/-- The elements of rows `a` up to `a + l`, of an array of `n` rows. -/
def rows (n a l : ℕ) : Finset (rowsS n).Idx := Finset.univ.filter fun i => a ≤ (i 0).val ∧ (i 0).val < a + l

theorem mem_rows {n a l : ℕ} {i : (rowsS n).Idx} : i ∈ rows n a l ↔ a ≤ (i 0).val ∧ (i 0).val < a + l := by
  unfold rows; rw [Finset.mem_filter]; exact ⟨fun h => h.2, fun h => ⟨Finset.mem_univ _, h⟩⟩

theorem rows_disjoint {n a l a' l' : ℕ} (h : a + l ≤ a' ∨ a' + l' ≤ a) : Disjoint (rows n a l) (rows n a' l') := by
  rw [Finset.disjoint_left]; intro i hi hj; rw [mem_rows] at hi hj; omega

/-- Two runs of rows one after the other are one run. -/
theorem rows_union {n a l l' : ℕ} : rows n a l ∪ rows n (a + l) l' = rows n a (l + l') := by
  ext i; rw [Finset.mem_union, mem_rows, mem_rows, mem_rows]; omega

/-- All the rows. -/
theorem rows_all {n : ℕ} : rows n 0 n = Finset.univ := by
  ext i; rw [mem_rows]; have : (i 0).val < n := (i 0).isLt
  simp only [Finset.mem_univ, iff_true]; omega

/-- The window of `l` whole rows from row `a` covers those rows. -/
theorem set_unit {n a l : ℕ} {off : Fin 2 → ℕ} {inb} (h0 : off 0 = a) (h1 : off 1 = 0) :
    (Rect.unit (s := rowsS n) off (rowsS l).size inb).set = rows n a l := by
  ext i; rw [Rect.mem_set_unit, mem_rows]
  constructor
  · intro h; have := h 0; rw [h0] at this; exact this
  · intro h b; have hb : (i 1).val < 1024 := (i 1).isLt
    fin_cases b
    · show off 0 ≤ (i 0).val ∧ (i 0).val < off 0 + l; rw [h0]; exact h
    · show off 1 ≤ (i 1).val ∧ (i 1).val < off 1 + 1024; rw [h1]; omega

/-- The whole argument, result and scratch buffers, as the kernel is handed them. -/
abbrev xM : Memref sig .tc .hbm S16384x1024 .f32 := Memref.whole main_arg0
abbrev oM : Memref sig .tc .hbm S65536x1024 .f32 := Memref.whole main_v1
abbrev vM : Memref sig .tc .vmem S2x4096x1024 .f32 := Memref.whole cc0_scratch0

theorem set_o {a l : ℕ} {off : Fin 2 → ℕ} {inb} {hl} (h0 : off 0 = a) (h1 : off 1 = 0) :
    (oM.slice (Rect.unit (s := S65536x1024) off (rowsS l).size inb) hl : Memref sig .tc .hbm (rowsS l) .f32).view.set = rows 65536 a l := by
  exact (View.set_slice_whole main_v1 _).trans (set_unit h0 h1)
theorem set_x {a l : ℕ} {off : Fin 2 → ℕ} {inb} {hl} (h0 : off 0 = a) (h1 : off 1 = 0) :
    (xM.slice (Rect.unit (s := S16384x1024) off (rowsS l).size inb) hl : Memref sig .tc .hbm (rowsS l) .f32).view.set = rows 16384 a l := by
  exact (View.set_slice_whole main_arg0 _).trans (set_unit h0 h1)

/-! ## Contents -/

/-- The contents of an argument, a result, a scratch buffer. -/
abbrev CX (F : FTy → Type) : Type := (rowsS 16384).Idx → Elt F .f32
abbrev CO (F : FTy → Type) : Type := (rowsS 65536).Idx → Elt F .f32
abbrev CV (F : FTy → Type) : Type := S2x4096x1024.Idx → Elt F .f32

/-- The index of a row and a column. -/
def at2 {n : ℕ} (r : Fin n) (j : Fin 1024) : (rowsS n).Idx := fun b => match b with
  | 0 => r
  | 1 => j

variable (m : (ℓ : Loc nD τ sig) → Buf (Elt F) ℓ)

/-- Device `d`'s argument at launch. -/
def argX (d : Dev nD) : CX F := m ((d : Thread nD τ).loc main_arg0)
/-- Device `d`'s result buffer at launch. -/
def argO (d : Dev nD) : CO F := m ((d : Thread nD τ).loc main_v1)
/-- What device `c`'s result holds in the end: row `r` is row `r % 16384` of the argument of the device `src c r`. -/
def G (c : Dev nD) : CO F := fun i =>
  argX m (src c (i 0).val) (at2 ⟨(i 0).val % 16384, Nat.mod_lt _ (by decide)⟩ (i 1))

theorem emb_unit {n l : ℕ} {off : Fin 2 → ℕ} {inb} (y : (rowsS l).Idx) (b : Fin 2) :
    ((Rect.unit (s := rowsS n) off (rowsS l).size inb).emb y b).val = off b + (y b).val := by
  show off b + 1 * (y b).val = _; omega

theorem idx_ext {n : ℕ} {i j : (rowsS n).Idx} (h0 : (i 0).val = (j 0).val) (h1 : (i 1).val = (j 1).val) : i = j := by
  funext b; fin_cases b
  · exact Fin.ext h0
  · exact Fin.ext h1

/-- Rows of the result copied into rows of another device's result: what is left is `g`, if `g` agrees on the rows
    written with what the source holds. -/
theorem write_oo {l : ℕ} {offS offD : Fin 2 → ℕ} {inbS inbD} {hlS hlD} (fs fd g : CO F)
    (hS : offS = offD) (h1 : offD 1 = 0)
    (hg : ∀ i : (rowsS 65536).Idx, i ∈ rows 65536 (offD 0) l → fs i = g i) :
    ∀ i ∈ rows 65536 (offD 0) l,
      (oM.slice (Rect.unit (s := S65536x1024) offD (rowsS l).size inbD) hlD : Memref sig .tc .hbm (rowsS l) .f32).view.write (Elt F) fd
        ((oM.slice (Rect.unit (s := S65536x1024) offS (rowsS l).size inbS) hlS : Memref sig .tc .hbm (rowsS l) .f32).view.read (Elt F) fs) Finset.univ i
      = g i := by
  subst hS
  intro i hi
  rw [← set_o (inb := inbD) (hl := hlD) rfl h1] at hi
  obtain ⟨y, -, rfl⟩ := Finset.mem_map.mp hi
  refine (View.write_emb_of_mem _ _ (Finset.mem_univ y)).trans ?_
  have := hg _ ((set_o (inb := inbD) (hl := hlD) rfl h1) ▸ hi)
  exact this

/-- Rows of the argument copied into rows of a result. -/
theorem write_xo {l : ℕ} {offS offD : Fin 2 → ℕ} {inbS inbD} {hlS hlD} (fs : CX F) (fd g : CO F)
    (h1 : offS 1 = 0) (h1' : offD 1 = 0)
    (hg : ∀ i : (rowsS 65536).Idx, i ∈ rows 65536 (offD 0) l → ∀ j : (rowsS 16384).Idx,
      (j 0).val + offD 0 = (i 0).val + offS 0 → (j 1).val = (i 1).val → fs j = g i) :
    ∀ i ∈ rows 65536 (offD 0) l,
      (oM.slice (Rect.unit (s := S65536x1024) offD (rowsS l).size inbD) hlD : Memref sig .tc .hbm (rowsS l) .f32).view.write (Elt F) fd
        ((xM.slice (Rect.unit (s := S16384x1024) offS (rowsS l).size inbS) hlS : Memref sig .tc .hbm (rowsS l) .f32).view.read (Elt F) fs) Finset.univ i
      = g i := by
  intro i hi
  rw [← set_o (inb := inbD) (hl := hlD) rfl h1'] at hi
  obtain ⟨y, -, rfl⟩ := Finset.mem_map.mp hi
  refine (View.write_emb_of_mem _ _ (Finset.mem_univ y)).trans ?_
  refine hg _ ((set_o (inb := inbD) (hl := hlD) rfl h1') ▸ hi) ((Rect.unit (s := S16384x1024) offS (rowsS l).size inbS).emb y) ?_ ?_
  · show _ = ((Rect.unit (s := S65536x1024) offD (rowsS l).size inbD).emb y 0).val + _
    rw [emb_unit, emb_unit]; omega
  · show _ = ((Rect.unit (s := S65536x1024) offD (rowsS l).size inbD).emb y 1).val
    rw [emb_unit, emb_unit, h1, h1']

end Cert.KernelIdeal.Hand

end
-- ==== Proof.ScheduleIdeal.lean ====
/- The kernel's protocol: its cells, their one round of duties with what each hands over, what a device owes, the levels
   of its waits. -/
module

public import proofs.«01_k».proof.Proof.PiecesIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the launch's own copy of the rounds, the kernel's, and the local transfers' counters -/

abbrev UB : Type := URounds (GSem nD τ sig) B
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
abbrev EC : UEmb Counters 𝕄 := countersEmb (U := UU)

/-! ## Cells -/

/-- The barrier's semaphore. -/
abbrev barS : Sem sig := (SemArray.scalar (sig.barrier 0 rfl) : Sems sig S_).sem
/-- A cell's semaphore. -/
def csem : Cell → SemLoc sig
  | none => .reg barS
  | some p => .dma (num p.1 p.2)
theorem csem_inj : Function.Injective csem := by
  rintro (_ | ⟨f, i⟩) (_ | ⟨f', i'⟩) h
  · rfl
  · exact absurd h (fun h => by cases h)
  · exact absurd h (fun h => by cases h)
  · have h1 : num f i = num f' i' := by injection h
    obtain ⟨rfl, rfl⟩ := num_inj _ _ _ _ h1; rfl
/-- Device `c`'s cell. -/
def cell (c : Dev nD) (x : Cell) : GSem nD τ sig := ((c : Thread nD τ), csem x)
theorem cell_inj {c c' : Dev nD} {x x' : Cell} (h : cell c x = cell c' x') : c = c' ∧ x = x' :=
  ⟨congrArg (fun g : GSem nD τ sig => g.1.1) h, csem_inj (congrArg Prod.snd h)⟩

open Classical in
/-- The cell a semaphore is, if it is one. -/
def dec (s : SemLoc sig) : Option Cell := if h : ∃ x, csem x = s then some h.choose else none
theorem dec_csem (x : Cell) : dec (csem x) = some x := by
  have h : ∃ y, csem y = csem x := ⟨x, rfl⟩
  unfold dec; rw [dif_pos h]; exact congrArg some (csem_inj h.choose_spec)

/-- What a transfer of `l` rows credits. -/
def cr (l : ℕ) : ℕ := sig.dmaCredit Kind.tc (Kind.tc.table .hbm) oM.view.buf (rowsS l) .f32
/-- What one duty of a cell credits. -/
def amt : Cell → ℕ
  | none => 1
  | some p => cr (len (kd p.1, p.2))
theorem cr_pos {l : ℕ} (h : 0 < l) : 0 < cr l := sig.dmaCredit_pos _ _ _ _ _ (by
  show 0 < (rowsS l).numel
  rw [show (rowsS l).numel = l * 1024 from by simp [Shape.numel, Fin.prod_univ_two]]; omega)
theorem len_pos (x : X) : 0 < len x := by unfold len; split <;> omega
theorem amt_pos (x : Cell) : 0 < amt x := by
  rcases x with _ | p
  · exact Nat.one_pos
  · exact cr_pos (len_pos _)

/-! ## What the duties hand over -/

section Pay
variable (m : (ℓ : Loc nD τ sig) → Buf (Elt F) ℓ)

/-- Rows of device `c`'s result, at a share and at contents. -/
def outPt (c : Dev nD) (q : PosShare TreeShare) (a l : ℕ) (f : CO F) : sProp 𝕄 :=
  ((c : Thread nD τ).loc main_v1) ↦[(rows 65536 a l : Finset (Idx ((c : Thread nD τ).loc main_v1)))]{q} f
/-- Rows of device `c`'s argument. -/
def argPt (c : Dev nD) (q : PosShare TreeShare) (a l : ℕ) (f : CX F) : sProp 𝕄 :=
  ((c : Thread nD τ).loc main_arg0) ↦[(rows 16384 a l : Finset (Idx ((c : Thread nD τ).loc main_arg0)))]{q} f

/-- The share of its source a transfer reads at. -/
def shr (x : X) : PosShare TreeShare :=
  if x.1 = 0 then (if first x && decide (3 ≤ x.2.val) then fullShare.right.left else fullShare.left)
  else if x.1 = 1 then fullShare.right.left else if x.1 = 2 then fullShare.right.right else fullShare

/-- A transfer's source, as it goes and as the sender has it back. -/
def sendPay (x : X) (c : Dev nD) : sProp 𝕄 :=
  if first x = true then argPt c (shr x) (pc c * 4096) 4096 (argX m c) else outPt c (shr x) (lo x c) (len x) (G m c)
/-- What has landed on device `d`: rows of the result, final. -/
def recvPay (x : X) (d : Dev nD) : sProp 𝕄 := outPt d fullShare (lo x ((tgt x).symm d)) (len x) (G m d)
/-- Where the transfer of device `c` will land: rows of the target's result as launched. -/
def landPt (x : X) (c : Dev nD) : sProp 𝕄 := outPt (tgt x c) fullShare (lo x c) (len x) (argO m (tgt x c))

/-- The barrier signal that carries the right to write where a transfer lands. -/
def via (x : X) : B := if x.1 = 0 then (if x.2.val < 3 then 3 else 2) else if x.1 = 1 ∨ x.1 = 3 then 1 else 0
/-- The transfers of device `d` whose landing places signal `b` to it hands over. -/
def vset (b : B) (d : Dev nD) : Finset X := Finset.univ.filter fun x => via x = b ∧ on x d = true
def barPay (b : B) (d : Dev nD) : sProp 𝕄 := bigSep (vset b d) fun x => landPt m x d

/-- What a cell's duty hands its device. -/
def pay (c : Dev nD) : Cell → B → sProp 𝕄
  | none, b => barPay m b c
  | some p, _ => if p.1.val % 2 = 0 then sendPay m (kd p.1, p.2) c else recvPay m (kd p.1, p.2) c

instance outPt_storable (c : Dev nD) (q : PosShare TreeShare) (a l : ℕ) (f : CO F) : BI.Storable (upEmb : UEmb _ 𝕄) (outPt c q a l f) := by
  unfold outPt; infer_instance
instance argPt_storable (c : Dev nD) (q : PosShare TreeShare) (a l : ℕ) (f : CX F) : BI.Storable (upEmb : UEmb _ 𝕄) (argPt c q a l f) := by
  unfold argPt; infer_instance
instance pay_storable (c : Dev nD) (x : Cell) (b : B) : BI.Storable (upEmb : UEmb _ 𝕄) (pay m c x b) := by
  rcases x with _ | p
  · show BI.Storable upEmb (barPay m b c)
    unfold barPay landPt; infer_instance
  · show BI.Storable upEmb (if p.1.val % 2 = 0 then sendPay m (kd p.1, p.2) c else recvPay m (kd p.1, p.2) c)
    unfold sendPay recvPay; (repeat' split) <;> infer_instance

/-- The duties of a cell's one round. -/
def dut (c : Dev nD) : Cell → Finset B
  | none => bset c
  | some p => if live c (some p) = true then {0} else ∅

/-- One round, round 0, of every cell. -/
def rd : Rounds.Schedule (GSem nD τ sig) B 𝕄 where
  duties g r := if r = 0 then (match dec g.2 with | some x => dut g.1.1 x | none => ∅) else ∅
  unitless _ := False
  amount g _ _ := match dec g.2 with | some x => amt x | none => 1
  payload g _ b := match dec g.2 with | some x => pay m g.1.1 x b | none => iprop(emp)
  amount_pos g _ _ _ := by
    split
    · exact amt_pos _
    · exact Nat.one_pos

instance rd_storable (g : GSem nD τ sig) (r : ℕ) (b : B) : BI.Storable (upEmb : UEmb _ 𝕄) ((rd (F := F) m).payload g r b) := by
  show BI.Storable upEmb (match dec g.2 with | some x => pay m g.1.1 x b | none => iprop(emp))
  split <;> infer_instance

theorem rd_duties (c : Dev nD) (x : Cell) : (rd (F := F) m).duties (cell c x) 0 = dut c x := by
  show (if 0 = 0 then (match dec (csem x) with | some x => dut c x | none => ∅) else ∅) = _
  rw [if_pos rfl, dec_csem]
theorem rd_later (g : GSem nD τ sig) : ∀ r, 0 + 1 ≤ r → (rd (F := F) m).duties g r = ∅ := by
  intro r hr; show (if r = 0 then _ else ∅) = _; rw [if_neg (by omega)]
theorem rd_amount (c : Dev nD) (x : Cell) (b : B) : (rd (F := F) m).amount (cell c x) 0 b = amt x := by
  show (match dec (csem x) with | some x => amt x | none => 1) = _; rw [dec_csem]
theorem rd_payload (c : Dev nD) (x : Cell) (b : B) : (rd (F := F) m).payload (cell c x) 0 b = pay m c x b := by
  show (match dec (csem x) with | some x => pay m c x b | none => iprop(emp)) = _; rw [dec_csem]
theorem rd_expect (c : Dev nD) (x : Cell) : (rd (F := F) m).expect (cell c x) 0 = (dut c x).card * amt x := by
  unfold Rounds.Schedule.expect Rounds.Schedule.amountOf
  rw [rd_duties, Finset.sum_congr rfl fun b _ => rd_amount m c x b, Finset.sum_const, smul_eq_mul]

theorem pay_sc (x : X) (c : Dev nD) (b : B) : pay m c (sc x) b = sendPay m x c := by
  have h : (2 * x.1.val) % 2 = 0 := by omega
  have hk : kd ⟨2 * x.1.val, by have := x.1.isLt; omega⟩ = x.1 := Fin.ext (by show 2 * x.1.val / 2 = _; omega)
  show (if (2 * x.1.val) % 2 = 0 then sendPay m (kd _, x.2) c else _) = _
  rw [if_pos h, hk]
theorem pay_rc (x : X) (c : Dev nD) (b : B) : pay m c (rc x) b = recvPay m x c := by
  have h : ¬ (2 * x.1.val + 1) % 2 = 0 := by omega
  have hk : kd ⟨2 * x.1.val + 1, by have := x.1.isLt; omega⟩ = x.1 := Fin.ext (by show (2 * x.1.val + 1) / 2 = _; omega)
  show (if (2 * x.1.val + 1) % 2 = 0 then _ else recvPay m (kd _, x.2) c) = _
  rw [if_neg h, hk]
end Pay

theorem amt_sc (x : X) : amt (sc x) = cr (len x) := by
  have hk : kd ⟨2 * x.1.val, by have := x.1.isLt; omega⟩ = x.1 := Fin.ext (by show 2 * x.1.val / 2 = _; omega)
  show cr (len (kd _, x.2)) = _; rw [hk]
theorem amt_rc (x : X) : amt (rc x) = cr (len x) := by
  have hk : kd ⟨2 * x.1.val + 1, by have := x.1.isLt; omega⟩ = x.1 := Fin.ext (by show (2 * x.1.val + 1) / 2 = _; omega)
  show cr (len (kd _, x.2)) = _; rw [hk]

/-! ## What a device owes; the levels -/

/-- What device `c` owes for one thing it does. -/
def oweT (c : Dev nD) (s : S) : CellTallies nD τ sig Unit :=
  if son s c = true then tallyAt (cell (stgt s c) (srcv s)) () (amt (srcv s)) else 0
/-- What it owes while a list of things is still to be done. -/
def owe (c : Dev nD) : List S → CellTallies nD τ sig Unit
  | [] => 0
  | s :: l => owe c l + oweT c s
theorem owe_on {c : Dev nD} {s : S} {l : List S} (h : son s c = true) :
    owe c (s :: l) = owe c l + tallyAt (cell (stgt s c) (srcv s)) () (amt (srcv s)) := by
  show owe c l + oweT c s = _; unfold oweT; rw [if_pos h]
theorem owe_off {c : Dev nD} {s : S} {l : List S} (h : son s c = false) : owe c (s :: l) = owe c l := by
  show owe c l + oweT c s = _; unfold oweT; rw [if_neg (by rw [h]; decide), add_zero]

/-- What device `c` holds of its debts, the list `l` still to be done. -/
def Ow (c : Dev nD) (l : List S) : sProp 𝕄 := iprop(∃ W, owes (c : Thread nD τ) (owe c l) W)
theorem Ow_off {c : Dev nD} {s : S} {l : List S} (h : son s c = false) : (Ow c (s :: l) : sProp 𝕄) = Ow c l := by
  unfold Ow; rw [owe_off h]

def L (g : GSem nD τ sig) : Finset Unit := if g.1.2 = .tc then {()} else ∅
def lv (g : GSem nD τ sig) (_ : Unit) : ℕ := match dec g.2 with | some x => level x | none => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cell) : lv (cell c x) () = level x := by
  show (match dec (csem x) with | some x => level x | none => 0) = _; rw [dec_csem]

theorem owe_pos {c : Dev nD} {l : List S} {g : GSem nD τ sig} {u : Unit} (h : 0 < owe c l g u) :
    ∃ s ∈ l, g = cell (stgt s c) (srcv s) := by
  induction l with
  | nil => exact absurd h (Nat.lt_irrefl 0)
  | cons s l ih =>
    have h' : 0 < owe c l g u + oweT c s g u := by
      have e : owe c (s :: l) g u = owe c l g u + oweT c s g u := by
        show (owe c l + oweT c s) g u = _; rw [Pi.add_apply, Finsupp.add_apply]
      rwa [e] at h
    by_cases h1 : 0 < owe c l g u
    · obtain ⟨s', hs', e⟩ := ih h1; exact ⟨s', List.mem_cons_of_mem _ hs', e⟩
    · refine ⟨s, List.mem_cons_self, ?_⟩
      have h2 : 0 < oweT c s g u := by omega
      unfold oweT at h2
      split at h2
      · rw [tallyAt_apply] at h2
        by_contra hn
        rw [if_neg (fun h => hn h.1)] at h2; exact absurd h2 (Nat.lt_irrefl 0)
      · exact absurd h2 (Nat.lt_irrefl 0)

/-- A device may wait on a semaphore of level below everything it still owes. -/
theorem mayWait (c : Dev nD) (sm : SemLoc sig) (l : List S) (h : ∀ s ∈ l, lv ((c : Thread nD τ), sm) () < level (srcv s)) :
    (levAts L lv : sProp 𝕄) ⊢ MayWait (c : Thread nD τ) sm () (owe c l) :=
  MayOwe.of_cut (L := L) (lev := lv) (lv ((c : Thread nD τ), sm) ())
    (fun p hp => by rw [Finset.mem_singleton.mp hp, L_tc]; exact Finset.mem_singleton_self _)
    (fun g u hg => by obtain ⟨s, -, rfl⟩ := owe_pos hg; exact Finset.mem_singleton_self _)
    (fun p hp => by rw [Finset.mem_singleton.mp hp])
    (fun g u hg => by obtain ⟨s, hs, rfl⟩ := owe_pos hg; rw [lv_cell]; exact h s hs)

end Cert.KernelIdeal.Hand

end
-- ==== Proof.OpsIdeal.lean ====
/- One rule per operation of the kernel: a barrier signal, a transfer's start, the wait on a cell. -/
module

public import proofs.«01_k».proof.Proof.ScheduleIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-- Every cell's invariant, under the names `K`, that every cell's round 0 is reached, and the levels: what every device
    knows throughout. -/
def Env (K : Dev nD × Cell → ℕ) : sProp 𝕄 :=
  iprop((bigSep Finset.univ fun ck : Dev nD × Cell => cellInv ER (rd m) (K ck) (cell ck.1 ck.2))
    ∗ (bigSep Finset.univ fun ck : Dev nD × Cell => reached ER (cell ck.1 ck.2) 0) ∗ levAts L lv)
instance Env_persistent (K : Dev nD × Cell → ℕ) : BI.Persistent (Env m K) := by unfold Env; infer_instance

variable (K : Dev nD × Cell → ℕ)

theorem env_inv (c : Dev nD) (x : Cell) : Env m K ⊢ cellInv ER (rd m) (K (c, x)) (cell c x) :=
  BI.Laws.sep_elim_left.trans (bigSep_elim (Finset.mem_univ ((c, x) : Dev nD × Cell)))
theorem env_reached (c : Dev nD) (x : Cell) : Env m K ⊢ reached ER (cell c x) 0 :=
  BI.Laws.sep_elim_right.trans (BI.Laws.sep_elim_left.trans (bigSep_elim (Finset.mem_univ ((c, x) : Dev nD × Cell))))
theorem env_lev : Env m K ⊢ (levAts L lv : sProp 𝕄) := by
  unfold Env; iintro ⟨-, -, H⟩; iexact H

/-- The right to wait on one's own cell: one's place in it and the credit for what is to come. -/
def Wt (c : Dev nD) (x : Cell) : sProp 𝕄 := iprop(atPos ER (cell c x) 0 ∅ 0 ∗ cred (tallyAt (cell c x) () (amt x)))
/-- A cell done with: its counter at zero. -/
def Z (c : Dev nD) (x : Cell) : sProp 𝕄 := semVal (cell c x) 0
/-- The two duties a transfer pays. -/
def Tk (c : Dev nD) (x : X) : sProp 𝕄 :=
  iprop(dutyTok ER (cell c (sc x)) 0 (0 : B) ∗ dutyTok ER (cell (tgt x c) (rc x)) 0 (0 : B))
/-- All a transfer takes beside its source: one's place in the cell counting it out, its duties, its landing place. -/
def Snd (c : Dev nD) (x : X) : sProp 𝕄 := iprop(atPos ER (cell c (sc x)) 0 ∅ 0 ∗ Tk c x ∗ landPt m x c)

/-- A cell nothing raises is done with from the start; -/
theorem close0 (c : Dev nD) (x : Cell) (h : dut c x = ∅) : iprop(Env m K ∗ atPos ER (cell c x) 0 ∅ 0) ⊢ |={Set.univ}=> Z c x := by
  iintro ⟨#HE, Hat⟩
  iapply (Rounds.cell_close ER (rd m) (Set.mem_univ (K (c, x))) (fun h => h) (R := 0) (g := cell c x) (fun r _ => by
    rcases r with _ | r
    · rw [rd_duties, h]
    · exact rd_later m _ _ (by omega)))
  isplitr; · iapply (env_inv m K c x); iexact HE
  iexact Hat
/-- any other after its round. -/
theorem close1 (c : Dev nD) (x : Cell) : iprop(Env m K ∗ atPos ER (cell c x) (0 + 1) ∅ 0) ⊢ |={Set.univ}=> Z c x := by
  iintro ⟨#HE, Hat⟩
  iapply (Rounds.cell_close ER (rd m) (Set.mem_univ (K (c, x))) (fun h => h) (R := 0 + 1) (g := cell c x) (rd_later m _))
  isplitr; · iapply (env_inv m K c x); iexact HE
  iexact Hat

/-- The wait on one's own cell of a transfer: what its duty hands over, the cell done with. -/
theorem wp_recv (c : Dev nD) (f : Fin 10) (i : Fin 6) (hl : live c (some (f, i)) = true) {sem : DmaSem sig} (hs : sem = num f i)
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = amt (some (f, i))) (l : List S) (hlv : ∀ s ∈ l, level (some (f, i)) < level (srcv s))
    {α : Type} {Q : α → sProp 𝕄} {k : PUnit → Prog (TpuEff nD τ sig (Elt F) Λ₀ .tc) α} :
    iprop(Env m K ∗ Wt c (some (f, i)) ∗ Ow c l)
      ⊢ iprop((iprop(pay m c (some (f, i)) 0 ∗ Z c (some (f, i)) ∗ Ow c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  subst hs
  unfold Wt Ow
  iintro ⟨#HE, ⟨Hat, Hcr⟩, ⟨%W, HO⟩⟩ Hk
  have hd : dut c (some (f, i)) = {0} := if_pos hl
  iapply (Rounds.wp_wait_rest_token 𝒱₀ ER (rd m) (c : Thread nD τ) none (κ := K (c, some (f, i))) (sm := csem (some (f, i)))
      (wpE_waitDma2_eq 𝒱₀ (c : Thread nD τ) none Set.univ) (Set.mem_univ _) () (O := owe c l) (W := W) (R := 0) (m := 0) (T := ∅)
      (by rw [Nat.zero_add, hN]; exact ((rd_expect m c (some (f, i))).trans (by rw [hd, Finset.card_singleton, Nat.one_mul])).symm)) $$ [Hcr HO Hat]
  · isplitr; · iapply (env_inv m K c (some (f, i))); iexact HE
    isplitl [Hcr]; · rw [hN]; iexact Hcr
    isplitl [HO]; · iexact HO
    isplitr
    · iapply (mayWait c (csem (some (f, i))) l (fun s hs => by
        rw [show lv ((c : Thread nD τ), csem (some (f, i))) () = level (some (f, i)) from lv_cell c _]; exact hlv s hs))
      iapply (env_lev m K); iexact HE
    iexact Hat
  iintro ⟨HO, Hat, -, Hpay⟩
  imod (close1 m K c (some (f, i))) $$ [Hat] with HZ
  · isplitr; · iexact HE
    iexact Hat
  iapply Hk
  isplitl [Hpay]
  · have e : bigSep ((rd (F := F) m).duties ((c : Thread nD τ), csem (some (f, i))) 0 \ ∅) (fun b => (rd m).payload ((c : Thread nD τ), csem (some (f, i))) 0 b) = pay m c (some (f, i)) 0 := by
      change bigSep ((rd (F := F) m).duties (cell c (some (f, i))) 0 \ ∅) (fun b => (rd m).payload (cell c (some (f, i))) 0 b) = _
      rw [Finset.sdiff_empty, rd_duties, hd, bigSep_singleton, rd_payload]
    ihave H := (Entails.of_eq e) $$ Hpay
    iexact H
  isplitl [HZ]; · iexact HZ
  iexists _; iexact HO

/-- A transfer's start, by what the program names: its source out of what the sender lends, its landing place rewritten to
    what the target shall hold. -/
theorem wp_send_gen (c n : Dev nD) (x : X) (hon : on x c = true) (hn : n = tgt x c) {sS sR : DmaSem sig}
    (hsS : csem (sc x) = .dma sS) (hsR : csem (rc x) = .dma sR)
    {sp sp' : Space} {s : Shape} {e : EltTy}
    {srcM : Memref sig .tc sp s e} {dstM : Memref sig .tc sp' s e}
    {hsc : dstM.view.ref.isScScratch = false} {hsrc : srcM.view.WordExact} {hdst : dstM.view.WordExact}
    {hsem : DmaTarget.Typed sp (.dma sR) (.remote (Dev.tc n : Thread nD τ) dstM (.dma sS) hsc)}
    (hN : dstM.view.dmaCredit = cr (len x)) (l : List S)
    {q : PosShare TreeShare} {fs : Buf (Elt F) (srcM.view.loc (c : Thread nD τ))} {fd : Buf (Elt F) (dstM.view.loc (n : Thread nD τ))}
    (hpS : sendPay m x c = (srcM.view.loc (c : Thread nD τ) ↦[srcM.view.set]{q} fs))
    (hpL : landPt m x c = (dstM.view.loc (n : Thread nD τ) ↦[dstM.view.set]{fullShare} fd))
    (hpR : (dstM.view.loc (n : Thread nD τ) ↦[dstM.view.set]{fullShare} (dstM.view.write (Elt F) fd (srcM.view.read (Elt F) fs) Finset.univ)) ⊢ recvPay m x (tgt x c))
    {α : Type} {Q : α → sProp 𝕄} {k : PUnit → Prog (TpuEff nD τ sig (Elt F) Λ₀ .tc) α} :
    iprop(Env m K ∗ Snd m c x ∗ sendPay m x c ∗ Ow c (.inr x :: l))
      ⊢ iprop((iprop(Wt c (sc x) ∗ Ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma srcM (.remote (Dev.tc n : Thread nD τ) dstM (.dma sS) hsc) (.dma sR) hsrc hdst hsem) k) Q) := by
  subst hn
  have hc1 : cell c (sc x) = ((c : Thread nD τ), SemLoc.dma sS) := by unfold cell; rw [hsS]
  have hc2 : cell (tgt x c) (rc x) = ((tgt x c : Thread nD τ), SemLoc.dma sR) := by unfold cell; rw [hsR]
  have hm1 : (0 : B) ∈ (rd (F := F) m).duties (cell c (sc x)) 0 := by
    rw [rd_duties, show dut c (sc x) = {0} from if_pos ((live_sc x c).trans hon)]; exact Finset.mem_singleton_self _
  have hm2 : (0 : B) ∈ (rd (F := F) m).duties (cell (tgt x c) (rc x)) 0 := by
    rw [rd_duties, show dut (tgt x c) (rc x) = {0} from if_pos ((live_rc x c).trans hon)]; exact Finset.mem_singleton_self _
  have ha1 : (rd (F := F) m).amount (cell c (sc x)) 0 0 = cr (len x) := (rd_amount m c _ _).trans (amt_sc x)
  have ha2 : (rd (F := F) m).amount (cell (tgt x c) (rc x)) 0 0 = cr (len x) := (rd_amount m _ _ _).trans (amt_rc x)
  have hp1 : (rd (F := F) m).payload (cell c (sc x)) 0 0 = sendPay m x c := (rd_payload m c _ _).trans (pay_sc m x c 0)
  have hp2 : (rd (F := F) m).payload (cell (tgt x c) (rc x)) 0 0 = recvPay m x (tgt x c) := (rd_payload m _ _ _).trans (pay_rc m x _ 0)
  have ho : owe c (.inr x :: l) = owe c l + tallyAt (cell (tgt x c) (rc x)) () (cr (len x)) := by
    rw [owe_on (show son (.inr x) c = true from hon)]
    show owe c l + tallyAt (cell (tgt x c) (rc x)) () (amt (rc x)) = _; rw [amt_rc]
  unfold Snd Tk Wt Ow
  rw [amt_sc, hpS, hpL, ho]
  iintro ⟨#HE, ⟨Hat, ⟨Ht1, Ht2⟩, Hl⟩, Hs, ⟨%W, HO⟩⟩ Hk
  ihave #HI1 := (env_inv m K c (sc x)) $$ HE
  ihave #HI2 := (env_inv m K (tgt x c) (rc x)) $$ HE
  ihave #HR1 := (env_reached m K c (sc x)) $$ HE
  ihave #HR2 := (env_reached m K (tgt x c) (rc x)) $$ HE
  rw [hc1] at hm1 ha1 hp1 ⊢
  rw [hc2] at hm2 ha2 hp2 ⊢
  iapply (Rounds.wp_send_pointsTo 𝒱₀ ER (rd m) (c : Thread nD τ) none (κ₁ := K (c, sc x)) (κ₂ := K (tgt x c, rc x))
    (r₁ := 0) (r₂ := 0) (d₁ := (0 : B)) (d₂ := (0 : B)) (fd := fd) (fs := fs) (q := q)
    hm1 hm2 () () (cr (len x)) hN ha1 ha2 (owe c l) rfl (W := W)
    (by rw [hp1, hpS]) (by rw [hp2]; exact hpR)) $$ [Hs Hl HO Ht1 Ht2]
  · isplitr; · iexact HI1
    isplitr; · iexact HI2
    isplitl [Hs]; · iexact Hs
    isplitl [Hl]; · iexact Hl
    isplitl [HO]; · iexact HO
    isplitl [Ht1]; · iexact Ht1
    isplitr; · iexact HR1
    isplitl [Ht2]; · iexact Ht2
    iexact HR2
  iintro ⟨Hcr, HO⟩
  iapply Hk
  isplitl [Hat Hcr]
  · isplitl [Hat] <;> iassumption
  iexists W; iexact HO

/-- A transfer's start, rows of the result: its source and its landing place by the rows the program names. -/
theorem wp_send (c n : Dev nD) (x : X) (hon : on x c = true) (hf : first x = false) (hn : n = tgt x c) {sS sR : DmaSem sig}
    (hsS : csem (sc x) = .dma sS) (hsR : csem (rc x) = .dma sR)
    {w : ℕ} (hw : w = len x) {off : Fin 2 → ℕ} {inb inb'} {hl hl'} (ho : off 0 = lo x c ∧ off 1 = 0)
    {hsc} {hsrc} {hdst} {hsem} (l : List S)
    {α : Type} {Q : α → sProp 𝕄} {k : PUnit → Prog (TpuEff nD τ sig (Elt F) Λ₀ .tc) α} :
    iprop(Env m K ∗ Snd m c x ∗ sendPay m x c ∗ Ow c (.inr x :: l))
      ⊢ iprop((iprop(Wt c (sc x) ∗ Ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM.slice (Rect.unit (s := S65536x1024) off (rowsS w).size inb) hl : Memref sig .tc .hbm (rowsS w) .f32)
              (.remote (Dev.tc n : Thread nD τ) (oM.slice (Rect.unit (s := S65536x1024) off (rowsS w).size inb') hl' : Memref sig .tc .hbm (rowsS w) .f32) (.dma sS) hsc)
              (.dma sR) hsrc hdst hsem) k) Q) := by
  subst hw hn
  obtain ⟨h0, h1⟩ := ho
  refine wp_send_gen m K c _ x hon rfl hsS hsR rfl l (q := shr x) (fs := G m c) (fd := argO m (tgt x c)) ?_ ?_ ?_
  · rw [set_o h0 h1]; unfold sendPay; rw [if_neg (by rw [hf]; decide)]; rfl
  · rw [set_o h0 h1]; rfl
  · rw [set_o h0 h1]
    refine Entails.of_eq ((pointsTo_congr (g := G m (tgt x c)) ?_).trans ?_)
    · rw [← h0]
      refine write_oo _ _ _ rfl h1 fun i hi => ?_
      rw [mem_rows, h0] at hi
      unfold G; rw [src_tgt x c hon hf hi.1 hi.2]
    · unfold recvPay; rw [Equiv.symm_apply_apply]; rfl

/-- A first step sends a quarter. -/
theorem len_first : ∀ x : X, first x = true → len x = 4096 := by decide

/-- A first step's start: rows of the argument. -/
theorem wp_send_first (c n : Dev nD) (x : X) (hon : on x c = true) (hf : first x = true) (hn : n = tgt x c) {sS sR : DmaSem sig}
    (hsS : csem (sc x) = .dma sS) (hsR : csem (rc x) = .dma sR)
    {off off' : Fin 2 → ℕ} {inb inb'} {hl hl'} (ho : off 0 = pc c * 4096 ∧ off 1 = 0) (ho' : off' 0 = lo x c ∧ off' 1 = 0)
    {hsc} {hsrc} {hdst} {hsem} (l : List S)
    {α : Type} {Q : α → sProp 𝕄} {k : PUnit → Prog (TpuEff nD τ sig (Elt F) Λ₀ .tc) α} :
    iprop(Env m K ∗ Snd m c x ∗ sendPay m x c ∗ Ow c (.inr x :: l))
      ⊢ iprop((iprop(Wt c (sc x) ∗ Ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xM.slice (Rect.unit (s := S16384x1024) off (rowsS 4096).size inb) hl : Memref sig .tc .hbm (rowsS 4096) .f32)
              (.remote (Dev.tc n : Thread nD τ) (oM.slice (Rect.unit (s := S65536x1024) off' (rowsS 4096).size inb') hl' : Memref sig .tc .hbm (rowsS 4096) .f32) (.dma sS) hsc)
              (.dma sR) hsrc hdst hsem) k) Q) := by
  subst hn
  obtain ⟨h0, h1⟩ := ho
  obtain ⟨h0', h1'⟩ := ho'
  have hlen : len x = 4096 := len_first x hf
  refine wp_send_gen m K c _ x hon rfl hsS hsR (by rw [hlen]; rfl) l (q := shr x) (fs := argX m c) (fd := argO m (tgt x c)) ?_ ?_ ?_
  · rw [set_x h0 h1]; unfold sendPay; rw [if_pos hf]; rfl
  · rw [set_o h0' h1']; unfold landPt; rw [hlen]; rfl
  · rw [set_o h0' h1']
    refine Entails.of_eq ((pointsTo_congr (g := G m (tgt x c)) ?_).trans ?_)
    · rw [← h0']
      refine write_xo _ _ _ h1 h1' fun i hi j hj0 hj1 => ?_
      rw [mem_rows, h0', ← hlen] at hi
      obtain ⟨e1, e2, e3, -⟩ := src_first x c hon hf hi.1 hi.2
      unfold G; rw [e1]
      refine congrArg (argX m c) (idx_ext ?_ hj1)
      show (j 0).val = (i 0).val % 16384
      omega
    · unfold recvPay; rw [Equiv.symm_apply_apply, hlen]; rfl

/-- A barrier signal: what it hands over given. -/
theorem wp_bar (c n : Dev nD) (b : B) (hon : bon b c = true) (hn : n = btgt b c) (l : List S)
    {α : Type} {Q : α → sProp 𝕄} {k : PUnit → Prog (TpuEff nD τ sig (Elt F) Λ₀ .tc) α} :
    iprop(Env m K ∗ dutyTok ER (cell (btgt b c) none) 0 b ∗ barPay m b (btgt b c) ∗ Ow c (.inl b :: l))
      ⊢ iprop((Ow c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  have hm : b ∈ (rd (F := F) m).duties (cell (btgt b c) none) 0 := by
    rw [rd_duties]; show b ∈ bset _; unfold bset
    rw [Finset.mem_filter, Equiv.symm_apply_apply]; exact ⟨Finset.mem_univ _, hon⟩
  unfold Ow
  rw [owe_on (show son (.inl b) c = true from hon)]
  iintro ⟨#HE, Ht, Hp, ⟨%W, HO⟩⟩ Hk
  iapply (Rounds.wp_signal 𝒱₀ ER (rd m) (c : Thread nD τ) none (dst := (btgt b c : Thread nD τ)) (sem := barS) (κ := K (btgt b c, none))
      (d := b) hm (rd_amount m (btgt b c) none b) () (owe c l) rfl) $$ [Ht Hp HO]
  · isplitr; · iapply (env_inv m K (btgt b c) none); iexact HE
    isplitl [HO]; · iexact HO
    isplitl [Ht]; · iexact Ht
    isplitl [Hp]; · rw [show (rd (F := F) m).payload ((btgt b c : Thread nD τ), SemLoc.reg barS) 0 b = barPay m b (btgt b c) from rd_payload m (btgt b c) none b]; iexact Hp
    iapply (env_reached m K (btgt b c) none); iexact HE
  iintro HO
  iapply Hk
  iexists W; iexact HO

end Cert.KernelIdeal.Hand

end
-- ==== Proof.WaitsIdeal.lean ====
/- The waits of the entry barrier and the copies that stay on a device. -/
module

public import proofs.«01_k».proof.Proof.OpsIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- What a device has of its barrier once it has waited for `n` signals: for all of them, the rights to write that come
    with them; for fewer, those of some. -/
def Bar (c : Dev nD) (n : ℕ) : sProp 𝕄 :=
  if n = (bset c).card then iprop(bigSep (bset c) (fun b => barPay m b c) ∗ Z c none)
  else iprop(∃ T : Finset B, ⌜T ⊆ bset c⌝ ∗ atPos ER (cell c none) 0 T n ∗ cred (tallyAt (cell c none) () ((bset c).card - n))
    ∗ bigSep T (fun b => barPay m b c))

/-- A barrier wait. -/
theorem wp_barwait (c : Dev nD) (n k' : ℕ) (hk0 : 0 < k') (hn : n + k' ≤ (bset c).card) (l : List S) (hlv : ∀ s ∈ l, 1 < level (srcv s))
    {α : Type} {Q : α → sProp 𝕄} {k : PUnit → Prog (TpuEff nD τ sig (Elt F) Λ₀ .tc) α} :
    iprop(Env m K ∗ Bar m c n ∗ Ow c l)
      ⊢ iprop((iprop(Bar m c (n + k') ∗ Ow c l) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  have hex : (rd (F := F) m).expect ((c : Thread nD τ), SemLoc.reg barS) 0 = (bset c).card :=
    (rd_expect m c none).trans (Nat.mul_one _)
  have hdu : (rd (F := F) m).duties ((c : Thread nD τ), SemLoc.reg barS) 0 = bset c := rd_duties m c none
  have hpy : ∀ b, (rd (F := F) m).payload ((c : Thread nD τ), SemLoc.reg barS) 0 b = barPay m b c := fun b => rd_payload m c none b
  have hmw := mayWait (F := F) c (.reg barS) l (fun s hs => by
    rw [show lv ((c : Thread nD τ), SemLoc.reg barS) () = level none from lv_cell c none]; exact hlv s hs)
  unfold Bar Ow
  rw [if_neg (by omega : ¬ n = (bset c).card)]
  iintro ⟨#HE, ⟨%T, %hT, Hat, Hcr, HT⟩, ⟨%W, HO⟩⟩ Hk
  by_cases hlast : n + k' = (bset c).card
  · rw [if_pos hlast]
    iapply (Rounds.wp_wait_rest_token 𝒱₀ ER (rd m) (c : Thread nD τ) none (κ := K (c, none)) (sm := .reg barS)
      (wpE_semWait_eq 𝒱₀ (c : Thread nD τ) none Set.univ) (Set.mem_univ _) () (O := owe c l) (W := W) (R := 0) (m := n) (T := T)
      (by rw [hex]; exact hlast)) $$ [Hcr HO Hat]
    · isplitr; · iapply (env_inv m K c none); iexact HE
      isplitl [Hcr]; · rw [show (bset c).card - n = k' by omega]; iexact Hcr
      isplitl [HO]; · iexact HO
      isplitr; · iapply hmw; iapply (env_lev m K); iexact HE
      iexact Hat
    iintro ⟨HO, Hat, -, Hpay⟩
    imod (close1 m K c none) $$ [Hat] with HZ
    · isplitr; · iexact HE
      iexact Hat
    iapply Hk
    isplitr [HO]
    · isplitr [HZ]
      · have e : iprop(bigSep T (fun b => barPay m b c) ∗ bigSep ((rd (F := F) m).duties ((c : Thread nD τ), SemLoc.reg barS) 0 \ T)
              (fun b => (rd m).payload ((c : Thread nD τ), SemLoc.reg barS) 0 b)) ⊢ bigSep (bset c) (fun b => barPay m b c) := by
          rw [hdu, bigSep_congr (fun b _ => hpy b)]; exact Entails.of_eq (bigSep_sdiff_split hT).symm
        iapply e
        isplitl [HT] <;> iassumption
      iexact HZ
    iexists _; iexact HO
  · rw [if_neg hlast]
    have hcr : (cred (tallyAt (cell c none) () ((bset c).card - n)) : sProp 𝕄)
        ⊢ iprop(cred (tallyAt (cell c none) () k') ∗ cred (tallyAt (cell c none) () ((bset c).card - (n + k')))) := by
      rw [show (bset c).card - n = k' + ((bset c).card - (n + k')) by omega, ← tallyAt_add]
      exact (cred_add _ _).1
    ihave ⟨Hc1, Hc2⟩ := hcr $$ Hcr
    iapply (Rounds.wp_wait 𝒱₀ (Γ := _) ER (rd m) (c : Thread nD τ) none (κ := K (c, none)) (sm := .reg barS) (k' := k')
      (wpE_semWait_eq 𝒱₀ (c : Thread nD τ) none Set.univ) (Set.mem_univ _) (cr := Finsupp.single () k') (O := owe c l) (W := W)
      {(SemLoc.reg barS, ())} (R := 0) (m := n) (T := T) (Util.total_single _ _) (image_single_subset _ _ _)) $$ [Hc1 HO Hat]
    · isplitr; · iapply (env_inv m K c none); iexact HE
      isplitl [Hc1]; · iexact Hc1
      isplitl [HO]; · iexact HO
      isplitr; · iapply hmw; iapply (env_lev m K); iexact HE
      iexact Hat
    iintro %S' ⟨%hS, HO, Hat, Hpay⟩
    iapply Hk
    isplitr [HO]
    · iexists S'
      rw [hdu] at hS
      isplitr; · ipureintro; exact hS.2.1
      isplitl [Hat]; · iexact Hat
      isplitl [Hc2]; · iexact Hc2
      have e : iprop(bigSep T (fun b => barPay m b c) ∗ bigSep (S' \ T)
            (fun b => (rd (F := F) m).payload ((c : Thread nD τ), SemLoc.reg barS) 0 b)) ⊢ bigSep S' (fun b => barPay m b c) := by
        rw [bigSep_congr (fun b _ => hpy b)]; exact Entails.of_eq (bigSep_sdiff_split hS.1).symm
      iapply e
      isplitl [HT] <;> iassumption
    iexists _; iexact HO

/-! ## The copies that stay on the device -/

/-- No cell is among the semaphores of the copies that stay on the device. -/
theorem lv_loc (c : Dev nD) (s : DmaSem sig) (h : s.val < 4) : lv ((c : Thread nD τ), .dma s) () = 0 := by
  unfold lv dec
  rw [dif_neg]
  rintro ⟨x, hx⟩
  rcases x with _ | ⟨f, i⟩
  · cases hx
  · have := num_ge f i
    have e : num f i = s := by injection hx
    rw [e] at this; omega

/-- The argument, all of it, at the share the copies read it at. -/
def argL (c : Dev nD) : sProp 𝕄 := argPt c fullShare.right.right 0 16384 (argX m c)
/-- A slot of the scratch buffer, whatever it holds. -/
def slotE (c : Dev nD) (v : Memref sig .tc .vmem S4096x1024 .f32) : sProp 𝕄 :=
  iprop(∃ f, v.view.loc (c : Thread nD τ) ↦[v.view.set]{fullShare} f)
/-- A slot of the scratch buffer holding the rows of the argument from row `a`. -/
def slotF (c : Dev nD) (v : Memref sig .tc .vmem S4096x1024 .f32) (a : ℕ) : sProp 𝕄 :=
  iprop(∃ f : Buf (Elt F) (v.view.loc (c : Thread nD τ)),
    ⌜∀ (y : (rowsS 4096).Idx) (j : (rowsS 16384).Idx), (j 0).val = a + (y 0).val → (j 1).val = (y 1).val → v.view.read (Elt F) f y = argX m c j⌝
      ∗ v.view.loc (c : Thread nD τ) ↦[v.view.set]{fullShare} f)
/-- The rest of the argument while a copy reads the rows from row `a`. -/
def argR (c : Dev nD) (a : ℕ) : sProp 𝕄 :=
  ((c : Thread nD τ).loc main_arg0) ↦[(rows 16384 0 16384 \ rows 16384 a 4096 : Finset (Idx ((c : Thread nD τ).loc main_arg0)))]{fullShare.right.right} argX m c
/-- A copy into a slot under way. -/
def flyIn (c : Dev nD) (v : Memref sig .tc .vmem S4096x1024 .f32) (a : ℕ) (sem : DmaSem sig) : sProp 𝕄 :=
  iprop((∃ D : sProp 𝕄, ⌜D ⊢ iprop(slotF m c v a ∗ argPt c fullShare.right.right a 4096 (argX m c))⌝
    ∗ Transfers.Flight EC (c : Thread nD τ) (.dma sem) () v.view.dmaCredit D) ∗ argR m c a)
/-- A copy out of a slot under way. -/
def flyOut (c : Dev nD) (v : Memref sig .tc .vmem S4096x1024 .f32) (a : ℕ) (sem : DmaSem sig) : sProp 𝕄 :=
  iprop(∃ D : sProp 𝕄, ⌜D ⊢ iprop(slotE c v ∗ outPt c fullShare (zc c * 16384 + a) 4096 (G m c))⌝
    ∗ Transfers.Flight EC (c : Thread nD τ) (.dma sem) () (cr 4096) D)

theorem sub_arg {a : ℕ} (ha : a + 4096 ≤ 16384) : rows 16384 a 4096 ⊆ rows 16384 0 16384 := fun i hi => by
  rw [mem_rows] at hi ⊢; omega

/-- A copy into a slot starts. -/
theorem wp_in (c : Dev nD) (v : Memref sig .tc .vmem S4096x1024 .f32) (a : ℕ) (ha : a + 4096 ≤ 16384) (sem : DmaSem sig)
    {off : Fin 2 → ℕ} {inb} {hl} (ho : off 0 = a ∧ off 1 = 0) {hsrc} {hdst} {hsem}
    {α : Type} {Q : α → sProp 𝕄} {k : PUnit → Prog (TpuEff nD τ sig (Elt F) Λ₀ .tc) α} :
    iprop(argL m c ∗ slotE c v ∗ semVal ((c : Thread nD τ), .dma sem) 0)
      ⊢ iprop((flyIn m c v a sem -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xM.slice (Rect.unit (s := S16384x1024) off (rowsS 4096).size inb) hl : Memref sig .tc .hbm (rowsS 4096) .f32)
              (.here v) (.dma sem) hsrc hdst hsem) k) Q) := by
  obtain ⟨h0, h1⟩ := ho
  unfold argL slotE flyIn argPt argR
  iintro ⟨Ha, ⟨%f, Hv⟩, Hs⟩ Hk
  ihave ⟨H1, H2⟩ := (pointsTo_split_subset (sub_arg ha)).1 $$ Ha
  iapply (Transfers.wp_dmaLocal EC 𝒱₀ (c : Thread nD τ) none (src := (xM.slice (Rect.unit (s := S16384x1024) off (rowsS 4096).size inb) hl : Memref sig .tc .hbm (rowsS 4096) .f32)) (dst := v) (sm := .dma sem) (fs := argX m c) (Sd := v.view.set) (fd := f) (q := fullShare.right.right)
    () v.view.dmaCredit rfl (sig.dmaCredit_pos _ _ _ _ _ (by decide)) (Finset.Subset.refl _)) $$ [H1 Hv Hs]
  · isplitl [H1]; · rw [set_x h0 h1]; iexact H1
    isplitl [Hv]; · iexact Hv
    iexact Hs
  iintro HF
  iapply Hk
  isplitr [H2]
  · iexists _
    isplitr [HF]; rotate_left; · iexact HF
    ipureintro
    rw [set_x h0 h1]
    unfold slotF
    iintro ⟨H, H'⟩
    isplitr [H']; rotate_left; · iexact H'
    iexists _
    isplitr [H]; rotate_left; · iexact H
    ipureintro
    intro y j hj0 hj1
    rw [View.read_write_univ]
    refine congrArg (argX m c) (idx_ext ?_ ?_)
    · refine (emb_unit (off := off) (inb := inb) y 0).trans ?_; rw [h0, hj0]
    · refine (emb_unit (off := off) (inb := inb) y 1).trans ?_; rw [h1, hj1, Nat.zero_add]
  iexact H2

/-- The wait for it. -/
theorem wp_in_wait (c : Dev nD) (v : Memref sig .tc .vmem S4096x1024 .f32) (a : ℕ) (ha : a + 4096 ≤ 16384) (sem : DmaSem sig) (hs4 : sem.val < 4)
    (l : List S) (hlv : ∀ s ∈ l, 0 < level (srcv s))
    {sp' : Space} {s' : Shape} {e' : EltTy} {srcw : Memref sig .tc sp' s' e'} {hsrc} {hdst}
    {α : Type} {Q : α → sProp 𝕄} {k : PUnit → Prog (TpuEff nD τ sig (Elt F) Λ₀ .tc) α} :
    iprop(Env m K ∗ flyIn m c v a sem ∗ Ow c l)
      ⊢ iprop((iprop(slotF m c v a ∗ argL m c ∗ semVal ((c : Thread nD τ), .dma sem) 0 ∗ Ow c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw v hsrc hdst) k) Q) := by
  unfold flyIn Ow
  iintro ⟨#HE, ⟨⟨%D, %hD, HF⟩, HR⟩, ⟨%W, HO⟩⟩ Hk
  iapply (Transfers.wp_waitLocalO EC 𝒱₀ (c : Thread nD τ) none () rfl) $$ [HF HO]
  · isplitl [HF]; · iexact HF
    isplitl [HO]; · iexact HO
    iapply (mayWait c (.dma sem) l (fun s hs => by rw [lv_loc c sem hs4]; exact hlv s hs))
    iapply (env_lev m K); iexact HE
  iintro ⟨HD, Hs, HO⟩
  ihave ⟨Hf, Ha⟩ := hD $$ HD
  iapply Hk
  isplitl [Hf]; · iexact Hf
  isplitl [Ha HR]
  · unfold argL argPt argR
    iapply (pointsTo_split_subset (sub_arg ha)).2
    isplitl [Ha] <;> iassumption
  isplitl [Hs]; · iexact Hs
  iexists _; iexact HO

/-- A copy out of a slot starts: what it will leave in the result is final. -/
theorem wp_out (c : Dev nD) (v : Memref sig .tc .vmem S4096x1024 .f32) (a : ℕ) (ha : a + 4096 ≤ 16384) (sem : DmaSem sig)
    {off : Fin 2 → ℕ} {inb} {hl} (ho : off 0 = zc c * 16384 + a ∧ off 1 = 0) {hsrc} {hdst} {hsem}
    {α : Type} {Q : α → sProp 𝕄} {k : PUnit → Prog (TpuEff nD τ sig (Elt F) Λ₀ .tc) α} :
    iprop(slotF m c v a ∗ outPt c fullShare (zc c * 16384 + a) 4096 (argO m c) ∗ semVal ((c : Thread nD τ), .dma sem) 0)
      ⊢ iprop((flyOut m c v a sem -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma v (.here (oM.slice (Rect.unit (s := S65536x1024) off (rowsS 4096).size inb) hl : Memref sig .tc .hbm (rowsS 4096) .f32))
              (.dma sem) hsrc hdst hsem) k) Q) := by
  obtain ⟨h0, h1⟩ := ho
  unfold slotF flyOut outPt
  iintro ⟨⟨%f, %hf, Hv⟩, Ho, Hs⟩ Hk
  iapply (Transfers.wp_dmaLocal EC 𝒱₀ (c : Thread nD τ) none (src := v) (dst := (oM.slice (Rect.unit (s := S65536x1024) off (rowsS 4096).size inb) hl : Memref sig .tc .hbm (rowsS 4096) .f32)) (sm := .dma sem) (fs := f) (Sd := rows 65536 (zc c * 16384 + a) 4096) (fd := argO m c) (q := fullShare)
    () (cr 4096) rfl (cr_pos (by omega)) (Finset.Subset.trans (Finset.subset_of_eq (set_o h0 h1)) (Finset.Subset.refl _))) $$ [Hv Ho Hs]
  · isplitl [Hv]; · iexact Hv
    isplitl [Ho]; · iexact Ho
    iexact Hs
  iintro HF
  iapply Hk
  iexists _
  isplitr [HF]; rotate_left; · iexact HF
  ipureintro
  unfold slotE
  iintro ⟨H, H'⟩
  isplitl [H']; · iexists _; iexact H'
  iapply (Entails.of_eq (pointsTo_congr ?_))
  rotate_left; · iexact H
  intro i hi
  rw [← set_o (inb := inb) (hl := hl) h0 h1] at hi
  obtain ⟨y, -, rfl⟩ := Finset.mem_map.mp hi
  refine (View.write_emb_of_mem _ _ (Finset.mem_univ y)).trans ?_
  have e0 : ((Rect.unit (s := S65536x1024) off (rowsS 4096).size inb).emb y 0).val = zc c * 16384 + a + (y 0).val := by
    rw [emb_unit, h0]
  have e1 : ((Rect.unit (s := S65536x1024) off (rowsS 4096).size inb).emb y 1).val = (y 1).val := by
    rw [emb_unit, h1, Nat.zero_add]
  have hy : (y 0).val < 4096 := (y 0).isLt
  have hs : src c (zc c * 16384 + a + (y 0).val) = c := by unfold src; rw [if_pos (by omega)]
  refine (hf y (at2 ⟨a + (y 0).val, by omega⟩ (y 1)) rfl rfl).trans ?_
  show _ = argX m (src c ((Rect.unit (s := S65536x1024) off (rowsS 4096).size inb).emb y 0).val) _
  rw [e0, hs]
  refine congrArg (argX m c) (idx_ext ?_ ?_)
  · show a + (y 0).val = ((Rect.unit (s := S65536x1024) off (rowsS 4096).size inb).emb y 0).val % 16384
    rw [e0]; omega
  · exact e1.symm

/-- The wait for it. -/
theorem wp_out_wait (c : Dev nD) (v : Memref sig .tc .vmem S4096x1024 .f32) (a : ℕ) (sem : DmaSem sig) (hs4 : sem.val < 4)
    (l : List S) (hlv : ∀ s ∈ l, 0 < level (srcv s))
    {sp' : Space} {s' : Shape} {e' : EltTy} {srcw : Memref sig .tc sp' s' e'} {off : Fin 2 → ℕ} {inb} {hl} {hsrc} {hdst}
    {α : Type} {Q : α → sProp 𝕄} {k : PUnit → Prog (TpuEff nD τ sig (Elt F) Λ₀ .tc) α} :
    iprop(Env m K ∗ flyOut m c v a sem ∗ Ow c l)
      ⊢ iprop((iprop(slotE c v ∗ outPt c fullShare (zc c * 16384 + a) 4096 (G m c) ∗ semVal ((c : Thread nD τ), .dma sem) 0 ∗ Ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 sem srcw (oM.slice (Rect.unit (s := S65536x1024) off (rowsS 4096).size inb) hl : Memref sig .tc .hbm (rowsS 4096) .f32) hsrc hdst) k) Q) := by
  unfold flyOut Ow
  iintro ⟨#HE, ⟨%D, %hD, HF⟩, ⟨%W, HO⟩⟩ Hk
  iapply (Transfers.wp_waitLocalO EC 𝒱₀ (c : Thread nD τ) none () (N := cr 4096) rfl) $$ [HF HO]
  · isplitl [HF]; · iexact HF
    isplitl [HO]; · iexact HO
    iapply (mayWait c (.dma sem) l (fun s hs => by rw [lv_loc c sem hs4]; exact hlv s hs))
    iapply (env_lev m K); iexact HE
  iintro ⟨HD, Hs, HO⟩
  ihave ⟨Hf, Ha⟩ := hD $$ HD
  iapply Hk
  isplitl [Hf]; · iexact Hf
  isplitl [Ha]; · iexact Ha
  isplitl [Hs]; · iexact Hs
  iexists _; iexact HO

end Cert.KernelIdeal.Hand

end
-- ==== Proof.BlocksIdeal.lean ====
/- What a device holds for each step of what travels along the planes, and how the kernel's statements move it on. -/
module

public import proofs.«01_k».proof.Proof.WaitsIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- A program run on device `c`, from here to the end. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Facts of the mesh -/

theorem on_act : ∀ (c : D) (k : Fin 5) (i : Fin 6), k ≠ 0 → on (k, i) c = act (zc c) i := by decide +kernel
theorem live_act : ∀ (c : D) (k : Fin 5) (i : Fin 6), live c (rc (k, i)) = act (zc c) i := by decide +kernel
theorem live_out : ∀ (c : D) (x : X), live c (sc x) = on x c := by decide +kernel
theorem lo_z : ∀ (c : D) (i : Fin 6), act (zc c) i = true → lo (0, i) ((tgt (0, i)).symm c) = lo (1, i) c := by decide +kernel
theorem lo_2 : ∀ (c : D) (i : Fin 6), lo (2, i) c = lo (1, i) c := by decide +kernel
theorem lo_f : ∀ (c : D) (i : Fin 6), st i < 2 → act (zc c) i = true → zact (zc c) (i + 1) = true → lo (0, i + 1) c = lo (1, i) c := by decide +kernel
theorem lo_3 : ∀ (c : D) (i : Fin 6), act (zc c) i = true → lo (1, i) ((tgt (1, i)).symm c) = lo (3, i) c := by decide +kernel
theorem lo_4 : ∀ (c : D) (i : Fin 6), act (zc c) i = true → lo (2, i) ((tgt (2, i)).symm c) + 2048 = lo (4, i) c := by decide +kernel
theorem first_f : ∀ i : Fin 6, st i < 2 → first (0, i + 1) = false := by decide
theorem act_f : ∀ (z : Fin 4) (i : Fin 6), st i < 2 → zact z.val (i + 1) = true → act z.val i = true := by decide +kernel

theorem level_r : ∀ i : Fin 6, level (rc (1, i)) = 5 ∧ level (rc (2, i)) = 5 ∧ level (rc (3, i)) = 6 ∧ level (rc (4, i)) = 6 := by decide
theorem level_s : ∀ x : X, level (sc x) = 0 := by decide

/-- Whether what arrives in a step is sent on along the planes. -/
def fwd (c : Dev nD) (i : Fin 6) : Bool := decide (st i < 2) && zact (zc c) (i + 1)

/-! ## Waits for a transfer -/

/-- The wait for what lands. -/
theorem wp_recvR (c : Dev nD) (k : Fin 5) (i : Fin 6) (hl : act (zc c) i = true) {sem : DmaSem sig} (hs : sem = num ⟨2 * k.val + 1, by omega⟩ i)
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = cr (len (k, i))) (l : List S) (hlv : ∀ s ∈ l, level (rc (k, i)) < level (srcv s))
    {α : Type} {Q : α → sProp 𝕄} {kt : PUnit → Prog (TpuEff nD τ sig (Elt F) Λ₀ .tc) α} :
    iprop(Env m K ∗ Wt c (rc (k, i)) ∗ Ow c l)
      ⊢ iprop((iprop(recvPay m (k, i) c ∗ Z c (rc (k, i)) ∗ Ow c l) -∗ WP c (kt ⟨⟩) Q) -∗ WP c (.op (.waitDma2 sem srcw dstw hsrc hdst) kt) Q) := by
  have h := wp_recv m K c ⟨2 * k.val + 1, by omega⟩ i ((live_act c k i).trans hl) hs (hsrc := hsrc) (hdst := hdst) (hN.trans (amt_rc (k, i)).symm) l hlv (Q := Q) (k := kt)
  rw [show pay m c (some (⟨2 * k.val + 1, by omega⟩, i)) 0 = recvPay m (k, i) c from pay_rc m (k, i) c 0] at h
  exact h

/-- The wait for what leaves. -/
theorem wp_recvS (c : Dev nD) (k : Fin 5) (i : Fin 6) (hl : on (k, i) c = true) {sem : DmaSem sig} (hs : sem = num ⟨2 * k.val, by omega⟩ i)
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = cr (len (k, i))) (l : List S) (hlv : ∀ s ∈ l, level (sc (k, i)) < level (srcv s))
    {α : Type} {Q : α → sProp 𝕄} {kt : PUnit → Prog (TpuEff nD τ sig (Elt F) Λ₀ .tc) α} :
    iprop(Env m K ∗ Wt c (sc (k, i)) ∗ Ow c l)
      ⊢ iprop((iprop(sendPay m (k, i) c ∗ Z c (sc (k, i)) ∗ Ow c l) -∗ WP c (kt ⟨⟩) Q) -∗ WP c (.op (.waitDma2 sem srcw dstw hsrc hdst) kt) Q) := by
  have h := wp_recv m K c ⟨2 * k.val, by omega⟩ i ((live_out c (k, i)).trans hl) hs (hsrc := hsrc) (hdst := hdst) (hN.trans (amt_sc (k, i)).symm) l hlv (Q := Q) (k := kt)
  rw [show pay m c (some (⟨2 * k.val, by omega⟩, i)) 0 = sendPay m (k, i) c from pay_sc m (k, i) c 0] at h
  exact h

/-! ## What is held -/

/-- The nine cells of a step, done with. -/
def Zs (c : Dev nD) (i : Fin 6) : sProp 𝕄 :=
  iprop(Z c (rc (0, i)) ∗ Z c (rc (1, i)) ∗ Z c (rc (2, i)) ∗ Z c (rc (3, i)) ∗ Z c (rc (4, i))
    ∗ Z c (sc (1, i)) ∗ Z c (sc (2, i)) ∗ Z c (sc (3, i)) ∗ Z c (sc (4, i)))
/-- The half of the arrived rows' share that is sent on along the planes, where they are. -/
def Kp (c : Dev nD) (i : Fin 6) : sProp 𝕄 := outPt c fullShare.left (lo (1, i) c) 4096 (G m c)
/-- It is here, unless it was sent on. -/
def KpIf (c : Dev nD) (i : Fin 6) (b : Bool) : sProp 𝕄 := if b = true then iprop(emp) else Kp m c i
/-- The second half of what came from the previous device of the ring, the first half of what came from the next. -/
def Bot (c : Dev nD) (i : Fin 6) : sProp 𝕄 := outPt c fullShare (lo (3, i) c + 2048) 2048 (G m c)
def Top (c : Dev nD) (i : Fin 6) : sProp 𝕄 := outPt c fullShare (lo (2, i) ((tgt (2, i)).symm c)) 2048 (G m c)
/-- The waits for what comes round the ring, and for its halves. -/
def W4 (c : Dev nD) (i : Fin 6) : sProp 𝕄 := iprop(Wt c (rc (1, i)) ∗ Wt c (rc (2, i)) ∗ Wt c (rc (3, i)) ∗ Wt c (rc (4, i)))

/-- Before anything of the step: everything still to come. -/
def on0 (c : Dev nD) (i : Fin 6) : sProp 𝕄 :=
  iprop(Wt c (rc (0, i)) ∗ W4 c i ∗ Snd m c (1, i) ∗ Snd m c (2, i) ∗ Snd m c (3, i) ∗ Snd m c (4, i))
/-- The rows of the step have arrived along the planes. -/
def onZ (c : Dev nD) (i : Fin 6) (b : Bool) : sProp 𝕄 :=
  iprop(KpIf m c i b ∗ sendPay m (1, i) c ∗ sendPay m (2, i) c ∗ Z c (rc (0, i)) ∗ W4 c i
    ∗ Snd m c (1, i) ∗ Snd m c (2, i) ∗ Snd m c (3, i) ∗ Snd m c (4, i))
/-- They have been sent both ways round the ring. -/
def on1 (c : Dev nD) (i : Fin 6) (b : Bool) : sProp 𝕄 :=
  iprop(KpIf m c i b ∗ Z c (rc (0, i)) ∗ W4 c i ∗ Wt c (sc (1, i)) ∗ Wt c (sc (2, i)) ∗ Snd m c (3, i) ∗ Snd m c (4, i))
/-- The neighbours' rows have arrived and their halves been sent on. -/
def on2 (c : Dev nD) (i : Fin 6) (b : Bool) : sProp 𝕄 :=
  iprop(KpIf m c i b ∗ Z c (rc (0, i)) ∗ Z c (rc (1, i)) ∗ Z c (rc (2, i)) ∗ Wt c (rc (3, i)) ∗ Wt c (rc (4, i))
    ∗ Wt c (sc (1, i)) ∗ Wt c (sc (2, i)) ∗ Wt c (sc (3, i)) ∗ Wt c (sc (4, i)) ∗ Bot m c i ∗ Top m c i)
/-- All four quarters of the step are here. -/
def on3 (c : Dev nD) (i : Fin 6) (b : Bool) : sProp 𝕄 :=
  iprop(KpIf m c i b ∗ sendPay m (1, i) c ∗ sendPay m (2, i) c ∗ recvPay m (1, i) c ∗ recvPay m (2, i) c
    ∗ recvPay m (3, i) c ∗ recvPay m (4, i) c ∗ Zs c i)

/-- What is held for a step, if the step concerns the device. -/
def A0 (c : Dev nD) (i : Fin 6) : sProp 𝕄 := if act (zc c) i = true then on0 m c i else Zs c i
def A1 (c : Dev nD) (i : Fin 6) : sProp 𝕄 := if act (zc c) i = true then on1 m c i (fwd c i) else Zs c i
def A2 (c : Dev nD) (i : Fin 6) : sProp 𝕄 := if act (zc c) i = true then on2 m c i (fwd c i) else Zs c i
def A3 (c : Dev nD) (i : Fin 6) : sProp 𝕄 := if act (zc c) i = true then on3 m c i (fwd c i) else Zs c i

/-- For a transfer along the planes: it is still to start (a first step with its rows of the argument), -/
def Y0 (c : Dev nD) (i : Fin 6) : sProp 𝕄 :=
  if zact (zc c) i = true then iprop(Snd m c (0, i) ∗ if first (0, i) = true then sendPay m (0, i) c else iprop(emp)) else Z c (sc (0, i))
/-- it has started, -/
def Y1 (c : Dev nD) (i : Fin 6) : sProp 𝕄 := if zact (zc c) i = true then Wt c (sc (0, i)) else Z c (sc (0, i))
/-- its source is back. -/
def Y2 (c : Dev nD) (i : Fin 6) : sProp 𝕄 := if zact (zc c) i = true then iprop(sendPay m (0, i) c ∗ Z c (sc (0, i))) else Z c (sc (0, i))

/-! ## Shares and halves -/

/-- The arrived rows, in three shares: one for each way they go on. -/
theorem recv_z (c : Dev nD) (i : Fin 6) (ha : act (zc c) i = true) :
    recvPay m (0, i) c ⊣⊢ (iprop(Kp m c i ∗ sendPay m (1, i) c ∗ sendPay m (2, i) c) : sProp 𝕄) := by
  unfold recvPay Kp sendPay
  rw [if_neg (by unfold first; simp), if_neg (by unfold first; simp), lo_z c i ha, lo_2 c i]
  exact (pointsTo_share (PosShare.mem_left_op_right fullShare)).trans
    (sep_congr_right (pointsTo_share (PosShare.mem_left_op_right fullShare.right)))

theorem send_f (c : Dev nD) (i : Fin 6) (hf : fwd c i = true) (ha : act (zc c) i = true) : sendPay m (0, i + 1) c = Kp m c i := by
  unfold fwd at hf
  rw [Bool.and_eq_true, decide_eq_true_eq] at hf
  have hz : zact (zc c) (i + 1) = true := hf.2
  unfold sendPay Kp
  rw [if_neg (by rw [first_f i hf.1]; decide), lo_f c i hf.1 ha hz]
  have e : shr (0, i + 1) = fullShare.left := by
    unfold shr; rw [if_pos rfl, first_f i hf.1]; rfl
  rw [e]; rfl

theorem recv_1 (c : Dev nD) (i : Fin 6) (ha : act (zc c) i = true) :
    recvPay m (1, i) c ⊣⊢ (iprop(sendPay m (3, i) c ∗ Bot m c i) : sProp 𝕄) := by
  unfold recvPay Bot sendPay
  rw [if_neg (by unfold first; simp), lo_3 c i ha]
  show (outPt c fullShare _ (2048 + 2048) _ : sProp 𝕄) ⊣⊢ _
  unfold outPt
  rw [← rows_union]
  exact pointsTo_union (rows_disjoint (Or.inl (le_refl _)))

theorem recv_2 (c : Dev nD) (i : Fin 6) (ha : act (zc c) i = true) :
    recvPay m (2, i) c ⊣⊢ (iprop(Top m c i ∗ sendPay m (4, i) c) : sProp 𝕄) := by
  unfold recvPay Top sendPay
  rw [if_neg (by unfold first; simp), ← lo_4 c i ha]
  show (outPt c fullShare _ (2048 + 2048) _ : sProp 𝕄) ⊣⊢ _
  unfold outPt
  rw [← rows_union]
  exact pointsTo_union (rows_disjoint (Or.inl (le_refl _)))

/-! ## The statements of a step -/

theorem KpIf_false (c : Dev nD) (i : Fin 6) : KpIf m c i false = Kp m c i := if_neg (by decide)
theorem KpIf_true (c : Dev nD) (i : Fin 6) : KpIf m c i true = iprop(emp) := if_pos rfl

/-- The wait for the rows of a step. -/
theorem stZ (c : Dev nD) (i : Fin 6) (ha : act (zc c) i = true) {sem : DmaSem sig} (hs : sem = num 1 i)
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = cr 4096) (l : List S) (hlv : ∀ s ∈ l, level (rc (0, i)) < level (srcv s))
    {α : Type} {Q : α → sProp 𝕄} {kt : PUnit → Prog (TpuEff nD τ sig (Elt F) Λ₀ .tc) α} :
    iprop(Env m K ∗ on0 m c i ∗ Ow c l)
      ⊢ iprop((iprop(onZ m c i false ∗ Ow c l) -∗ WP c (kt ⟨⟩) Q) -∗ WP c (.op (.waitDma2 sem srcw dstw hsrc hdst) kt) Q) := by
  unfold on0 onZ
  rw [KpIf_false]
  iintro ⟨#HE, ⟨HW, HR⟩, HO⟩ Hk
  iapply (wp_recvR m K c 0 i ha hs hN l hlv) $$ [HW HO]
  · isplitr; · iexact HE
    isplitl [HW] <;> iassumption
  iintro ⟨Hp, HZ, HO⟩
  ihave ⟨H0, H1, H2⟩ := (recv_z m c i ha).1 $$ Hp
  iapply Hk
  isplitr [HO]; rotate_left; · iexact HO
  isplitl [H0]; · iexact H0
  isplitl [H1]; · iexact H1
  isplitl [H2]; · iexact H2
  isplitl [HZ]; · iexact HZ
  iexact HR

/-- The rows of a step sent on along the planes. -/
theorem stF (c n : Dev nD) (i : Fin 6) (ha : act (zc c) i = true) (hf : fwd c i = true) (hn : n = tgt (0, i + 1) c)
    {sS sR : DmaSem sig} (hsS : csem (sc (0, i + 1)) = .dma sS) (hsR : csem (rc (0, i + 1)) = .dma sR)
    {off : Fin 2 → ℕ} {inb inb'} {hl hl'} (ho : off 0 = lo (0, i + 1) c ∧ off 1 = 0) {hsc} {hsrc} {hdst} {hsem} (l : List S)
    {α : Type} {Q : α → sProp 𝕄} {k : PUnit → Prog (TpuEff nD τ sig (Elt F) Λ₀ .tc) α} :
    iprop(Env m K ∗ onZ m c i false ∗ Y0 m c (i + 1) ∗ Ow c (.inr (0, i + 1) :: l))
      ⊢ iprop((iprop(onZ m c i true ∗ Y1 c (i + 1) ∗ Ow c l) -∗ WP c (k ⟨⟩) Q)
          -∗ WP c (.op (.enqueueDma (oM.slice (Rect.unit (s := S65536x1024) off (rowsS 4096).size inb) hl : Memref sig .tc .hbm (rowsS 4096) .f32)
              (.remote (Dev.tc n : Thread nD τ) (oM.slice (Rect.unit (s := S65536x1024) off (rowsS 4096).size inb') hl' : Memref sig .tc .hbm (rowsS 4096) .f32) (.dma sS) hsc)
              (.dma sR) hsrc hdst hsem) k) Q) := by
  have hf' := hf
  unfold fwd at hf'
  rw [Bool.and_eq_true, decide_eq_true_eq] at hf'
  have hz : zact (zc c) (i + 1) = true := hf'.2
  have h1 := first_f i hf'.1
  unfold onZ Y0 Y1
  rw [KpIf_false, KpIf_true, if_pos hz, if_pos hz, if_neg (by rw [h1]; decide), ← send_f m c i hf ha]
  iintro ⟨#HE, ⟨H0, HR⟩, ⟨HS, -⟩, HO⟩ Hk
  iapply (wp_send m K c n (0, i + 1) hz h1 hn hsS hsR rfl ho l) $$ [H0 HS HO]
  · isplitr; · iexact HE
    isplitl [HS]; · iexact HS
    isplitl [H0] <;> iassumption
  iintro ⟨HW, HO⟩
  iapply Hk
  isplitl [HR]
  · isplitr; · iempintro
    iexact HR
  isplitl [HW] <;> iassumption

/-- The rows of a step sent both ways round the ring. -/
theorem st12 (c n n' : Dev nD) (i : Fin 6) (b : Bool) (ha : act (zc c) i = true) (hn : n = nxt c) (hn' : n' = prv c)
    {sS sR sS' sR' : DmaSem sig} (hsS : csem (sc (1, i)) = .dma sS) (hsR : csem (rc (1, i)) = .dma sR)
    (hsS' : csem (sc (2, i)) = .dma sS') (hsR' : csem (rc (2, i)) = .dma sR')
    {off off' : Fin 2 → ℕ} {inb inb'} {hl hl'} {jnb jnb'} {jl jl'} (ho : off 0 = lo (1, i) c ∧ off 1 = 0) (ho' : off' 0 = lo (2, i) c ∧ off' 1 = 0)
    {hsc} {hsrc} {hdst} {hsem} {jsc} {jsrc} {jdst} {jsem} (l : List S)
    {α : Type} {Q : α → sProp 𝕄} {k : PUnit → Prog (TpuEff nD τ sig (Elt F) Λ₀ .tc) α} :
    iprop(Env m K ∗ onZ m c i b ∗ Ow c (.inr (1, i) :: .inr (2, i) :: l))
      ⊢ iprop((iprop(on1 m c i b ∗ Ow c l) -∗ WP c (k ⟨⟩) Q)
          -∗ WP c (.op (.enqueueDma (oM.slice (Rect.unit (s := S65536x1024) off (rowsS 4096).size inb) hl : Memref sig .tc .hbm (rowsS 4096) .f32)
              (.remote (Dev.tc n : Thread nD τ) (oM.slice (Rect.unit (s := S65536x1024) off (rowsS 4096).size inb') hl' : Memref sig .tc .hbm (rowsS 4096) .f32) (.dma sS) hsc)
              (.dma sR) hsrc hdst hsem) fun _ =>
            .op (.enqueueDma (oM.slice (Rect.unit (s := S65536x1024) off' (rowsS 4096).size jnb) jl : Memref sig .tc .hbm (rowsS 4096) .f32)
              (.remote (Dev.tc n' : Thread nD τ) (oM.slice (Rect.unit (s := S65536x1024) off' (rowsS 4096).size jnb') jl' : Memref sig .tc .hbm (rowsS 4096) .f32) (.dma sS') jsc)
              (.dma sR') jsrc jdst jsem) k) Q) := by
  unfold onZ on1
  iintro ⟨#HE, ⟨HK, H1, H2, HZ, HW, S1, S2, S3, S4⟩, HO⟩ Hk
  iapply (wp_send m K c n (1, i) ((on_act c 1 i (by decide)).trans ha) rfl hn hsS hsR rfl ho (.inr (2, i) :: l)) $$ [H1 S1 HO]
  · isplitr; · iexact HE
    isplitl [S1]; · iexact S1
    isplitl [H1] <;> iassumption
  iintro ⟨W1, HO⟩
  iapply (wp_send m K c n' (2, i) ((on_act c 2 i (by decide)).trans ha) rfl hn' hsS' hsR' rfl ho' l) $$ [H2 S2 HO]
  · isplitr; · iexact HE
    isplitl [S2]; · iexact S2
    isplitl [H2] <;> iassumption
  iintro ⟨W2, HO⟩
  iapply Hk
  isplitr [HO]; rotate_left; · iexact HO
  isplitl [HK]; · iexact HK
  isplitl [HZ]; · iexact HZ
  isplitl [HW]; · iexact HW
  isplitl [W1]; · iexact W1
  isplitl [W2]; · iexact W2
  isplitl [S3] <;> iassumption

/-- The neighbours' rows awaited and their halves sent on. -/
theorem st34 (c n n' : Dev nD) (i : Fin 6) (b : Bool) (ha : act (zc c) i = true) (hn : n = nxt c) (hn' : n' = prv c)
    {s1 s2 : DmaSem sig} (hs1 : s1 = num 3 i) (hs2 : s2 = num 5 i)
    {sp sp' : Space} {s s' : Shape} {e e' : EltTy} {κ' : Kind}
    {srcw : Memref sig .tc sp' s' e'} {dstw : Memref sig κ' sp s e} {wsrc : srcw.view.WordExact} {wdst : dstw.view.WordExact}
    (hN : dstw.view.dmaCredit = cr 4096)
    {tp tp' : Space} {t t' : Shape} {f f' : EltTy} {κ'' : Kind}
    {srcv : Memref sig .tc tp' t' f'} {dstv : Memref sig κ'' tp t f} {vsrc : srcv.view.WordExact} {vdst : dstv.view.WordExact}
    (hN' : dstv.view.dmaCredit = cr 4096)
    {sS sR sS' sR' : DmaSem sig} (hsS : csem (sc (3, i)) = .dma sS) (hsR : csem (rc (3, i)) = .dma sR)
    (hsS' : csem (sc (4, i)) = .dma sS') (hsR' : csem (rc (4, i)) = .dma sR')
    {off off' : Fin 2 → ℕ} {inb inb'} {hl hl'} {jnb jnb'} {jl jl'} (ho : off 0 = lo (3, i) c ∧ off 1 = 0) (ho' : off' 0 = lo (4, i) c ∧ off' 1 = 0)
    {hsc} {hsrc} {hdst} {hsem} {jsc} {jsrc} {jdst} {jsem} (l : List S)
    (hlv : ∀ s ∈ (.inr (3, i) :: .inr (4, i) :: l : List S), 5 < level (Cert.Mesh.srcv s))
    {α : Type} {Q : α → sProp 𝕄} {k : PUnit → Prog (TpuEff nD τ sig (Elt F) Λ₀ .tc) α} :
    iprop(Env m K ∗ on1 m c i b ∗ Ow c (.inr (3, i) :: .inr (4, i) :: l))
      ⊢ iprop((iprop(on2 m c i b ∗ Ow c l) -∗ WP c (k ⟨⟩) Q)
          -∗ WP c (.op (.waitDma2 s1 srcw dstw wsrc wdst) fun _ =>
            .op (.enqueueDma (oM.slice (Rect.unit (s := S65536x1024) off (rowsS 2048).size inb) hl : Memref sig .tc .hbm (rowsS 2048) .f32)
              (.remote (Dev.tc n : Thread nD τ) (oM.slice (Rect.unit (s := S65536x1024) off (rowsS 2048).size inb') hl' : Memref sig .tc .hbm (rowsS 2048) .f32) (.dma sS) hsc)
              (.dma sR) hsrc hdst hsem) fun _ =>
            .op (.waitDma2 s2 srcv dstv vsrc vdst) fun _ =>
            .op (.enqueueDma (oM.slice (Rect.unit (s := S65536x1024) off' (rowsS 2048).size jnb) jl : Memref sig .tc .hbm (rowsS 2048) .f32)
              (.remote (Dev.tc n' : Thread nD τ) (oM.slice (Rect.unit (s := S65536x1024) off' (rowsS 2048).size jnb') jl' : Memref sig .tc .hbm (rowsS 2048) .f32) (.dma sS') jsc)
              (.dma sR') jsrc jdst jsem) k) Q) := by
  have l1 : level (rc (1, i)) = 5 := (level_r i).1
  have l2 : level (rc (2, i)) = 5 := (level_r i).2.1
  unfold on1 on2 W4
  iintro ⟨#HE, ⟨HK, HZ, ⟨R1, R2, R3, R4⟩, W1, W2, S3, S4⟩, HO⟩ Hk
  iapply (wp_recvR m K c 1 i ha hs1 hN _ (by rw [l1]; exact hlv)) $$ [R1 HO]
  · isplitr; · iexact HE
    isplitl [R1] <;> iassumption
  iintro ⟨H1, Z1, HO⟩
  ihave ⟨H3, HB⟩ := (recv_1 m c i ha).1 $$ H1
  iapply (wp_send m K c n (3, i) ((on_act c 3 i (by decide)).trans ha) rfl hn hsS hsR rfl ho (.inr (4, i) :: l)) $$ [H3 S3 HO]
  · isplitr; · iexact HE
    isplitl [S3]; · iexact S3
    isplitl [H3] <;> iassumption
  iintro ⟨W3, HO⟩
  iapply (wp_recvR m K c 2 i ha hs2 hN' _ (by rw [l2]; exact fun s hs => hlv s (List.mem_cons_of_mem _ hs))) $$ [R2 HO]
  · isplitr; · iexact HE
    isplitl [R2] <;> iassumption
  iintro ⟨H2, Z2, HO⟩
  ihave ⟨HT, H4⟩ := (recv_2 m c i ha).1 $$ H2
  iapply (wp_send m K c n' (4, i) ((on_act c 4 i (by decide)).trans ha) rfl hn' hsS' hsR' rfl ho' l) $$ [H4 S4 HO]
  · isplitr; · iexact HE
    isplitl [S4]; · iexact S4
    isplitl [H4] <;> iassumption
  iintro ⟨W4, HO⟩
  iapply Hk
  isplitr [HO]; rotate_left; · iexact HO
  isplitl [HK]; · iexact HK
  isplitl [HZ]; · iexact HZ
  isplitl [Z1]; · iexact Z1
  isplitl [Z2]; · iexact Z2
  isplitl [R3]; · iexact R3
  isplitl [R4]; · iexact R4
  isplitl [W1]; · iexact W1
  isplitl [W2]; · iexact W2
  isplitl [W3]; · iexact W3
  isplitl [W4]; · iexact W4
  isplitl [HB] <;> iassumption

/-- The halves awaited, and everything sent round the ring awaited: its source is back. -/
theorem st6 (c : Dev nD) (i : Fin 6) (b : Bool) (ha : act (zc c) i = true)
    {s1 s2 s3 s4 s5 s6 : DmaSem sig} (hs1 : s1 = num 7 i) (hs2 : s2 = num 9 i) (hs3 : s3 = num 2 i) (hs4 : s4 = num 4 i) (hs5 : s5 = num 6 i) (hs6 : s6 = num 8 i)
    {z1 w1 : Shape} {p1 q1 : Space} {t1 x1 : EltTy} {y1 : Kind} {a1 : Memref sig .tc q1 w1 x1} {d1 : Memref sig y1 p1 z1 t1} {u1 : a1.view.WordExact} {v1 : d1.view.WordExact}
    {z2 w2 : Shape} {p2 q2 : Space} {t2 x2 : EltTy} {y2 : Kind} {a2 : Memref sig .tc q2 w2 x2} {d2 : Memref sig y2 p2 z2 t2} {u2 : a2.view.WordExact} {v2 : d2.view.WordExact}
    {z3 w3 : Shape} {p3 q3 : Space} {t3 x3 : EltTy} {y3 : Kind} {a3 : Memref sig .tc q3 w3 x3} {d3 : Memref sig y3 p3 z3 t3} {u3 : a3.view.WordExact} {v3 : d3.view.WordExact}
    {z4 w4 : Shape} {p4 q4 : Space} {t4 x4 : EltTy} {y4 : Kind} {a4 : Memref sig .tc q4 w4 x4} {d4 : Memref sig y4 p4 z4 t4} {u4 : a4.view.WordExact} {v4 : d4.view.WordExact}
    {z5 w5 : Shape} {p5 q5 : Space} {t5 x5 : EltTy} {y5 : Kind} {a5 : Memref sig .tc q5 w5 x5} {d5 : Memref sig y5 p5 z5 t5} {u5 : a5.view.WordExact} {v5 : d5.view.WordExact}
    {z6 w6 : Shape} {p6 q6 : Space} {t6 x6 : EltTy} {y6 : Kind} {a6 : Memref sig .tc q6 w6 x6} {d6 : Memref sig y6 p6 z6 t6} {u6 : a6.view.WordExact} {v6 : d6.view.WordExact}
    (hN1 : d1.view.dmaCredit = cr 2048) (hN2 : d2.view.dmaCredit = cr 2048) (hN3 : d3.view.dmaCredit = cr 4096) (hN4 : d4.view.dmaCredit = cr 4096) (hN5 : d5.view.dmaCredit = cr 2048) (hN6 : d6.view.dmaCredit = cr 2048)
    (l : List S) (hlv : ∀ s ∈ l, 6 < level (srcv s))
    {α : Type} {Q : α → sProp 𝕄} {k : PUnit → Prog (TpuEff nD τ sig (Elt F) Λ₀ .tc) α} :
    iprop(Env m K ∗ on2 m c i b ∗ Ow c l)
      ⊢ iprop((iprop(on3 m c i b ∗ Ow c l) -∗ WP c (k ⟨⟩) Q)
          -∗ WP c (.op (.waitDma2 s1 a1 d1 u1 v1) fun _ => .op (.waitDma2 s2 a2 d2 u2 v2) fun _ => .op (.waitDma2 s3 a3 d3 u3 v3) fun _ =>
            .op (.waitDma2 s4 a4 d4 u4 v4) fun _ => .op (.waitDma2 s5 a5 d5 u5 v5) fun _ => .op (.waitDma2 s6 a6 d6 u6 v6) k) Q) := by
  have hlv0 : ∀ s ∈ l, 0 < level (srcv s) := fun s hs => lt_of_lt_of_le (by decide) (hlv s hs)
  have o : ∀ k : Fin 5, k ≠ 0 → on (k, i) c = true := fun k hk => (on_act c k i hk).trans ha
  unfold on2 on3 Zs
  iintro ⟨#HE, ⟨HK, Z0, Z1, Z2, R3, R4, W1, W2, W3, W4, HB, HT⟩, HO⟩ Hk
  iapply (wp_recvR m K c 3 i ha hs1 hN1 l (by rw [(level_r i).2.2.1]; exact hlv)) $$ [R3 HO]
  · isplitr; · iexact HE
    isplitl [R3] <;> iassumption
  iintro ⟨P1, Y1, HO⟩
  iapply (wp_recvR m K c 4 i ha hs2 hN2 l (by rw [(level_r i).2.2.2]; exact hlv)) $$ [R4 HO]
  · isplitr; · iexact HE
    isplitl [R4] <;> iassumption
  iintro ⟨P2, Y2, HO⟩
  iapply (wp_recvS m K c 1 i (o 1 (by decide)) hs3 hN3 l (by rw [level_s]; exact hlv0)) $$ [W1 HO]
  · isplitr; · iexact HE
    isplitl [W1] <;> iassumption
  iintro ⟨P3, Y3, HO⟩
  iapply (wp_recvS m K c 2 i (o 2 (by decide)) hs4 hN4 l (by rw [level_s]; exact hlv0)) $$ [W2 HO]
  · isplitr; · iexact HE
    isplitl [W2] <;> iassumption
  iintro ⟨P4, Y4, HO⟩
  iapply (wp_recvS m K c 3 i (o 3 (by decide)) hs5 hN5 l (by rw [level_s]; exact hlv0)) $$ [W3 HO]
  · isplitr; · iexact HE
    isplitl [W3] <;> iassumption
  iintro ⟨P5, Y5, HO⟩
  iapply (wp_recvS m K c 4 i (o 4 (by decide)) hs6 hN6 l (by rw [level_s]; exact hlv0)) $$ [W4 HO]
  · isplitr; · iexact HE
    isplitl [W4] <;> iassumption
  iintro ⟨P6, Y6, HO⟩
  iapply Hk
  isplitr [HO]; rotate_left; · iexact HO
  isplitl [HK]; · iexact HK
  isplitl [P3]; · iexact P3
  isplitl [P4]; · iexact P4
  isplitl [P5 HB]
  · iapply (recv_1 m c i ha).2
    isplitl [P5] <;> iassumption
  isplitl [P6 HT]
  · iapply (recv_2 m c i ha).2
    isplitl [HT] <;> iassumption
  isplitl [P1]; · iexact P1
  isplitl [P2]; · iexact P2
  isplitl [Z0]; · iexact Z0
  isplitl [Z1]; · iexact Z1
  isplitl [Z2]; · iexact Z2
  isplitl [Y1]; · iexact Y1
  isplitl [Y2]; · iexact Y2
  isplitl [Y3]; · iexact Y3
  isplitl [Y4]; · iexact Y4
  isplitl [Y5] <;> iassumption

theorem A0_on {c : Dev nD} {i : Fin 6} (h : act (zc c) i = true) : A0 m c i = on0 m c i := if_pos h
theorem A1_on {c : Dev nD} {i : Fin 6} (h : act (zc c) i = true) : A1 m c i = on1 m c i (fwd c i) := if_pos h
theorem A2_on {c : Dev nD} {i : Fin 6} (h : act (zc c) i = true) : A2 m c i = on2 m c i (fwd c i) := if_pos h
theorem A3_on {c : Dev nD} {i : Fin 6} (h : act (zc c) i = true) : A3 m c i = on3 m c i (fwd c i) := if_pos h
theorem A0_off {c : Dev nD} {i : Fin 6} (h : ¬ act (zc c) i = true) : A0 m c i = Zs c i := if_neg h
theorem A1_off {c : Dev nD} {i : Fin 6} (h : ¬ act (zc c) i = true) : A1 m c i = Zs c i := if_neg h
theorem A2_off {c : Dev nD} {i : Fin 6} (h : ¬ act (zc c) i = true) : A2 m c i = Zs c i := if_neg h
theorem A3_off {c : Dev nD} {i : Fin 6} (h : ¬ act (zc c) i = true) : A3 m c i = Zs c i := if_neg h
theorem Y01_off {c : Dev nD} {i : Fin 6} (h : ¬ zact (zc c) i = true) : Y0 m c i = (Y1 c i : sProp 𝕄) := (if_neg h).trans (if_neg h).symm

/-! ## A step the device may have no part in -/

/-- A conditional whose branches run into the same rest. -/
theorem wp_cond (c : Dev nD) {C : Prop} [Decidable C] {α : Type} {A : C → Prog (TpuEff nD τ sig (Elt F) Λ₀ .tc) α}
    {J : Prog (TpuEff nD τ sig (Elt F) Λ₀ .tc) α} {Q : α → sProp 𝕄} {R R' : sProp 𝕄} (hn : ¬ C → R ⊢ R')
    (hA : ∀ h, iprop(Env m K ∗ R) ⊢ iprop((R' -∗ WP c J Q) -∗ WP c (A h) Q)) :
    iprop(Env m K ∗ R) ⊢ iprop((R' -∗ WP c J Q) -∗ WP c (dite C A fun _ => J) Q) := by
  by_cases h : C
  · rw [dif_pos h]; exact hA h
  · rw [dif_neg h]
    iintro ⟨-, HR⟩ Hk
    iapply Hk; iapply (hn h); iexact HR

/-- The rows of a step awaited, sent on along the planes where they go on, and both ways round the ring. -/
theorem stA (c n n' : Dev nD) (i : Fin 6) (hi : st i < 2) (ha : act (zc c) i = true) {sem : DmaSem sig} (hs : sem = num 1 i)
    {sp sp' : Space} {s s' : Shape} {e e' : EltTy} {κ' : Kind}
    {srcw : Memref sig .tc sp' s' e'} {dstw : Memref sig κ' sp s e} {wsrc : srcw.view.WordExact} {wdst : dstw.view.WordExact}
    (hN : dstw.view.dmaCredit = cr 4096)
    {C : Prop} [Decidable C] (hC : C ↔ zact (zc c) (i + 1) = true) {nz : C → Dev nD} (hz : ∀ h, nz h = tgt (0, i + 1) c)
    {zS zR : DmaSem sig} (hzS : csem (sc (0, i + 1)) = .dma zS) (hzR : csem (rc (0, i + 1)) = .dma zR)
    {offz : Fin 2 → ℕ} {znb : C → _} {zl zl' : ∀ h : C, _} (hoz : C → offz 0 = lo (0, i + 1) c ∧ offz 1 = 0) {zsc zsrc zdst zsem : ∀ h : C, _}
    (hn : n = nxt c) (hn' : n' = prv c)
    {sS sR sS' sR' : DmaSem sig} (hsS : csem (sc (1, i)) = .dma sS) (hsR : csem (rc (1, i)) = .dma sR)
    (hsS' : csem (sc (2, i)) = .dma sS') (hsR' : csem (rc (2, i)) = .dma sR')
    {off off' : Fin 2 → ℕ} {inb inb'} {hl hl'} {jnb jnb'} {jl jl'} (ho : off 0 = lo (1, i) c ∧ off 1 = 0) (ho' : off' 0 = lo (2, i) c ∧ off' 1 = 0)
    {hsc} {hsrc} {hdst} {hsem} {jsc} {jsrc} {jdst} {jsem} (l : List S)
    (hlv : ∀ s ∈ (.inr (0, i + 1) :: .inr (1, i) :: .inr (2, i) :: l : List S), level (rc (0, i)) < level (srcv s))
    {α : Type} {Q : α → sProp 𝕄} {J : Prog (TpuEff nD τ sig (Elt F) Λ₀ .tc) α} :
    iprop(Env m K ∗ A0 m c i ∗ Y0 m c (i + 1) ∗ Ow c (.inr (0, i + 1) :: .inr (1, i) :: .inr (2, i) :: l))
      ⊢ iprop((iprop(A1 m c i ∗ Y1 c (i + 1) ∗ Ow c l) -∗ WP c J Q)
          -∗ WP c (.op (.waitDma2 sem srcw dstw wsrc wdst) fun _ => dite C (fun h =>
            .op (.enqueueDma (oM.slice (Rect.unit (s := S65536x1024) offz (rowsS 4096).size (znb h)) (zl h) : Memref sig .tc .hbm (rowsS 4096) .f32)
              (.remote (Dev.tc (nz h) : Thread nD τ) (oM.slice (Rect.unit (s := S65536x1024) offz (rowsS 4096).size (znb h)) (zl' h) : Memref sig .tc .hbm (rowsS 4096) .f32) (.dma zS) (zsc h))
              (.dma zR) (zsrc h) (zdst h) (zsem h)) fun _ =>
            .op (.enqueueDma (oM.slice (Rect.unit (s := S65536x1024) off (rowsS 4096).size inb) hl : Memref sig .tc .hbm (rowsS 4096) .f32)
              (.remote (Dev.tc n : Thread nD τ) (oM.slice (Rect.unit (s := S65536x1024) off (rowsS 4096).size inb') hl' : Memref sig .tc .hbm (rowsS 4096) .f32) (.dma sS) hsc)
              (.dma sR) hsrc hdst hsem) fun _ =>
            .op (.enqueueDma (oM.slice (Rect.unit (s := S65536x1024) off' (rowsS 4096).size jnb) jl : Memref sig .tc .hbm (rowsS 4096) .f32)
              (.remote (Dev.tc n' : Thread nD τ) (oM.slice (Rect.unit (s := S65536x1024) off' (rowsS 4096).size jnb') jl' : Memref sig .tc .hbm (rowsS 4096) .f32) (.dma sS') jsc)
              (.dma sR') jsrc jdst jsem) fun _ => J)
            (fun _ => .op (.enqueueDma (oM.slice (Rect.unit (s := S65536x1024) off (rowsS 4096).size inb) hl : Memref sig .tc .hbm (rowsS 4096) .f32)
              (.remote (Dev.tc n : Thread nD τ) (oM.slice (Rect.unit (s := S65536x1024) off (rowsS 4096).size inb') hl' : Memref sig .tc .hbm (rowsS 4096) .f32) (.dma sS) hsc)
              (.dma sR) hsrc hdst hsem) fun _ =>
            .op (.enqueueDma (oM.slice (Rect.unit (s := S65536x1024) off' (rowsS 4096).size jnb) jl : Memref sig .tc .hbm (rowsS 4096) .f32)
              (.remote (Dev.tc n' : Thread nD τ) (oM.slice (Rect.unit (s := S65536x1024) off' (rowsS 4096).size jnb') jl' : Memref sig .tc .hbm (rowsS 4096) .f32) (.dma sS') jsc)
              (.dma sR') jsrc jdst jsem) fun _ => J)) Q) := by
  by_cases h : C
  · have hf : fwd c i = true := by unfold fwd; rw [hC.1 h]; simp [hi]
    rw [A0_on m ha, A1_on m ha, dif_pos h, hf]
    iintro ⟨#HE, HA, HY, HO⟩ Hk
    iapply (stZ m K c i ha hs hN _ hlv) $$ [HA HO]
    · isplitr; · iexact HE
      isplitl [HA] <;> iassumption
    iintro ⟨HA, HO⟩
    iapply (stF m K c (nz h) i ha hf (hz h) hzS hzR (hoz h) _) $$ [HA HY HO]
    · isplitr; · iexact HE
      isplitl [HA]; · iexact HA
      isplitl [HY] <;> iassumption
    iintro ⟨HA, HY, HO⟩
    iapply (st12 m K c n n' i true ha hn hn' hsS hsR hsS' hsR' ho ho' l) $$ [HA HO]
    · isplitr; · iexact HE
      isplitl [HA] <;> iassumption
    iintro ⟨HA, HO⟩
    iapply Hk
    isplitl [HA]; · iexact HA
    isplitl [HY] <;> iassumption
  · have hz0 : ¬ zact (zc c) (i + 1) = true := fun h' => h (hC.2 h')
    have hf : fwd c i = false := by unfold fwd; rw [Bool.eq_false_iff.mpr hz0, Bool.and_false]
    rw [A0_on m ha, A1_on m ha, dif_neg h, hf, Y01_off m hz0,
      Ow_off (show son (.inr (0, i + 1)) c = false from Bool.eq_false_iff.mpr hz0)]
    iintro ⟨#HE, HA, HY, HO⟩ Hk
    iapply (stZ m K c i ha hs hN _ (fun s hs => hlv s (List.mem_cons_of_mem _ hs))) $$ [HA HO]
    · isplitr; · iexact HE
      isplitl [HA] <;> iassumption
    iintro ⟨HA, HO⟩
    iapply (st12 m K c n n' i false ha hn hn' hsS hsR hsS' hsR' ho ho' l) $$ [HA HO]
    · isplitr; · iexact HE
      isplitl [HA] <;> iassumption
    iintro ⟨HA, HO⟩
    iapply Hk
    isplitl [HA]; · iexact HA
    isplitl [HY] <;> iassumption

/-- Where the device has no part in a step, nothing changes hands. -/
theorem offA (c : Dev nD) (i : Fin 6) (hi : st i < 2) (ha : ¬ act (zc c) i = true) (l : List S) :
    (iprop(A0 m c i ∗ Y0 m c (i + 1) ∗ Ow c (.inr (0, i + 1) :: .inr (1, i) :: .inr (2, i) :: l)) : sProp 𝕄)
      ⊢ iprop(A1 m c i ∗ Y1 c (i + 1) ∗ Ow c l) := by
  have hz : ¬ zact (zc c) (i + 1) = true := fun h => ha (act_f ⟨zc c, zc_lt c⟩ i hi h)
  have o : ∀ k : Fin 5, k ≠ 0 → son (.inr (k, i)) c = false := fun k hk => (on_act c k i hk).trans (Bool.eq_false_iff.mpr ha)
  rw [A0_off m ha, A1_off m ha, Y01_off m hz, Ow_off (show son (.inr (0, i + 1)) c = false from Bool.eq_false_iff.mpr hz),
    Ow_off (o 1 (by decide)), Ow_off (o 2 (by decide))]
theorem offA' (c : Dev nD) (i : Fin 6) (ha : ¬ act (zc c) i = true) (l : List S) :
    (iprop(A0 m c i ∗ Ow c (.inr (1, i) :: .inr (2, i) :: l)) : sProp 𝕄) ⊢ iprop(A1 m c i ∗ Ow c l) := by
  have o : ∀ k : Fin 5, k ≠ 0 → son (.inr (k, i)) c = false := fun k hk => (on_act c k i hk).trans (Bool.eq_false_iff.mpr ha)
  rw [A0_off m ha, A1_off m ha, Ow_off (o 1 (by decide)), Ow_off (o 2 (by decide))]
theorem offB (c : Dev nD) (i : Fin 6) (ha : ¬ act (zc c) i = true) (l : List S) :
    (iprop(A1 m c i ∗ Ow c (.inr (3, i) :: .inr (4, i) :: l)) : sProp 𝕄) ⊢ iprop(A2 m c i ∗ Ow c l) := by
  have o : ∀ k : Fin 5, k ≠ 0 → son (.inr (k, i)) c = false := fun k hk => (on_act c k i hk).trans (Bool.eq_false_iff.mpr ha)
  rw [A1_off m ha, A2_off m ha, Ow_off (o 3 (by decide)), Ow_off (o 4 (by decide))]
theorem offC (c : Dev nD) (i : Fin 6) (ha : ¬ act (zc c) i = true) (l : List S) :
    (iprop(A2 m c i ∗ Ow c l) : sProp 𝕄) ⊢ iprop(A3 m c i ∗ Ow c l) := by
  rw [A2_off m ha, A3_off m ha]

end Cert.KernelIdeal.Hand

end
-- ==== Proof.SplitIdeal.lean ====
module

public import proofs.«01_k».proof.Proof.BlocksIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

variable (m : (ℓ : Loc nD τ sig) → Buf (Elt F) ℓ) (K : Dev nD × Cell → ℕ)

/-! ## Facts of the mesh -/

/-- Whether a transfer ends on device `c`, and where from. -/
def onto (x : X) (c : D) : Bool := on x ((tgt x).symm c)
theorem onto_live : ∀ (x : X) (c : D), live c (rc x) = onto x c := by decide +kernel
theorem via_tgt : ∀ (x : X) (c : D), btgt (via x) c = (tgt x).symm c := by decide +kernel
theorem via_bset : ∀ (x : X) (c : D), on x c = true → via x ∈ bset c := by decide +kernel
/-- No two transfers onto a device land on common rows, none on its own quarter of the planes. -/
theorem onto_apart : ∀ (c : D) (x y : X), onto x c = true → onto y c = true → x ≠ y →
    lo x ((tgt x).symm c) + len x ≤ lo y ((tgt y).symm c) ∨ lo y ((tgt y).symm c) + len y ≤ lo x ((tgt x).symm c) := by decide +kernel
theorem onto_own : ∀ (c : D) (x : X), onto x c = true →
    zc c * 16384 + 16384 ≤ lo x ((tgt x).symm c) ∨ lo x ((tgt x).symm c) + len x ≤ zc c * 16384 := by decide +kernel
/-- Every run of 2048 rows is a device's own or lands on it. -/
theorem onto_all : ∀ (c : D) (t : Fin 32), (zc c * 16384 ≤ t.val * 2048 ∧ t.val * 2048 + 2048 ≤ zc c * 16384 + 16384)
    ∨ ∃ x : X, onto x c = true ∧ lo x ((tgt x).symm c) ≤ t.val * 2048 ∧ t.val * 2048 + 2048 ≤ lo x ((tgt x).symm c) + len x := by decide +kernel
theorem onto_le : ∀ (c : D) (x : X), onto x c = true → lo x ((tgt x).symm c) + len x ≤ 65536 := fun c x h => lo_le x _ h

/-! ## The result in pieces -/

/-- The rows a transfer brings to device `c`, if there is such a transfer. -/
def inPt (x : X) (c : Dev nD) (f : CO F) : sProp 𝕄 :=
  if onto x c = true then outPt c fullShare (lo x ((tgt x).symm c)) (len x) f else iprop(emp)

theorem rows_cover (c : Dev nD) : rows 65536 0 65536
    = rows 65536 (zc c * 16384) 16384 ∪ (Finset.univ.filter fun x : X => onto x c = true).biUnion fun x => rows 65536 (lo x ((tgt x).symm c)) (len x) := by
  ext i
  have hi : (i 0).val < 65536 := (i 0).isLt
  rw [Finset.mem_union, Finset.mem_biUnion, mem_rows, mem_rows]
  refine ⟨fun _ => ?_, fun h => ⟨Nat.zero_le _, by omega⟩⟩
  rcases onto_all c ⟨(i 0).val / 2048, by omega⟩ with ⟨h1, h2⟩ | ⟨x, hx, h1, h2⟩
  · left; dsimp only at h1 h2; omega
  · right; refine ⟨x, Finset.mem_filter.2 ⟨Finset.mem_univ _, hx⟩, mem_rows.2 ?_⟩; dsimp only at h1 h2; omega

/-- A run of rows is its four quarters. -/
theorem out_quarters (c : Dev nD) (q : PosShare TreeShare) (a : ℕ) (f : CO F) : (outPt c q a 16384 f : sProp 𝕄)
    ⊣⊢ iprop(outPt c q (a + 0) 4096 f ∗ outPt c q (a + 4096) 4096 f ∗ outPt c q (a + 8192) 4096 f ∗ outPt c q (a + 12288) 4096 f) := by
  have h (b l : ℕ) : (outPt c q (a + b) (4096 + l) f : sProp 𝕄) ⊣⊢ iprop(outPt c q (a + b) 4096 f ∗ outPt c q (a + (b + 4096)) l f) := by
    unfold outPt; rw [← rows_union, ← Nat.add_assoc]
    exact pointsTo_union (rows_disjoint (Or.inl (le_refl _)))
  exact (h 0 12288).trans (sep_congr_right ((h 4096 8192).trans (sep_congr_right (h 8192 4096))))

/-- The whole result is the device's own rows and what the transfers bring. -/
theorem out_pieces (c : Dev nD) (f : CO F) : (outPt c fullShare 0 65536 f : sProp 𝕄)
    ⊣⊢ iprop(outPt c fullShare (zc c * 16384) 16384 f ∗ bigSep Finset.univ fun x : X => inPt x c f) := by
  have hd : Disjoint (rows 65536 (zc c * 16384) 16384)
      ((Finset.univ.filter fun x : X => onto x c = true).biUnion fun x => rows 65536 (lo x ((tgt x).symm c)) (len x)) := by
    rw [Finset.disjoint_biUnion_right]
    exact fun x hx => rows_disjoint (onto_own c x (Finset.mem_filter.1 hx).2)
  have hb : (bigSep Finset.univ fun x : X => (inPt x c f : sProp 𝕄))
      = bigSep (Finset.univ.filter fun x : X => onto x c = true) fun x => outPt c fullShare (lo x ((tgt x).symm c)) (len x) f :=
    (bigSep_filter _ _ _).symm
  rw [hb]
  unfold outPt
  rw [rows_cover c]
  refine (pointsTo_union hd).trans (sep_congr_right (BIBase.BiEntails.of_eq ?_))
  exact pointsTo_biUnion _ _ fun x hx y hy hxy => rows_disjoint (onto_apart c x y (Finset.mem_filter.1 hx).2 (Finset.mem_filter.1 hy).2 hxy)

/-! ## What the barrier passes round -/

/-- Transfers grouped by the barrier signal that concerns them. -/
theorem by_via (s : Finset X) (t : Finset B) (h : ∀ x ∈ s, via x ∈ t) (Φ : X → sProp 𝕄) :
    bigSep s Φ = bigSep t fun b => bigSep (s.filter fun x => via x = b) Φ := by
  conv_lhs => rw [← Finset.biUnion_filter_eq_of_maps_to h]
  exact bigSep_biUnion_eq _ _ _ fun j _ j' _ hne => Finset.disjoint_filter.mpr fun i _ hi hi' => hne (hi.symm.trans hi')

/-- What a device has for its neighbours before the barrier: the rows of its own result their transfers fill. -/
theorem bar_give (c : Dev nD) : (bigSep Finset.univ fun x : X => (inPt x c (argO m c) : sProp 𝕄))
    = bigSep Finset.univ fun b : B => barPay m b (btgt b c) := by
  have hb : (bigSep Finset.univ fun x : X => (inPt x c (argO m c) : sProp 𝕄))
      = bigSep (Finset.univ.filter fun x : X => onto x c = true) fun x => outPt c fullShare (lo x ((tgt x).symm c)) (len x) (argO m c) :=
    (bigSep_filter _ _ _).symm
  rw [hb, by_via _ Finset.univ (fun x _ => Finset.mem_univ _)]
  refine bigSep_congr fun b _ => ?_
  unfold barPay
  have hs : ((Finset.univ.filter fun x : X => onto x c = true).filter fun x => via x = b) = vset b (btgt b c) := by
    ext x
    rw [Finset.mem_filter, Finset.mem_filter]; unfold vset; rw [Finset.mem_filter]
    constructor
    · rintro ⟨⟨h1, h2⟩, rfl⟩; refine ⟨h1, rfl, ?_⟩; rw [via_tgt]; exact h2
    · rintro ⟨h1, rfl, h3⟩; refine ⟨⟨h1, ?_⟩, rfl⟩; rw [via_tgt] at h3; exact h3
  rw [hs]
  refine bigSep_congr fun x hx => ?_
  obtain ⟨-, rfl, -⟩ := Finset.mem_filter.1 hx
  unfold landPt; rw [via_tgt, Equiv.apply_symm_apply]

/-- What it has after: the landing place of each of its transfers. -/
theorem bar_take (c : Dev nD) : (bigSep (bset c) fun b => (barPay m b c : sProp 𝕄))
    = bigSep Finset.univ fun x : X => if on x c = true then landPt m x c else iprop(emp) := by
  have hb : (bigSep Finset.univ fun x : X => if on x c = true then (landPt m x c : sProp 𝕄) else iprop(emp))
      = bigSep (Finset.univ.filter fun x : X => on x c = true) fun x => landPt m x c := (bigSep_filter _ _ _).symm
  rw [hb, by_via _ (bset c) (fun x hx => via_bset x c (Finset.mem_filter.1 hx).2)]
  refine bigSep_congr fun b _ => ?_
  unfold barPay
  congr 1
  ext x
  rw [Finset.mem_filter, Finset.mem_filter]; unfold vset; rw [Finset.mem_filter]
  exact ⟨fun ⟨h1, h2, h3⟩ => ⟨⟨h1, h3⟩, h2⟩, fun ⟨⟨h1, h3⟩, h2⟩ => ⟨h1, h2, h3⟩⟩

/-! ## The argument in shares -/

/-- The argument in a share for each of the two first steps along the planes and one for the device's own copies. -/
theorem arg_shares (c : Dev nD) : (argPt c fullShare 0 16384 (argX m c) : sProp 𝕄)
    ⊣⊢ iprop(argPt c fullShare.left 0 16384 (argX m c) ∗ argPt c fullShare.right.left 0 16384 (argX m c) ∗ argL m c) :=
  (pointsTo_share (PosShare.mem_left_op_right fullShare)).trans
    (sep_congr_right (pointsTo_share (PosShare.mem_left_op_right fullShare.right)))

/-- What is left of a share of the argument once a first step has its rows. -/
def argK (c : Dev nD) (i : Fin 6) (q : PosShare TreeShare) : sProp 𝕄 :=
  if zact (zc c) i = true then
    ((c : Thread nD τ).loc main_arg0) ↦[(rows 16384 0 16384 \ rows 16384 (pc c * 4096) 4096 : Finset (Idx ((c : Thread nD τ).loc main_arg0)))]{q} argX m c
  else argPt c q 0 16384 (argX m c)
/-- What the first step has. -/
def argY (c : Dev nD) (i : Fin 6) (q : PosShare TreeShare) : sProp 𝕄 :=
  if zact (zc c) i = true then argPt c q (pc c * 4096) 4096 (argX m c) else iprop(emp)

theorem arg_cut (c : Dev nD) (i : Fin 6) (q : PosShare TreeShare) : (argPt c q 0 16384 (argX m c) : sProp 𝕄)
    ⊣⊢ iprop(argY m c i q ∗ argK m c i q) := by
  unfold argY argK
  split
  · have hp := pc_lt c
    refine pointsTo_split_subset fun i hi => ?_
    rw [mem_rows] at hi ⊢; omega
  · exact emp_sep.symm

end Cert.KernelIdeal.Hand

end
-- ==== Proof.FactsIdeal.lean ====
/- What the program computes to find its way: the conditions it tests, the devices and the rows it names. -/
module

public import proofs.«01_k».proof.Proof.BlocksIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A condition that holds where a step is active. -/
abbrev IfAct (q : Dev nD → BitVec 1) (i : Fin 6) : Prop := ∀ c, q c = 1#1 ↔ act (zc c) i = true
/-- A condition that holds where a step is passed along the planes. -/
abbrev IfZ (q : Dev nD → BitVec 1) (i : Fin 6) : Prop := ∀ c, q c = 1#1 ↔ zact (zc c) i = true
/-- A condition that, at an active step, holds where its rows go on along the planes. -/
abbrev IfFwd (q : Dev nD → BitVec 1) (i : Fin 6) : Prop := ∀ c, act (zc c) i = true → (q c = 1#1 ↔ zact (zc c) (i + 1) = true)
/-- The number of the device a transfer goes to, and the first of its rows. -/
abbrev Goes (d : Dev nD → ℕ) (o : Dev nD → Fin 2 → ℕ) (x : X) : Prop :=
  ∀ c, on x c = true → d c = (tgt x c).val ∧ o c 0 = lo x c ∧ o c 1 = 0

theorem dev1_ok : ∀ c : Dev nD, k0_dev1 c = (btgt 0 c).val := by decide +kernel
theorem dev2_ok : ∀ c : Dev nD, k0_dev2 c = (btgt 1 c).val := by decide +kernel
theorem dev3_ok : ∀ c : Dev nD, bon 2 c = true → k0_dev3 c = (btgt 2 c).val := by decide +kernel
theorem dev4_ok : ∀ c : Dev nD, bon 3 c = true → k0_dev4 c = (btgt 3 c).val := by decide +kernel
theorem cond1_ok : ∀ c : Dev nD, k0_cond1 c = 1#1 ↔ bon 2 c = true := by decide +kernel
theorem cond2_ok : ∀ c : Dev nD, k0_cond2 c = 1#1 ↔ bon 3 c = true := by decide +kernel
theorem z_0 : IfZ k0_cond5 0 ∧ Goes k0_dev5 k0_off1 (0, 0) := by decide +kernel
theorem z_3 : IfZ k0_cond6 3 ∧ Goes k0_dev6 k0_off3 (0, 3) := by decide +kernel
theorem p1_0 : IfAct k0_cond7 0 ∧ IfFwd k0_cond8 0 ∧ Goes k0_dev7 k0_off7 (0, 1) ∧ Goes k0_dev8 k0_off6 (1, 0) ∧ Goes k0_dev9 k0_off6 (2, 0) := by decide +kernel
theorem p1_3 : IfAct k0_cond9 3 ∧ IfFwd k0_cond10 3 ∧ Goes k0_dev10 k0_off9 (0, 4) ∧ Goes k0_dev11 k0_off8 (1, 3) ∧ Goes k0_dev12 k0_off8 (2, 3) := by decide +kernel
theorem p1_1 : IfAct k0_cond11 1 ∧ IfFwd k0_cond12 1 ∧ Goes k0_dev13 k0_off11 (0, 2) ∧ Goes k0_dev14 k0_off10 (1, 1) ∧ Goes k0_dev15 k0_off10 (2, 1) := by decide +kernel
theorem p1_4 : IfAct k0_cond13 4 ∧ IfFwd k0_cond14 4 ∧ Goes k0_dev16 k0_off13 (0, 5) ∧ Goes k0_dev17 k0_off12 (1, 4) ∧ Goes k0_dev18 k0_off12 (2, 4) := by decide +kernel
theorem p1_2 : IfAct k0_cond15 2 ∧ Goes k0_dev19 k0_off14 (1, 2) ∧ Goes k0_dev20 k0_off14 (2, 2) := by decide +kernel
theorem p1_5 : IfAct k0_cond16 5 ∧ Goes k0_dev21 k0_off15 (1, 5) ∧ Goes k0_dev22 k0_off15 (2, 5) := by decide +kernel
theorem p2_0 : IfAct k0_cond17 0 ∧ Goes k0_dev23 k0_off17 (3, 0) ∧ Goes k0_dev24 k0_off18 (4, 0) := by decide +kernel
theorem p2_3 : IfAct k0_cond18 3 ∧ Goes k0_dev25 k0_off20 (3, 3) ∧ Goes k0_dev26 k0_off21 (4, 3) := by decide +kernel
theorem p2_1 : IfAct k0_cond19 1 ∧ Goes k0_dev27 k0_off23 (3, 1) ∧ Goes k0_dev28 k0_off24 (4, 1) := by decide +kernel
theorem p2_4 : IfAct k0_cond20 4 ∧ Goes k0_dev29 k0_off26 (3, 4) ∧ Goes k0_dev30 k0_off27 (4, 4) := by decide +kernel
theorem p2_2 : IfAct k0_cond21 2 ∧ Goes k0_dev31 k0_off29 (3, 2) ∧ Goes k0_dev32 k0_off30 (4, 2) := by decide +kernel
theorem p2_5 : IfAct k0_cond22 5 ∧ Goes k0_dev33 k0_off32 (3, 5) ∧ Goes k0_dev34 k0_off33 (4, 5) := by decide +kernel
theorem p3_0 : IfAct k0_cond23 0 := by decide +kernel
theorem p3_3 : IfAct k0_cond24 3 := by decide +kernel
theorem p3_1 : IfAct k0_cond25 1 := by decide +kernel
theorem p3_4 : IfAct k0_cond26 4 := by decide +kernel
theorem p3_2 : IfAct k0_cond27 2 := by decide +kernel
theorem p3_5 : IfAct k0_cond28 5 := by decide +kernel
theorem pz_0 : IfZ k0_cond29 0 := by decide +kernel
theorem pz_3 : IfZ k0_cond30 3 := by decide +kernel
theorem pz_1 : IfZ k0_cond31 1 := by decide +kernel
theorem pz_4 : IfZ k0_cond32 4 := by decide +kernel
theorem pz_2 : IfZ k0_cond33 2 := by decide +kernel
theorem pz_5 : IfZ k0_cond34 5 := by decide +kernel

theorem off2_ok : ∀ c : Dev nD, k0_off2 c 0 = pc c * 4096 ∧ k0_off2 c 1 = 0 := by decide +kernel
theorem off4_ok : ∀ c : Dev nD, k0_off4 c 0 = pc c * 4096 ∧ k0_off4 c 1 = 0 := by decide +kernel
theorem off5_ok : ∀ (i : Fin 4) (c : Dev nD), k0_off5 c (BitVec.ofNat 32 (i.val * 4096)) 0 = zc c * 16384 + i.val * 4096
    ∧ k0_off5 c (BitVec.ofNat 32 (i.val * 4096)) 1 = 0 := by decide +kernel

/-- The word of a device's plane. -/
abbrev zw (c : Dev nD) : BitVec 32 := Scalar.remsi (Scalar.divsi (Dev.word c) 1#32) 4#32
theorem zw_up : ∀ c : Dev nD, Scalar.cmpi .ne (Scalar.extui (Scalar.cmpi .slt (zw c) 3#32) : BitVec 32) 0#32 = 1#1 ↔ zc c < 3 := by decide +kernel
theorem zw_dn : ∀ c : Dev nD, Scalar.cmpi .ne (Scalar.extui (Scalar.cmpi .sgt (zw c) 0#32) : BitVec 32) 0#32 = 1#1 ↔ 0 < zc c := by decide +kernel
theorem bset_card : ∀ c : D, (bset c).card = 2 + (if zc c < 3 then 1 else 0) + (if 0 < zc c then 1 else 0) := by decide +kernel

end Cert.KernelIdeal.Hand

end
-- ==== Proof.StepsIdeal.lean ====
module

public import proofs.«01_k».proof.Proof.FactsIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## A block of the program, its printed condition, devices and rows given -/

/-- Rows of a step awaited, sent on along the planes where they go on, and both ways round the ring. -/
theorem pA (c : Dev nD) (i : Fin 6) (hi : st i < 2) {q q' : Dev nD → BitVec 1} {dz : Dev nD → ℕ} {oz : Dev nD → Fin 2 → ℕ} {d1 d2 : Dev nD → ℕ} {o1 o2 : Dev nD → Fin 2 → ℕ}
    (P : IfAct q i ∧ IfFwd q' i ∧ Goes dz oz (0, i + 1) ∧ Goes d1 o1 (1, i) ∧ Goes d2 o2 (2, i)) (h : q c = 1#1)
    {sem : DmaSem sig} (hs : sem = num 1 i) {sp sp' : Space} {s s' : Shape} {e e' : EltTy} {κ' : Kind}
    {srcw : Memref sig .tc sp' s' e'} {dstw : Memref sig κ' sp s e} {wsrc : srcw.view.WordExact} {wdst : dstw.view.WordExact}
    (hN : dstw.view.dmaCredit = cr 4096)
    {zS zR : DmaSem sig} (hzS : csem (sc (0, i + 1)) = .dma zS) (hzR : csem (rc (0, i + 1)) = .dma zR)
    {zb znb znb' zl zl' zsc zsrc zdst zsem : ∀ h : q' c = 1#1, _}
    {sS sR sS' sR' : DmaSem sig} (hsS : csem (sc (1, i)) = .dma sS) (hsR : csem (rc (1, i)) = .dma sR)
    (hsS' : csem (sc (2, i)) = .dma sS') (hsR' : csem (rc (2, i)) = .dma sR')
    {b1 b2} {inb inb'} {hl hl'} {jnb jnb'} {jl jl'} {hsc} {hsrc} {hdst} {hsem} {jsc} {jsrc} {jdst} {jsem} (l : List S)
    (hlv : ∀ s ∈ (.inr (0, i + 1) :: .inr (1, i) :: .inr (2, i) :: l : List S), level (rc (0, i)) < level (srcv s))
    {α : Type} {Q : α → sProp 𝕄} {J : Prog (TpuEff nD τ sig (Elt F) Λ₀ .tc) α} :
    iprop(Env m K ∗ A0 m c i ∗ Y0 m c (i + 1) ∗ Ow c (.inr (0, i + 1) :: .inr (1, i) :: .inr (2, i) :: l))
      ⊢ iprop((iprop(A1 m c i ∗ Y1 c (i + 1) ∗ Ow c l) -∗ WP c J Q)
          -∗ WP c (.op (.waitDma2 sem srcw dstw wsrc wdst) fun _ => dite (q' c = 1#1) (fun h =>
            .op (.enqueueDma (oM.slice (Rect.unit (s := S65536x1024) (oz c) (rowsS 4096).size (znb h)) (zl h) : Memref sig .tc .hbm (rowsS 4096) .f32)
              (.remote (Dev.tc (⟨dz c, zb h⟩ : Dev nD) : Thread nD τ) (oM.slice (Rect.unit (s := S65536x1024) (oz c) (rowsS 4096).size (znb' h)) (zl' h) : Memref sig .tc .hbm (rowsS 4096) .f32) (.dma zS) (zsc h))
              (.dma zR) (zsrc h) (zdst h) (zsem h)) fun _ =>
            .op (.enqueueDma (oM.slice (Rect.unit (s := S65536x1024) (o1 c) (rowsS 4096).size inb) hl : Memref sig .tc .hbm (rowsS 4096) .f32)
              (.remote (Dev.tc (⟨d1 c, b1⟩ : Dev nD) : Thread nD τ) (oM.slice (Rect.unit (s := S65536x1024) (o1 c) (rowsS 4096).size inb') hl' : Memref sig .tc .hbm (rowsS 4096) .f32) (.dma sS) hsc)
              (.dma sR) hsrc hdst hsem) fun _ =>
            .op (.enqueueDma (oM.slice (Rect.unit (s := S65536x1024) (o2 c) (rowsS 4096).size jnb) jl : Memref sig .tc .hbm (rowsS 4096) .f32)
              (.remote (Dev.tc (⟨d2 c, b2⟩ : Dev nD) : Thread nD τ) (oM.slice (Rect.unit (s := S65536x1024) (o2 c) (rowsS 4096).size jnb') jl' : Memref sig .tc .hbm (rowsS 4096) .f32) (.dma sS') jsc)
              (.dma sR') jsrc jdst jsem) fun _ => J)
            (fun _ => .op (.enqueueDma (oM.slice (Rect.unit (s := S65536x1024) (o1 c) (rowsS 4096).size inb) hl : Memref sig .tc .hbm (rowsS 4096) .f32)
              (.remote (Dev.tc (⟨d1 c, b1⟩ : Dev nD) : Thread nD τ) (oM.slice (Rect.unit (s := S65536x1024) (o1 c) (rowsS 4096).size inb') hl' : Memref sig .tc .hbm (rowsS 4096) .f32) (.dma sS) hsc)
              (.dma sR) hsrc hdst hsem) fun _ =>
            .op (.enqueueDma (oM.slice (Rect.unit (s := S65536x1024) (o2 c) (rowsS 4096).size jnb) jl : Memref sig .tc .hbm (rowsS 4096) .f32)
              (.remote (Dev.tc (⟨d2 c, b2⟩ : Dev nD) : Thread nD τ) (oM.slice (Rect.unit (s := S65536x1024) (o2 c) (rowsS 4096).size jnb') jl' : Memref sig .tc .hbm (rowsS 4096) .f32) (.dma sS') jsc)
              (.dma sR') jsrc jdst jsem) fun _ => J)) Q) := by
  obtain ⟨hC, hF, gz, g1, g2⟩ := P
  have ha := (hC c).1 h
  have o : ∀ k : Fin 5, k ≠ 0 → on (k, i) c = true := fun k hk => (on_act c k i hk).trans ha
  exact stA m K c _ _ i hi ha hs hN (hF c ha) (fun h' => Fin.ext (gz c ((hF c ha).1 h')).1) hzS hzR (fun h' => (gz c ((hF c ha).1 h')).2)
    (Fin.ext (g1 c (o 1 (by decide))).1) (Fin.ext (g2 c (o 2 (by decide))).1) hsS hsR hsS' hsR' (g1 c (o 1 (by decide))).2 (g2 c (o 2 (by decide))).2 l hlv

/-- The same where no rows go on along the planes. -/
theorem pB (c : Dev nD) (i : Fin 6) (hi : zact (zc c) (i + 1) = false ∨ ¬ st i < 2) {q : Dev nD → BitVec 1} {d1 d2 : Dev nD → ℕ} {o1 o2 : Dev nD → Fin 2 → ℕ}
    (P : IfAct q i ∧ Goes d1 o1 (1, i) ∧ Goes d2 o2 (2, i)) (h : q c = 1#1)
    {sem : DmaSem sig} (hs : sem = num 1 i) {sp sp' : Space} {s s' : Shape} {e e' : EltTy} {κ' : Kind}
    {srcw : Memref sig .tc sp' s' e'} {dstw : Memref sig κ' sp s e} {wsrc : srcw.view.WordExact} {wdst : dstw.view.WordExact}
    (hN : dstw.view.dmaCredit = cr 4096)
    {sS sR sS' sR' : DmaSem sig} (hsS : csem (sc (1, i)) = .dma sS) (hsR : csem (rc (1, i)) = .dma sR)
    (hsS' : csem (sc (2, i)) = .dma sS') (hsR' : csem (rc (2, i)) = .dma sR')
    {b1 b2} {inb inb'} {hl hl'} {jnb jnb'} {jl jl'} {hsc} {hsrc} {hdst} {hsem} {jsc} {jsrc} {jdst} {jsem} (l : List S) (hlv : ∀ s ∈ (.inr (1, i) :: .inr (2, i) :: l : List S), level (rc (0, i)) < level (srcv s))
    {α : Type} {Q : α → sProp 𝕄} {k : PUnit → Prog (TpuEff nD τ sig (Elt F) Λ₀ .tc) α} :
    iprop(Env m K ∗ A0 m c i ∗ Ow c (.inr (1, i) :: .inr (2, i) :: l))
      ⊢ iprop((iprop(A1 m c i ∗ Ow c l) -∗ WP c (k ⟨⟩) Q)
          -∗ WP c (.op (.waitDma2 sem srcw dstw wsrc wdst) fun _ =>
            .op (.enqueueDma (oM.slice (Rect.unit (s := S65536x1024) (o1 c) (rowsS 4096).size inb) hl : Memref sig .tc .hbm (rowsS 4096) .f32)
              (.remote (Dev.tc (⟨d1 c, b1⟩ : Dev nD) : Thread nD τ) (oM.slice (Rect.unit (s := S65536x1024) (o1 c) (rowsS 4096).size inb') hl' : Memref sig .tc .hbm (rowsS 4096) .f32) (.dma sS) hsc)
              (.dma sR) hsrc hdst hsem) fun _ =>
            .op (.enqueueDma (oM.slice (Rect.unit (s := S65536x1024) (o2 c) (rowsS 4096).size jnb) jl : Memref sig .tc .hbm (rowsS 4096) .f32)
              (.remote (Dev.tc (⟨d2 c, b2⟩ : Dev nD) : Thread nD τ) (oM.slice (Rect.unit (s := S65536x1024) (o2 c) (rowsS 4096).size jnb') jl' : Memref sig .tc .hbm (rowsS 4096) .f32) (.dma sS') jsc)
              (.dma sR') jsrc jdst jsem) k) Q) := by
  obtain ⟨hC, g1, g2⟩ := P
  have ha := (hC c).1 h
  have o : ∀ k : Fin 5, k ≠ 0 → on (k, i) c = true := fun k hk => (on_act c k i hk).trans ha
  have hf : fwd c i = false := by
    unfold fwd
    rcases hi with hi | hi
    · rw [hi, Bool.and_false]
    · rw [decide_eq_false hi, Bool.false_and]
  rw [A0_on m ha, A1_on m ha, hf]
  iintro ⟨#HE, HA, HO⟩ Hk
  iapply (stZ m K c i ha hs hN _ hlv) $$ [HA HO]
  · isplitr; · iexact HE
    isplitl [HA] <;> iassumption
  iintro ⟨HA, HO⟩
  iapply (st12 m K c _ _ i false ha (Fin.ext (g1 c (o 1 (by decide))).1) (Fin.ext (g2 c (o 2 (by decide))).1) hsS hsR hsS' hsR'
    (g1 c (o 1 (by decide))).2 (g2 c (o 2 (by decide))).2 l) $$ [HA HO]
  · isplitr; · iexact HE
    isplitl [HA] <;> iassumption
  iexact Hk

/-- Both quarter blocks awaited, and half of each sent on. -/
theorem pC (c : Dev nD) (i : Fin 6) {q : Dev nD → BitVec 1} {d1 d2 : Dev nD → ℕ} {o1 o2 : Dev nD → Fin 2 → ℕ}
    (P : IfAct q i ∧ Goes d1 o1 (3, i) ∧ Goes d2 o2 (4, i)) (h : q c = 1#1)
    {sw1 sw2 : DmaSem sig} (hs1 : sw1 = num 3 i) (hs2 : sw2 = num 5 i)
    {sp sp' : Space} {s s' : Shape} {e e' : EltTy} {κ' : Kind}
    {srcw : Memref sig .tc sp' s' e'} {dstw : Memref sig κ' sp s e} {wsrc : srcw.view.WordExact} {wdst : dstw.view.WordExact}
    (hN : dstw.view.dmaCredit = cr 4096)
    {tp tp' : Space} {t t' : Shape} {f f' : EltTy} {κ'' : Kind}
    {srcv : Memref sig .tc tp' t' f'} {dstv : Memref sig κ'' tp t f} {vsrc : srcv.view.WordExact} {vdst : dstv.view.WordExact}
    (hN' : dstv.view.dmaCredit = cr 4096)
    {sS sR sS' sR' : DmaSem sig} (hsS : csem (sc (3, i)) = .dma sS) (hsR : csem (rc (3, i)) = .dma sR)
    (hsS' : csem (sc (4, i)) = .dma sS') (hsR' : csem (rc (4, i)) = .dma sR')
    {b1 b2} {inb inb'} {hl hl'} {jnb jnb'} {jl jl'} {hsc} {hsrc} {hdst} {hsem} {jsc} {jsrc} {jdst} {jsem} (l : List S) (hlv : ∀ s ∈ (.inr (3, i) :: .inr (4, i) :: l : List S), 5 < level (Cert.Mesh.srcv s))
    {α : Type} {Q : α → sProp 𝕄} {k : PUnit → Prog (TpuEff nD τ sig (Elt F) Λ₀ .tc) α} :
    iprop(Env m K ∗ A1 m c i ∗ Ow c (.inr (3, i) :: .inr (4, i) :: l))
      ⊢ iprop((iprop(A2 m c i ∗ Ow c l) -∗ WP c (k ⟨⟩) Q)
          -∗ WP c (.op (.waitDma2 sw1 srcw dstw wsrc wdst) fun _ =>
            .op (.enqueueDma (oM.slice (Rect.unit (s := S65536x1024) (o1 c) (rowsS 2048).size inb) hl : Memref sig .tc .hbm (rowsS 2048) .f32)
              (.remote (Dev.tc (⟨d1 c, b1⟩ : Dev nD) : Thread nD τ) (oM.slice (Rect.unit (s := S65536x1024) (o1 c) (rowsS 2048).size inb') hl' : Memref sig .tc .hbm (rowsS 2048) .f32) (.dma sS) hsc)
              (.dma sR) hsrc hdst hsem) fun _ =>
            .op (.waitDma2 sw2 srcv dstv vsrc vdst) fun _ =>
            .op (.enqueueDma (oM.slice (Rect.unit (s := S65536x1024) (o2 c) (rowsS 2048).size jnb) jl : Memref sig .tc .hbm (rowsS 2048) .f32)
              (.remote (Dev.tc (⟨d2 c, b2⟩ : Dev nD) : Thread nD τ) (oM.slice (Rect.unit (s := S65536x1024) (o2 c) (rowsS 2048).size jnb') jl' : Memref sig .tc .hbm (rowsS 2048) .f32) (.dma sS') jsc)
              (.dma sR') jsrc jdst jsem) k) Q) := by
  obtain ⟨hC, g1, g2⟩ := P
  have ha := (hC c).1 h
  have o : ∀ k : Fin 5, k ≠ 0 → on (k, i) c = true := fun k hk => (on_act c k i hk).trans ha
  rw [A1_on m ha, A2_on m ha]
  exact st34 m K c _ _ i (fwd c i) ha (Fin.ext (g1 c (o 3 (by decide))).1) (Fin.ext (g2 c (o 4 (by decide))).1) hs1 hs2 hN hN' hsS hsR hsS' hsR'
    (g1 c (o 3 (by decide))).2 (g2 c (o 4 (by decide))).2 l hlv

/-- A transfer along the planes awaited at its source, where it was made. -/
theorem pZ (c : Dev nD) (i : Fin 6) {q : Dev nD → BitVec 1} (hC : IfZ q i) (h : q c = 1#1)
    {sem : DmaSem sig} (hs : sem = num 0 i) {sp sp' : Space} {s s' : Shape} {e e' : EltTy} {κ' : Kind}
    {srcw : Memref sig .tc sp' s' e'} {dstw : Memref sig κ' sp s e} {wsrc : srcw.view.WordExact} {wdst : dstw.view.WordExact}
    (hN : dstw.view.dmaCredit = cr 4096)
    {α : Type} {Q : α → sProp 𝕄} {k : PUnit → Prog (TpuEff nD τ sig (Elt F) Λ₀ .tc) α} :
    iprop(Env m K ∗ Y1 c i ∗ Ow c [])
      ⊢ iprop((iprop(Y2 m c i ∗ Ow c []) -∗ WP c (k ⟨⟩) Q) -∗ WP c (.op (.waitDma2 sem srcw dstw wsrc wdst) k) Q) := by
  have hz := (hC c).1 h
  rw [show Y1 c i = (Wt c (sc (0, i)) : sProp 𝕄) from if_pos hz, show Y2 m c i = iprop(sendPay m (0, i) c ∗ Z c (sc (0, i))) from if_pos hz]
  iintro H Hk
  iapply (wp_recvS m K c 0 i hz hs hN [] (by simp)) $$ [H]
  · iexact H
  iintro ⟨HS, HZ, HO⟩
  iapply Hk
  isplitr [HO]
  · isplitl [HS] <;> iassumption
  iexact HO

/-! ## A block under its condition -/

variable {m K}
/-- A block under its condition, of the first phase, -/
theorem stepA {c : Dev nD} {i : Fin 6} {q : Dev nD → BitVec 1} {α : Type} {A : q c = 1#1 → Prog (TpuEff nD τ sig (Elt F) Λ₀ .tc) α} {Q : α → sProp 𝕄}
    {J : Prog (TpuEff nD τ sig (Elt F) Λ₀ .tc) α} {l : List S} (hi : st i < 2) (hC : IfAct q i)
    (hA : ∀ h, iprop(Env m K ∗ A0 m c i ∗ Y0 m c (i + 1) ∗ Ow c (.inr (0, i + 1) :: .inr (1, i) :: .inr (2, i) :: l))
      ⊢ iprop((iprop(A1 m c i ∗ Y1 c (i + 1) ∗ Ow c l) -∗ WP c J Q) -∗ WP c (A h) Q)) :
    iprop(Env m K ∗ A0 m c i ∗ Y0 m c (i + 1) ∗ Ow c (.inr (0, i + 1) :: .inr (1, i) :: .inr (2, i) :: l))
      ⊢ iprop((iprop(A1 m c i ∗ Y1 c (i + 1) ∗ Ow c l) -∗ WP c J Q) -∗ WP c (dite (q c = 1#1) A (fun _ => J)) Q) :=
  wp_cond m K c (fun h => offA m c i hi (fun h' => h ((hC c).2 h')) l) hA

/-- where no rows go on along the planes, -/
theorem stepB {c : Dev nD} {i : Fin 6} {q : Dev nD → BitVec 1} {α : Type} {A : q c = 1#1 → Prog (TpuEff nD τ sig (Elt F) Λ₀ .tc) α} {Q : α → sProp 𝕄}
    {J : Prog (TpuEff nD τ sig (Elt F) Λ₀ .tc) α} {l : List S} (hC : IfAct q i)
    (hA : ∀ h, iprop(Env m K ∗ A0 m c i ∗ Ow c (.inr (1, i) :: .inr (2, i) :: l))
      ⊢ iprop((iprop(A1 m c i ∗ Ow c l) -∗ WP c J Q) -∗ WP c (A h) Q)) :
    iprop(Env m K ∗ A0 m c i ∗ Ow c (.inr (1, i) :: .inr (2, i) :: l))
      ⊢ iprop((iprop(A1 m c i ∗ Ow c l) -∗ WP c J Q) -∗ WP c (dite (q c = 1#1) A (fun _ => J)) Q) :=
  wp_cond m K c (fun h => offA' m c i (fun h' => h ((hC c).2 h')) l) hA

/-- of the second, -/
theorem stepC {c : Dev nD} {i : Fin 6} {q : Dev nD → BitVec 1} {α : Type} {A : q c = 1#1 → Prog (TpuEff nD τ sig (Elt F) Λ₀ .tc) α} {Q : α → sProp 𝕄}
    {J : Prog (TpuEff nD τ sig (Elt F) Λ₀ .tc) α} {l : List S} (hC : IfAct q i)
    (hA : ∀ h, iprop(Env m K ∗ A1 m c i ∗ Ow c (.inr (3, i) :: .inr (4, i) :: l))
      ⊢ iprop((iprop(A2 m c i ∗ Ow c l) -∗ WP c J Q) -∗ WP c (A h) Q)) :
    iprop(Env m K ∗ A1 m c i ∗ Ow c (.inr (3, i) :: .inr (4, i) :: l))
      ⊢ iprop((iprop(A2 m c i ∗ Ow c l) -∗ WP c J Q) -∗ WP c (dite (q c = 1#1) A (fun _ => J)) Q) :=
  wp_cond m K c (fun h => offB m c i (fun h' => h ((hC c).2 h')) l) hA

/-- of the third, -/
theorem stepD {c : Dev nD} {i : Fin 6} {q : Dev nD → BitVec 1} {α : Type} {A : q c = 1#1 → Prog (TpuEff nD τ sig (Elt F) Λ₀ .tc) α} {Q : α → sProp 𝕄}
    {J : Prog (TpuEff nD τ sig (Elt F) Λ₀ .tc) α} (hC : IfAct q i)
    (hA : ∀ h, iprop(Env m K ∗ A2 m c i ∗ Ow c []) ⊢ iprop((iprop(A3 m c i ∗ Ow c []) -∗ WP c J Q) -∗ WP c (A h) Q)) :
    iprop(Env m K ∗ A2 m c i ∗ Ow c []) ⊢ iprop((iprop(A3 m c i ∗ Ow c []) -∗ WP c J Q) -∗ WP c (dite (q c = 1#1) A (fun _ => J)) Q) :=
  wp_cond m K c (fun h => offC m c i (fun h' => h ((hC c).2 h')) []) hA

/-- and at the end. -/
theorem stepZ {c : Dev nD} {i : Fin 6} {q : Dev nD → BitVec 1} {α : Type} {A : q c = 1#1 → Prog (TpuEff nD τ sig (Elt F) Λ₀ .tc) α} {Q : α → sProp 𝕄}
    {J : Prog (TpuEff nD τ sig (Elt F) Λ₀ .tc) α} (hC : IfZ q i)
    (hA : ∀ h, iprop(Env m K ∗ Y1 c i ∗ Ow c []) ⊢ iprop((iprop(Y2 m c i ∗ Ow c []) -∗ WP c J Q) -∗ WP c (A h) Q)) :
    iprop(Env m K ∗ Y1 c i ∗ Ow c []) ⊢ iprop((iprop(Y2 m c i ∗ Ow c []) -∗ WP c J Q) -∗ WP c (dite (q c = 1#1) A (fun _ => J)) Q) :=
  wp_cond m K c (fun h => by
    have hz : ¬ zact (zc c) i = true := fun h' => h ((hC c).2 h')
    rw [show Y1 c i = (Z c (sc (0, i)) : sProp 𝕄) from if_neg hz, show Y2 m c i = Z c (sc (0, i)) from if_neg hz]) hA

end Cert.KernelIdeal.Hand

end
-- ==== Proof.PhaseOneIdeal.lean ====
module

public import proofs.«01_k».proof.Proof.StepsIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- The value a conditional chooses, bound on. -/
theorem dite_bind {C : Prop} [Decidable C] {α β : Type} {E : Type → Type} (A : C → Prog E α) (B : ¬ C → Prog E α) (f : α → Prog E β) :
    (dite C A B >>= f) = dite C (fun h => A h >>= f) (fun h => B h >>= f) := by
  by_cases h : C
  · rw [dif_pos h, dif_pos h]
  · rw [dif_neg h, dif_neg h]

/-- A step taken with part of what is held, the rest kept. -/
theorem wp_use {Γ E R R' W X P : sProp 𝕄} (h : iprop(E ∗ R) ⊢ iprop((R' -∗ W) -∗ X)) (hs : Γ ⊢ iprop(E ∗ R ∗ P)) (hJ : iprop(R' ∗ P) ⊢ W) : Γ ⊢ X := by
  refine hs.trans ?_
  iintro ⟨HE, HR, HP⟩
  iapply h $$ [HE HR]
  · isplitl [HE] <;> iassumption
  iintro HR
  iapply hJ
  isplitl [HR] <;> iassumption

attribute [local irreducible] k0_cond1 k0_cond2 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond33 k0_cond34

variable {h0 : xM.IsWhole} {h1 : oM.IsWhole} {h2 : vM.IsWhole}

set_option maxHeartbeats 4000000

/-- The first four steps of the first phase. -/
theorem part31 (c : Dev nD) (v2 v5 v8 v13 v37 v41 v43 v47 v49 v51 v171 : BitVec 32) {Q : _ → sProp 𝕄} {Φ : sProp 𝕄}
    (hQ : ∀ v, iprop(Env m K ∗ A1 m c 0 ∗ A1 m c 3 ∗ A1 m c 1 ∗ A1 m c 4 ∗ Y1 c 1 ∗ Y1 c 4 ∗ Y1 c 2 ∗ Y1 c 5 ∗ Ow c (order.drop 18) ∗ Φ) ⊢ Q v) :
    iprop(Env m K ∗ A0 m c 0 ∗ A0 m c 3 ∗ A0 m c 1 ∗ A0 m c 4 ∗ Y0 m c 1 ∗ Y0 m c 4 ∗ Y0 m c 2 ∗ Y0 m c 5 ∗ Ow c (order.drop 6) ∗ Φ) ⊢ WP c (k0_part31_skel xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13 c v2 v5 v8 v13 v37 v41 v43 v47 v49 v51 v171) Q := by
  unfold k0_part31_skel
  extract_lets
  rename_i j4 _ _ _ _ j3 _ _ _ _ j2 _ _ _ _ j1 _ _ _ _
  clear_value (e4 : j4 = _)
  clear_value (e3 : j3 = _)
  clear_value (e2 : j2 = _)
  clear_value (e1 : j1 = _)
  refine wp_use (E := Env m K) (R := iprop(A0 m c 0 ∗ Y0 m c 1 ∗ Ow c (.inr (0, 0 + 1) :: .inr (1, 0) :: .inr (2, 0) :: order.drop 9))) (R' := iprop(A1 m c 0 ∗ Y1 c 1 ∗ Ow c (order.drop 9)))
    (P := iprop(Env m K ∗ A0 m c 3 ∗ A0 m c 1 ∗ A0 m c 4 ∗ Y0 m c 4 ∗ Y0 m c 2 ∗ Y0 m c 5 ∗ Φ)) (W := WP c (j1 ⟨⟩) Q) ?_ ?_ ?_
  · refine stepA (i := 0) (l := order.drop 9) (by decide) p1_0.1 (fun h => ?_)
    simp only [k0_part1_eq_skeleton, k0_part1_skel, Prog.lift, Prog.bind_op, Prog.bind_ret, Prog.pure_eq_ret, dite_bind]
    refine pA m K c 0 (by decide) p1_0 h ?_ ?_ ?_ ?_ ?_ ?_ ?_ ?_ _ ?_ <;> first | rfl | decide
  · rw [show order.drop 6 = (.inr (0, 0 + 1) :: .inr (1, 0) :: .inr (2, 0) :: order.drop 9 : List S) from rfl]
    iintro ⟨#HE, HA0, HA3, HA1, HA4, HY1, HY4, HY2, HY5, HO, HF⟩
    isplitr; · iexact HE
    isplitl [HA0 HY1 HO]
    · isplitl [HA0]; iexact HA0; isplitl [HY1]; iexact HY1; iexact HO
    isplitr; · iexact HE
    isplitl [HA3]; iexact HA3; isplitl [HA1]; iexact HA1; isplitl [HA4]; iexact HA4; isplitl [HY4]; iexact HY4; isplitl [HY2]; iexact HY2; isplitl [HY5]; iexact HY5; iexact HF
  simp only [e1]
  refine wp_use (E := Env m K) (R := iprop(A0 m c 3 ∗ Y0 m c 4 ∗ Ow c (.inr (0, 3 + 1) :: .inr (1, 3) :: .inr (2, 3) :: order.drop 12))) (R' := iprop(A1 m c 3 ∗ Y1 c 4 ∗ Ow c (order.drop 12)))
    (P := iprop(Env m K ∗ A1 m c 0 ∗ A0 m c 1 ∗ A0 m c 4 ∗ Y1 c 1 ∗ Y0 m c 2 ∗ Y0 m c 5 ∗ Φ)) (W := WP c (j2 ⟨⟩) Q) ?_ ?_ ?_
  · refine stepA (i := 3) (l := order.drop 12) (by decide) p1_3.1 (fun h => ?_)
    simp only [k0_part2_eq_skeleton, k0_part2_skel, Prog.lift, Prog.bind_op, Prog.bind_ret, Prog.pure_eq_ret, dite_bind]
    refine pA m K c 3 (by decide) p1_3 h ?_ ?_ ?_ ?_ ?_ ?_ ?_ ?_ _ ?_ <;> first | rfl | decide
  · rw [show order.drop 9 = (.inr (0, 3 + 1) :: .inr (1, 3) :: .inr (2, 3) :: order.drop 12 : List S) from rfl]
    iintro ⟨⟨HA0, HY1, HO⟩, #HE, HA3, HA1, HA4, HY4, HY2, HY5, HF⟩
    isplitr; · iexact HE
    isplitl [HA3 HY4 HO]
    · isplitl [HA3]; iexact HA3; isplitl [HY4]; iexact HY4; iexact HO
    isplitr; · iexact HE
    isplitl [HA0]; iexact HA0; isplitl [HA1]; iexact HA1; isplitl [HA4]; iexact HA4; isplitl [HY1]; iexact HY1; isplitl [HY2]; iexact HY2; isplitl [HY5]; iexact HY5; iexact HF
  simp only [e2]
  refine wp_use (E := Env m K) (R := iprop(A0 m c 1 ∗ Y0 m c 2 ∗ Ow c (.inr (0, 1 + 1) :: .inr (1, 1) :: .inr (2, 1) :: order.drop 15))) (R' := iprop(A1 m c 1 ∗ Y1 c 2 ∗ Ow c (order.drop 15)))
    (P := iprop(Env m K ∗ A1 m c 0 ∗ A1 m c 3 ∗ A0 m c 4 ∗ Y1 c 1 ∗ Y1 c 4 ∗ Y0 m c 5 ∗ Φ)) (W := WP c (j3 ⟨⟩) Q) ?_ ?_ ?_
  · refine stepA (i := 1) (l := order.drop 15) (by decide) p1_1.1 (fun h => ?_)
    simp only [k0_part3_eq_skeleton, k0_part3_skel, Prog.lift, Prog.bind_op, Prog.bind_ret, Prog.pure_eq_ret, dite_bind]
    refine pA m K c 1 (by decide) p1_1 h ?_ ?_ ?_ ?_ ?_ ?_ ?_ ?_ _ ?_ <;> first | rfl | decide
  · rw [show order.drop 12 = (.inr (0, 1 + 1) :: .inr (1, 1) :: .inr (2, 1) :: order.drop 15 : List S) from rfl]
    iintro ⟨⟨HA3, HY4, HO⟩, #HE, HA0, HA1, HA4, HY1, HY2, HY5, HF⟩
    isplitr; · iexact HE
    isplitl [HA1 HY2 HO]
    · isplitl [HA1]; iexact HA1; isplitl [HY2]; iexact HY2; iexact HO
    isplitr; · iexact HE
    isplitl [HA0]; iexact HA0; isplitl [HA3]; iexact HA3; isplitl [HA4]; iexact HA4; isplitl [HY1]; iexact HY1; isplitl [HY4]; iexact HY4; isplitl [HY5]; iexact HY5; iexact HF
  simp only [e3]
  refine wp_use (E := Env m K) (R := iprop(A0 m c 4 ∗ Y0 m c 5 ∗ Ow c (.inr (0, 4 + 1) :: .inr (1, 4) :: .inr (2, 4) :: order.drop 18))) (R' := iprop(A1 m c 4 ∗ Y1 c 5 ∗ Ow c (order.drop 18)))
    (P := iprop(Env m K ∗ A1 m c 0 ∗ A1 m c 3 ∗ A1 m c 1 ∗ Y1 c 1 ∗ Y1 c 4 ∗ Y1 c 2 ∗ Φ)) (W := WP c (j4 ⟨⟩) Q) ?_ ?_ ?_
  · refine stepA (i := 4) (l := order.drop 18) (by decide) p1_4.1 (fun h => ?_)
    simp only [k0_part4_eq_skeleton, k0_part4_skel, Prog.lift, Prog.bind_op, Prog.bind_ret, Prog.pure_eq_ret, dite_bind]
    refine pA m K c 4 (by decide) p1_4 h ?_ ?_ ?_ ?_ ?_ ?_ ?_ ?_ _ ?_ <;> first | rfl | decide
  · rw [show order.drop 15 = (.inr (0, 4 + 1) :: .inr (1, 4) :: .inr (2, 4) :: order.drop 18 : List S) from rfl]
    iintro ⟨⟨HA1, HY2, HO⟩, #HE, HA0, HA3, HA4, HY1, HY4, HY5, HF⟩
    isplitr; · iexact HE
    isplitl [HA4 HY5 HO]
    · isplitl [HA4]; iexact HA4; isplitl [HY5]; iexact HY5; iexact HO
    isplitr; · iexact HE
    isplitl [HA0]; iexact HA0; isplitl [HA3]; iexact HA3; isplitl [HA1]; iexact HA1; isplitl [HY1]; iexact HY1; isplitl [HY4]; iexact HY4; isplitl [HY2]; iexact HY2; iexact HF
  simp only [e4]
  refine BIBase.Entails.trans (BIBase.Entails.trans ?_ (hQ _)) (le_wp_ret _ _ _ _ _)
  iintro ⟨⟨HA4, HY5, HO⟩, #HE, HA0, HA3, HA1, HY1, HY4, HY2, HF⟩
  isplitr; · iexact HE
  isplitl [HA0]; iexact HA0; isplitl [HA3]; iexact HA3; isplitl [HA1]; iexact HA1; isplitl [HA4]; iexact HA4; isplitl [HY1]; iexact HY1; isplitl [HY4]; iexact HY4; isplitl [HY2]; iexact HY2; isplitl [HY5]; iexact HY5; isplitl [HO]; iexact HO; iexact HF

end Cert.KernelIdeal.Hand

end
-- ==== Proof.CopyIdeal.lean ====
module

public import proofs.«01_k».proof.Proof.PhaseOneIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

attribute [local irreducible] k0_cond1 k0_cond2 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond33 k0_cond34

variable {h0 : xM.IsWhole} {h1 : oM.IsWhole} {h2 : vM.IsWhole}

set_option maxHeartbeats 1000000

/-- A slot of the scratch buffer. -/
abbrev slot0 : Memref sig .tc .vmem S4096x1024 .f32 :=
  (vM.slice (Rect.unit (s := S2x4096x1024) ![0, 0, 0] S1x4096x1024.size inb_S2x4096x1024_S1x4096x1024_0_0_0) (fun _ => rfl)).squeeze S4096x1024 squeezes_S1x4096x1024_S4096x1024
abbrev slot1 : Memref sig .tc .vmem S4096x1024 .f32 :=
  (vM.slice (Rect.unit (s := S2x4096x1024) ![1, 0, 0] S1x4096x1024.size inb_S2x4096x1024_S1x4096x1024_1_0_0) (fun _ => rfl)).squeeze S4096x1024 squeezes_S1x4096x1024_S4096x1024
/-- The semaphores of the copies that stay on the device. -/
abbrev s0 : DmaSem sig := ((0 : Fin 64) : DmaSem sig)
abbrev s1 : DmaSem sig := ((1 : Fin 64) : DmaSem sig)
abbrev s2 : DmaSem sig := ((2 : Fin 64) : DmaSem sig)
abbrev s3 : DmaSem sig := ((3 : Fin 64) : DmaSem sig)

theorem lv6 : ∀ s ∈ order.drop 6, 0 < level (srcv s) := by decide

/-- The first quarter is copied out and the second in and out. -/
theorem part28 (c : Dev nD) (v8 : BitVec 32) {Q : _ → sProp 𝕄} {Φ : sProp 𝕄}
    (hQ : ∀ v, iprop(Env m K ∗ flyOut m c slot0 0 s2 ∗ flyOut m c slot1 4096 s3 ∗ semVal ((c : Thread nD τ), .dma (s0 : DmaSem sig)) 0 ∗ semVal ((c : Thread nD τ), .dma (s1 : DmaSem sig)) 0 ∗ argL m c ∗ Ow c (order.drop 6) ∗ Φ) ⊢ Q v) :
    iprop(Env m K ∗ flyIn m c slot0 0 s0 ∗ slotE c slot1 ∗ semVal ((c : Thread nD τ), .dma (s1 : DmaSem sig)) 0 ∗ semVal ((c : Thread nD τ), .dma (s2 : DmaSem sig)) 0 ∗ semVal ((c : Thread nD τ), .dma (s3 : DmaSem sig)) 0 ∗ outPt c fullShare (zc c * 16384 + 0) 4096 (argO m c) ∗ outPt c fullShare (zc c * 16384 + 4096) 4096 (argO m c) ∗ Ow c (order.drop 6) ∗ Φ)
      ⊢ WP c (k0_part28_skel xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13 c v8) Q := by
  simp only [k0_part28_skel, Prog.lift, Prog.bind_op, Prog.bind_ret, Prog.pure_eq_ret]
  iintro ⟨#HE, HI, HB, H1, H2, H3, HQ0, HQ1, HO, HF⟩
  iapply (wp_in_wait m K c slot0 0 (by decide) s0 (by decide) _ lv6) $$ [HI HO]
  · isplitr; · iexact HE
    isplitl [HI] <;> iassumption
  iintro ⟨HA, HL, H0, HO⟩
  iapply (wp_out m c slot0 0 (by decide) s2 (off5_ok 0 c)) $$ [HA HQ0 H2]
  · isplitl [HA]; · iexact HA
    isplitl [HQ0] <;> iassumption
  iintro HA
  iapply (wp_in m c slot1 4096 (by decide) s1 ⟨rfl, rfl⟩) $$ [HL HB H1]
  · isplitl [HL]; · iexact HL
    isplitl [HB] <;> iassumption
  iintro HI
  iapply (wp_in_wait m K c slot1 4096 (by decide) s1 (by decide) _ lv6) $$ [HI HO]
  · isplitr; · iexact HE
    isplitl [HI] <;> iassumption
  iintro ⟨HB, HL, H1, HO⟩
  iapply (wp_out m c slot1 4096 (by decide) s3 (off5_ok 1 c)) $$ [HB HQ1 H3]
  · isplitl [HB]; · iexact HB
    isplitl [HQ1] <;> iassumption
  iintro HB
  iapply (le_wp_ret _ _ _ _ _)
  iapply (hQ _)
  isplitr; · iexact HE
  isplitl [HA]; · iexact HA
  isplitl [HB]; · iexact HB
  isplitl [H0]; · iexact H0
  isplitl [H1]; · iexact H1
  isplitl [HL]; · iexact HL
  isplitl [HO] <;> iassumption

/-- The third quarter is copied in and out, and the first two are there. -/
theorem part29 (c : Dev nD) (v8 : BitVec 32) {Q : _ → sProp 𝕄} {Φ : sProp 𝕄}
    (hQ : ∀ v, iprop(Env m K ∗ flyOut m c slot0 8192 s2 ∗ slotE c slot1 ∗ semVal ((c : Thread nD τ), .dma (s0 : DmaSem sig)) 0 ∗ semVal ((c : Thread nD τ), .dma (s3 : DmaSem sig)) 0 ∗ argL m c ∗ outPt c fullShare (zc c * 16384 + 0) 4096 (G m c) ∗ outPt c fullShare (zc c * 16384 + 4096) 4096 (G m c) ∗ Ow c (order.drop 6) ∗ Φ) ⊢ Q v) :
    iprop(Env m K ∗ flyOut m c slot0 0 s2 ∗ flyOut m c slot1 4096 s3 ∗ semVal ((c : Thread nD τ), .dma (s0 : DmaSem sig)) 0 ∗ argL m c ∗ outPt c fullShare (zc c * 16384 + 8192) 4096 (argO m c) ∗ Ow c (order.drop 6) ∗ Φ)
      ⊢ WP c (k0_part29_skel xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13 c v8) Q := by
  simp only [k0_part29_skel, Prog.lift, Prog.bind_op, Prog.bind_ret, Prog.pure_eq_ret]
  iintro ⟨#HE, HA, HB, H0, HL, HQ, HO, HF⟩
  iapply (wp_out_wait m K c slot0 0 s2 (by decide) _ lv6) $$ [HA HO]
  · isplitr; · iexact HE
    isplitl [HA] <;> iassumption
  iintro ⟨HA, HR0, H2, HO⟩
  iapply (wp_in m c slot0 8192 (by decide) s0 ⟨rfl, rfl⟩) $$ [HL HA H0]
  · isplitl [HL]; · iexact HL
    isplitl [HA] <;> iassumption
  iintro HI
  iapply (wp_in_wait m K c slot0 8192 (by decide) s0 (by decide) _ lv6) $$ [HI HO]
  · isplitr; · iexact HE
    isplitl [HI] <;> iassumption
  iintro ⟨HA, HL, H0, HO⟩
  iapply (wp_out m c slot0 8192 (by decide) s2 (off5_ok 2 c)) $$ [HA HQ H2]
  · isplitl [HA]; · iexact HA
    isplitl [HQ] <;> iassumption
  iintro HA
  iapply (wp_out_wait m K c slot1 4096 s3 (by decide) _ lv6) $$ [HB HO]
  · isplitr; · iexact HE
    isplitl [HB] <;> iassumption
  iintro ⟨HB, HR1, H3, HO⟩
  iapply (le_wp_ret _ _ _ _ _)
  iapply (hQ _)
  isplitr; · iexact HE
  isplitl [HA]; · iexact HA
  isplitl [HB]; · iexact HB
  isplitl [H0]; · iexact H0
  isplitl [H3]; · iexact H3
  isplitl [HL]; · iexact HL
  isplitl [HR0]; · iexact HR0
  isplitl [HR1]; · iexact HR1
  isplitl [HO] <;> iassumption

/-- The last quarter is copied in and out, and all are there. -/
theorem part30 (c : Dev nD) (v8 : BitVec 32) {Q : _ → sProp 𝕄} {Φ : sProp 𝕄}
    (hQ : ∀ v, iprop(Env m K ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ Ow c (order.drop 6) ∗ Φ) ⊢ Q v) :
    iprop(Env m K ∗ flyOut m c slot0 8192 s2 ∗ slotE c slot1 ∗ semVal ((c : Thread nD τ), .dma (s0 : DmaSem sig)) 0 ∗ semVal ((c : Thread nD τ), .dma (s1 : DmaSem sig)) 0 ∗ semVal ((c : Thread nD τ), .dma (s3 : DmaSem sig)) 0 ∗ argL m c ∗ outPt c fullShare (zc c * 16384 + 12288) 4096 (argO m c) ∗ Ow c (order.drop 6) ∗ Φ)
      ⊢ WP c (k0_part30_skel xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13 c v8) Q := by
  simp only [k0_part30_skel, Prog.lift, Prog.bind_op, Prog.bind_ret, Prog.pure_eq_ret]
  iintro ⟨#HE, HA, HB, H0, H1, H3, HL, HQ, HO, HF⟩
  iapply (wp_in m c slot1 12288 (by decide) s1 ⟨rfl, rfl⟩) $$ [HL HB H1]
  · isplitl [HL]; · iexact HL
    isplitl [HB] <;> iassumption
  iintro HI
  iapply (wp_in_wait m K c slot1 12288 (by decide) s1 (by decide) _ lv6) $$ [HI HO]
  · isplitr; · iexact HE
    isplitl [HI] <;> iassumption
  iintro ⟨HB, HL, H1, HO⟩
  iapply (wp_out m c slot1 12288 (by decide) s3 (off5_ok 3 c)) $$ [HB HQ H3]
  · isplitl [HB]; · iexact HB
    isplitl [HQ] <;> iassumption
  iintro HB
  iapply (wp_out_wait m K c slot0 8192 s2 (by decide) _ lv6) $$ [HA HO]
  · isplitr; · iexact HE
    isplitl [HA] <;> iassumption
  iintro ⟨HA, HR0, H2, HO⟩
  iapply (wp_out_wait m K c slot1 12288 s3 (by decide) _ lv6) $$ [HB HO]
  · isplitr; · iexact HE
    isplitl [HB] <;> iassumption
  iintro ⟨HB, HR1, H3, HO⟩
  iapply (le_wp_ret _ _ _ _ _)
  iapply (hQ _)
  isplitr; · iexact HE
  isplitl [HA]; · iexact HA
  isplitl [HB]; · iexact HB
  isplitl [H0]; · iexact H0
  isplitl [H1]; · iexact H1
  isplitl [H2]; · iexact H2
  isplitl [H3]; · iexact H3
  isplitl [HL]; · iexact HL
  isplitl [HR0]; · iexact HR0
  isplitl [HR1]; · iexact HR1
  isplitl [HO] <;> iassumption

end Cert.KernelIdeal.Hand

end
-- ==== Proof.HeadIdeal.lean ====
module

public import proofs.«01_k».proof.Proof.CopyIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

attribute [local irreducible] k0_cond1 k0_cond2 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond33 k0_cond34

variable {h0 : xM.IsWhole} {h1 : oM.IsWhole} {h2 : vM.IsWhole}

set_option maxHeartbeats 1000000

/-- What a device gives to a neighbour at the barrier: its mark and its own rows that the neighbour will fill. -/
def Sg (b : B) (c : Dev nD) : sProp 𝕄 := if bon b c = true then iprop(dutyTok ER (cell (btgt b c) none) 0 b ∗ barPay m b (btgt b c)) else iprop(emp)

variable {m K}
/-- A signal under its condition. -/
theorem stepS {c : Dev nD} {b : B} {C : Prop} [Decidable C] {α : Type} {A : C → Prog (TpuEff nD τ sig (Elt F) Λ₀ .tc) α} {Q : α → sProp 𝕄}
    {J : Prog (TpuEff nD τ sig (Elt F) Λ₀ .tc) α} {l : List S} (hC : C ↔ bon b c = true)
    (hA : ∀ h, iprop(Env m K ∗ dutyTok ER (cell (btgt b c) none) 0 b ∗ barPay m b (btgt b c) ∗ Ow c (.inl b :: l)) ⊢ iprop((Ow c l -∗ WP c J Q) -∗ WP c (A h) Q)) :
    iprop(Env m K ∗ Sg m b c ∗ Ow c (.inl b :: l)) ⊢ iprop((Ow c l -∗ WP c J Q) -∗ WP c (dite C A (fun _ => J)) Q) :=
  wp_cond m K c (fun h => by
    have hz : ¬ bon b c = true := fun h' => h (hC.2 h')
    rw [show (Ow c (.inl b :: l) : sProp 𝕄) = Ow c l from Ow_off (Bool.eq_false_iff.2 hz)]
    iintro ⟨-, HO⟩; iexact HO) (fun h => by
    rw [show Sg m b c = iprop(dutyTok ER (cell (btgt b c) none) 0 b ∗ barPay m b (btgt b c)) from if_pos (hC.1 h)]
    iintro ⟨#HE, ⟨HT, HP⟩, HO⟩
    iapply (hA h)
    isplitr; · iexact HE
    isplitl [HT]; · iexact HT
    isplitl [HP] <;> iassumption)

/-- One more of the barrier awaited, under its condition. -/
theorem stepW {c : Dev nD} {n : ℕ} {C P : Prop} [Decidable C] [Decidable P] {α : Type} {A : C → Prog (TpuEff nD τ sig (Elt F) Λ₀ .tc) α} {Q : α → sProp 𝕄}
    {J : Prog (TpuEff nD τ sig (Elt F) Λ₀ .tc) α} {l : List S} (hC : C ↔ P)
    (hA : ∀ h, iprop(Env m K ∗ Bar m c n ∗ Ow c l) ⊢ iprop((iprop(Bar m c (n + 1) ∗ Ow c l) -∗ WP c J Q) -∗ WP c (A h) Q)) :
    iprop(Env m K ∗ Bar m c n ∗ Ow c l) ⊢ iprop((iprop(Bar m c (n + if P then 1 else 0) ∗ Ow c l) -∗ WP c J Q) -∗ WP c (dite C A (fun _ => J)) Q) :=
  wp_cond m K c (fun h => by rw [if_neg (fun h' => h (hC.2 h'))]; exact BIBase.Entails.rfl) (fun h => by rw [if_pos (hC.1 h)]; exact hA h)

/-- A first send along the planes, under its condition. -/
theorem stepY {c : Dev nD} {i : Fin 6} (hf : first (0, i) = true) {C : Prop} [Decidable C] {α : Type} {A : C → Prog (TpuEff nD τ sig (Elt F) Λ₀ .tc) α} {Q : α → sProp 𝕄}
    {J : Prog (TpuEff nD τ sig (Elt F) Λ₀ .tc) α} {l : List S} (hC : C ↔ zact (zc c) i = true)
    (hA : ∀ h, iprop(Env m K ∗ Snd m c (0, i) ∗ sendPay m (0, i) c ∗ Ow c (.inr (0, i) :: l)) ⊢ iprop((iprop(Wt c (sc (0, i)) ∗ Ow c l) -∗ WP c J Q) -∗ WP c (A h) Q)) :
    iprop(Env m K ∗ Y0 m c i ∗ Ow c (.inr (0, i) :: l)) ⊢ iprop((iprop(Y1 c i ∗ Ow c l) -∗ WP c J Q) -∗ WP c (dite C A (fun _ => J)) Q) :=
  wp_cond m K c (fun h => by
    have hz : ¬ zact (zc c) i = true := fun h' => h (hC.2 h')
    rw [show (Ow c (.inr (0, i) :: l) : sProp 𝕄) = Ow c l from Ow_off (Bool.eq_false_iff.2 hz),
      show Y1 c i = (Z c (sc (0, i)) : sProp 𝕄) from if_neg hz, show Y0 m c i = Z c (sc (0, i)) from if_neg hz]) (fun h => by
    have hz := hC.1 h
    rw [show Y1 c i = (Wt c (sc (0, i)) : sProp 𝕄) from if_pos hz,
      show Y0 m c i = iprop(Snd m c (0, i) ∗ (if first (0, i) = true then sendPay m (0, i) c else emp)) from if_pos hz, if_pos hf]
    iintro ⟨#HE, ⟨HS, HP⟩, HO⟩
    iapply (hA h)
    isplitr; · iexact HE
    isplitl [HS]; · iexact HS
    isplitl [HP] <;> iassumption)

variable (m K)
/-- The signals to the ring. -/
theorem part26 (c : Dev nD) (v24 v35 : BitVec 32) {Q : _ → sProp 𝕄} {Φ : sProp 𝕄}
    (hQ : ∀ v37 v41 v43 v47 v49 v51 c3 : BitVec 32, iprop(Env m K ∗ Ow c (order.drop 2) ∗ Φ) ⊢ Q ⟨v37, v41, v43, v47, v49, v51, (SemArray.scalar (sig.barrier 0 rfl) : Sems sig S_), c3⟩) :
    iprop(Env m K ∗ Sg m 0 c ∗ Sg m 1 c ∗ Ow c order ∗ Φ)
      ⊢ WP c (k0_part26_skel xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13 c (zw c) v24 v35) Q := by
  simp only [k0_part26_skel, semSignalWord, Prog.lift, Prog.bind_op, Prog.bind_ret, Prog.pure_eq_ret]
  rw [show order = (.inl 0 :: .inl 1 :: order.drop 2 : List S) from rfl, show Sg m 0 c = iprop(dutyTok ER (cell (btgt 0 c) none) 0 0 ∗ barPay m 0 (btgt 0 c)) from rfl,
    show Sg m 1 c = iprop(dutyTok ER (cell (btgt 1 c) none) 0 1 ∗ barPay m 1 (btgt 1 c)) from rfl]
  iintro ⟨#HE, ⟨HA, HA'⟩, ⟨HB, HB'⟩, HO, HF⟩
  iapply (wp_bar m K c _ 0 rfl (Fin.ext (dev1_ok c)) _) $$ [HA HA' HO]
  · isplitr; · iexact HE
    isplitl [HA]; · iexact HA
    isplitl [HA'] <;> iassumption
  iintro HO
  iapply (wp_bar m K c _ 1 rfl (Fin.ext (dev2_ok c)) _) $$ [HB HB' HO]
  · isplitr; · iexact HE
    isplitl [HB]; · iexact HB
    isplitl [HB'] <;> iassumption
  iintro HO
  iapply (le_wp_ret _ _ _ _ _)
  iapply (hQ _ _ _ _ _ _ _)
  isplitr; · iexact HE
  isplitl [HO] <;> iassumption

theorem lv4 : ∀ s ∈ order.drop 4, 1 < level (srcv s) := by decide

/-- The signals along the planes, the barrier, the first sends, and the first copy begun. -/
theorem part27 (c : Dev nD) (v2 v5 v13 v49 v51 c3 : BitVec 32) {Q : PUnit → sProp 𝕄} {Φ Φ' : sProp 𝕄}
    (hB : iprop(Bar m c (bset c).card ∗ Φ) ⊢ iprop(Y0 m c 0 ∗ Y0 m c 3 ∗ Φ'))
    (hQ : ∀ v, iprop(Env m K ∗ Y1 c 0 ∗ Y1 c 3 ∗ flyIn m c slot0 0 s0 ∗ Ow c (order.drop 6) ∗ Φ') ⊢ Q v) :
    iprop(Env m K ∗ Sg m 2 c ∗ Sg m 3 c ∗ Bar m c 0 ∗ argL m c ∗ slotE c slot0 ∗ semVal ((c : Thread nD τ), .dma (s0 : DmaSem sig)) 0 ∗ Ow c (order.drop 2) ∗ Φ)
      ⊢ WP c (k0_part27_skel xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13 c v2 v5 (zw c) v13 v49 v51 (SemArray.scalar (sig.barrier 0 rfl)) c3) Q := by
  unfold k0_part27_skel
  extract_lets
  rename_i v71 v72 v73 v74 v75 v76 v83 v84 v85 v86 v87 j6 a1 a2 a3 a4 j5 b1 b2 b3 b4 j4 j3 j2 j1
  clear_value (e1 : j1 = _)
  clear_value (e2 : j2 = _)
  clear_value (e3 : j3 = _)
  clear_value (e4 : j4 = _)
  clear_value (e5 : j5 = _)
  clear_value (e6 : j6 = _)
  refine wp_use (E := Env m K) (R := iprop(Sg m 2 c ∗ Ow c (.inl 2 :: order.drop 3))) (R' := Ow c (order.drop 3))
    (P := iprop(Env m K ∗ Sg m 3 c ∗ Bar m c 0 ∗ argL m c ∗ slotE c slot0 ∗ semVal ((c : Thread nD τ), .dma (s0 : DmaSem sig)) 0 ∗ Φ)) (W := WP c (j1 ⟨⟩) Q) ?_ ?_ ?_
  · refine stepS (b := 2) (l := order.drop 3) (cond1_ok c) (fun h => ?_)
    simp only [semSignalWord, semWaitWord, Prog.lift, Prog.bind_op, Prog.bind_ret, Prog.pure_eq_ret]
    exact wp_bar m K c _ 2 ((cond1_ok c).1 h) (Fin.ext (dev3_ok c ((cond1_ok c).1 h))) _
  · rw [show order.drop 2 = (.inl 2 :: order.drop 3 : List S) from rfl]
    iintro ⟨#HE, HS, HT, HB, HL, HV, H0, HO, HF⟩
    isplitr; · iexact HE
    isplitl [HS HO]
    · isplitl [HS]; iexact HS; iexact HO
    isplitr; · iexact HE
    isplitl [HT]; iexact HT; isplitl [HB]; iexact HB; isplitl [HL]; iexact HL; isplitl [HV]; iexact HV; isplitl [H0]; iexact H0; iexact HF
  simp only [e1]
  refine wp_use (E := Env m K) (R := iprop(Sg m 3 c ∗ Ow c (.inl 3 :: order.drop 4))) (R' := Ow c (order.drop 4))
    (P := iprop(Env m K ∗ Bar m c 0 ∗ argL m c ∗ slotE c slot0 ∗ semVal ((c : Thread nD τ), .dma (s0 : DmaSem sig)) 0 ∗ Φ)) (W := WP c (j2 ⟨⟩) Q) ?_ ?_ ?_
  · refine stepS (b := 3) (l := order.drop 4) (cond2_ok c) (fun h => ?_)
    simp only [semSignalWord, semWaitWord, Prog.lift, Prog.bind_op, Prog.bind_ret, Prog.pure_eq_ret]
    exact wp_bar m K c _ 3 ((cond2_ok c).1 h) (Fin.ext (dev4_ok c ((cond2_ok c).1 h))) _
  · rw [show order.drop 3 = (.inl 3 :: order.drop 4 : List S) from rfl]
    iintro ⟨HO, #HE, HT, HB, HL, HV, H0, HF⟩
    isplitr; · iexact HE
    isplitl [HT HO]
    · isplitl [HT]; iexact HT; iexact HO
    isplitr; · iexact HE
    isplitl [HB]; iexact HB; isplitl [HL]; iexact HL; isplitl [HV]; iexact HV; isplitl [H0]; iexact H0; iexact HF
  simp only [e2, semWaitWord, Prog.lift, Prog.bind_op, Prog.bind_ret]
  refine wp_use (E := Env m K) (R := iprop(Bar m c 0 ∗ Ow c (order.drop 4))) (R' := iprop(Bar m c (0 + 2) ∗ Ow c (order.drop 4)))
    (P := iprop(Env m K ∗ argL m c ∗ slotE c slot0 ∗ semVal ((c : Thread nD τ), .dma (s0 : DmaSem sig)) 0 ∗ Φ)) (wp_barwait m K c 0 2 (by decide) (by rw [bset_card c]; omega) _ lv4) ?_ ?_
  · iintro ⟨HO, #HE, HB, HL, HV, H0, HF⟩
    isplitr; · iexact HE
    isplitl [HB HO]
    · isplitl [HB]; iexact HB; iexact HO
    isplitr; · iexact HE
    isplitl [HL]; iexact HL; isplitl [HV]; iexact HV; isplitl [H0]; iexact H0; iexact HF
  refine wp_use (E := Env m K) (R := iprop(Bar m c (0 + 2) ∗ Ow c (order.drop 4))) (R' := iprop(Bar m c (0 + 2 + if zc c < 3 then 1 else 0) ∗ Ow c (order.drop 4)))
    (P := iprop(Env m K ∗ argL m c ∗ slotE c slot0 ∗ semVal ((c : Thread nD τ), .dma (s0 : DmaSem sig)) 0 ∗ Φ)) (W := WP c (j3 ⟨⟩) Q) ?_ ?_ ?_
  · refine stepW (n := 0 + 2) (P := zc c < 3) (zw_up c) (fun h => ?_)
    exact wp_barwait m K c (0 + 2) 1 (by decide) (by rw [bset_card c, if_pos ((zw_up c).1 h)]; omega) _ lv4
  · iintro ⟨⟨HB, HO⟩, #HE, HL, HV, H0, HF⟩
    isplitr; · iexact HE
    isplitl [HB HO]
    · isplitl [HB]; iexact HB; iexact HO
    isplitr; · iexact HE
    isplitl [HL]; iexact HL; isplitl [HV]; iexact HV; isplitl [H0]; iexact H0; iexact HF
  simp only [e3]
  refine wp_use (E := Env m K) (R := iprop(Bar m c (0 + 2 + if zc c < 3 then 1 else 0) ∗ Ow c (order.drop 4))) (R' := iprop(Bar m c ((0 + 2 + if zc c < 3 then 1 else 0) + if 0 < zc c then 1 else 0) ∗ Ow c (order.drop 4)))
    (P := iprop(Env m K ∗ argL m c ∗ slotE c slot0 ∗ semVal ((c : Thread nD τ), .dma (s0 : DmaSem sig)) 0 ∗ Φ)) (W := WP c (j4 ⟨⟩) Q) ?_ ?_ ?_
  · refine stepW (n := 0 + 2 + if zc c < 3 then 1 else 0) (P := 0 < zc c) (zw_dn c) (fun h => ?_)
    simp only [semSignalWord, semWaitWord, Prog.lift, Prog.bind_op, Prog.bind_ret, Prog.pure_eq_ret]
    exact wp_barwait m K c _ 1 (by decide) (by rw [bset_card c, if_pos ((zw_dn c).1 h)]) _ lv4
  · iintro ⟨⟨HB, HO⟩, #HE, HL, HV, H0, HF⟩
    isplitr; · iexact HE
    isplitl [HB HO]
    · isplitl [HB]; iexact HB; iexact HO
    isplitr; · iexact HE
    isplitl [HL]; iexact HL; isplitl [HV]; iexact HV; isplitl [H0]; iexact H0; iexact HF
  simp only [e4]
  refine BIBase.Entails.trans (Q := iprop(Env m K ∗ Y0 m c 0 ∗ Y0 m c 3 ∗ argL m c ∗ slotE c slot0 ∗ semVal ((c : Thread nD τ), .dma (s0 : DmaSem sig)) 0 ∗ Ow c (order.drop 4) ∗ Φ')) ?_ ?_
  · rw [show (0 + 2 + if zc c < 3 then 1 else 0) + (if 0 < zc c then 1 else 0) = (bset c).card from by rw [bset_card c, Nat.zero_add]]
    iintro ⟨⟨HB, HO⟩, #HE, HL, HV, H0, HF⟩
    ihave ⟨HY0, HY3, HF⟩ := hB $$ [HB HF]
    · isplitl [HB] <;> iassumption
    isplitr; · iexact HE
    isplitl [HY0]; · iexact HY0
    isplitl [HY3]; · iexact HY3
    isplitl [HL]; · iexact HL
    isplitl [HV]; · iexact HV
    isplitl [H0]; · iexact H0
    isplitl [HO] <;> iassumption
  refine wp_use (E := Env m K) (R := iprop(Y0 m c 0 ∗ Ow c (.inr (0, 0) :: order.drop 5))) (R' := iprop(Y1 c 0 ∗ Ow c (order.drop 5)))
    (P := iprop(Env m K ∗ Y0 m c 3 ∗ argL m c ∗ slotE c slot0 ∗ semVal ((c : Thread nD τ), .dma (s0 : DmaSem sig)) 0 ∗ Φ')) (W := WP c (j5 ⟨⟩) Q) ?_ ?_ ?_
  · refine stepY (i := 0) (l := order.drop 5) rfl (z_0.1 c) (fun h => ?_)
    have hz := (z_0.1 c).1 h
    obtain ⟨hd, ho⟩ := z_0.2 c hz
    simp only [Prog.lift, Prog.bind_op, Prog.bind_ret, Prog.pure_eq_ret]
    exact wp_send_first m K c _ (0, 0) hz rfl (Fin.ext hd) rfl rfl (off2_ok c) ho _
  · rw [show order.drop 4 = (.inr (0, 0) :: order.drop 5 : List S) from rfl]
    iintro ⟨#HE, HY0, HY3, HL, HV, H0, HO, HF⟩
    isplitr; · iexact HE
    isplitl [HY0 HO]
    · isplitl [HY0]; iexact HY0; iexact HO
    isplitr; · iexact HE
    isplitl [HY3]; iexact HY3; isplitl [HL]; iexact HL; isplitl [HV]; iexact HV; isplitl [H0]; iexact H0; iexact HF
  simp only [e5]
  refine wp_use (E := Env m K) (R := iprop(Y0 m c 3 ∗ Ow c (.inr (0, 3) :: order.drop 6))) (R' := iprop(Y1 c 3 ∗ Ow c (order.drop 6)))
    (P := iprop(Env m K ∗ Y1 c 0 ∗ argL m c ∗ slotE c slot0 ∗ semVal ((c : Thread nD τ), .dma (s0 : DmaSem sig)) 0 ∗ Φ')) (W := WP c (j6 ⟨⟩) Q) ?_ ?_ ?_
  · refine stepY (i := 3) (l := order.drop 6) rfl (z_3.1 c) (fun h => ?_)
    have hz := (z_3.1 c).1 h
    obtain ⟨hd, ho⟩ := z_3.2 c hz
    simp only [Prog.lift, Prog.bind_op, Prog.bind_ret, Prog.pure_eq_ret]
    exact wp_send_first m K c _ (0, 3) hz rfl (Fin.ext hd) rfl rfl (off4_ok c) ho _
  · rw [show order.drop 5 = (.inr (0, 3) :: order.drop 6 : List S) from rfl]
    iintro ⟨⟨HY0, HO⟩, #HE, HY3, HL, HV, H0, HF⟩
    isplitr; · iexact HE
    isplitl [HY3 HO]
    · isplitl [HY3]; iexact HY3; iexact HO
    isplitr; · iexact HE
    isplitl [HY0]; iexact HY0; isplitl [HL]; iexact HL; isplitl [HV]; iexact HV; isplitl [H0]; iexact H0; iexact HF
  simp only [e6]
  simp only [Prog.lift, Prog.bind_op, Prog.bind_ret, Prog.pure_eq_ret]
  iintro ⟨⟨HY3, HO⟩, #HE, HY0, HL, HV, H0, HF⟩
  iapply (wp_in m c slot0 0 (by decide) s0 ⟨rfl, rfl⟩) $$ [HL HV H0]
  · isplitl [HL]; · iexact HL
    isplitl [HV] <;> iassumption
  iintro HI
  iapply (le_wp_ret _ _ _ _ _)
  iapply (hQ _)
  isplitr; · iexact HE
  isplitl [HY0]; · iexact HY0
  isplitl [HY3]; · iexact HY3
  isplitl [HI]; · iexact HI
  isplitl [HO] <;> iassumption

end Cert.KernelIdeal.Hand

end
-- ==== Proof.PhaseThreeIdeal.lean ====
module

public import proofs.«01_k».proof.Proof.PhaseOneIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

attribute [local irreducible] k0_cond1 k0_cond2 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond33 k0_cond34

variable {h0 : xM.IsWhole} {h1 : oM.IsWhole} {h2 : vM.IsWhole}

set_option maxHeartbeats 4000000

/-- The first four steps of the third phase. -/
theorem part34 (c : Dev nD) (v2 v5 v8 v13 v24 v35 v256 : BitVec 32) (v259 : BitVec 1) (v261 : BitVec 32) {Q : _ → sProp 𝕄} {Φ : sProp 𝕄}
    (hQ : ∀ v, iprop(Env m K ∗ A3 m c 0 ∗ A3 m c 3 ∗ A3 m c 1 ∗ A3 m c 4 ∗ Ow c [] ∗ Φ) ⊢ Q v) :
    iprop(Env m K ∗ A2 m c 0 ∗ A2 m c 3 ∗ A2 m c 1 ∗ A2 m c 4 ∗ Ow c [] ∗ Φ) ⊢ WP c (k0_part34_skel xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13 c v2 v5 v8 v13 v24 v35 v256 v259 v261) Q := by
  unfold k0_part34_skel
  extract_lets
  rename_i j4 _ _ j3 _ _ j2 _ _ j1 _ _
  clear_value (e4 : j4 = _)
  clear_value (e3 : j3 = _)
  clear_value (e2 : j2 = _)
  clear_value (e1 : j1 = _)
  refine wp_use (E := Env m K) (R := iprop(A2 m c 0 ∗ Ow c [])) (R' := iprop(A3 m c 0 ∗ Ow c []))
    (P := iprop(Env m K ∗ A2 m c 3 ∗ A2 m c 1 ∗ A2 m c 4 ∗ Φ)) (W := WP c (j1 ⟨⟩) Q) ?_ ?_ ?_
  · refine stepD (i := 0) p3_0 (fun h => ?_)
    simp only [k0_part13_eq_skeleton, k0_part13_skel, k0_part14_eq_skeleton, k0_part14_skel, Prog.lift, Prog.bind_op, Prog.bind_ret, Prog.pure_eq_ret]
    have ha := (p3_0 c).1 h
    rw [A2_on m ha, A3_on m ha]
    refine st6 m K c 0 _ ha (s1 := _) ?_ ?_ ?_ ?_ ?_ ?_ ?_ ?_ ?_ ?_ ?_ ?_ [] ?_ <;> first | rfl | simp
  · iintro ⟨#HE, HA0, HA3, HA1, HA4, HO, HF⟩
    isplitr; · iexact HE
    isplitl [HA0 HO]
    · isplitl [HA0]; iexact HA0; iexact HO
    isplitr; · iexact HE
    isplitl [HA3]; iexact HA3; isplitl [HA1]; iexact HA1; isplitl [HA4]; iexact HA4; iexact HF
  simp only [e1]
  refine wp_use (E := Env m K) (R := iprop(A2 m c 3 ∗ Ow c [])) (R' := iprop(A3 m c 3 ∗ Ow c []))
    (P := iprop(Env m K ∗ A3 m c 0 ∗ A2 m c 1 ∗ A2 m c 4 ∗ Φ)) (W := WP c (j2 ⟨⟩) Q) ?_ ?_ ?_
  · refine stepD (i := 3) p3_3 (fun h => ?_)
    simp only [k0_part15_eq_skeleton, k0_part15_skel, k0_part16_eq_skeleton, k0_part16_skel, Prog.lift, Prog.bind_op, Prog.bind_ret, Prog.pure_eq_ret]
    have ha := (p3_3 c).1 h
    rw [A2_on m ha, A3_on m ha]
    refine st6 m K c 3 _ ha (s1 := _) ?_ ?_ ?_ ?_ ?_ ?_ ?_ ?_ ?_ ?_ ?_ ?_ [] ?_ <;> first | rfl | simp
  · iintro ⟨⟨HA0, HO⟩, #HE, HA3, HA1, HA4, HF⟩
    isplitr; · iexact HE
    isplitl [HA3 HO]
    · isplitl [HA3]; iexact HA3; iexact HO
    isplitr; · iexact HE
    isplitl [HA0]; iexact HA0; isplitl [HA1]; iexact HA1; isplitl [HA4]; iexact HA4; iexact HF
  simp only [e2]
  refine wp_use (E := Env m K) (R := iprop(A2 m c 1 ∗ Ow c [])) (R' := iprop(A3 m c 1 ∗ Ow c []))
    (P := iprop(Env m K ∗ A3 m c 0 ∗ A3 m c 3 ∗ A2 m c 4 ∗ Φ)) (W := WP c (j3 ⟨⟩) Q) ?_ ?_ ?_
  · refine stepD (i := 1) p3_1 (fun h => ?_)
    simp only [k0_part17_eq_skeleton, k0_part17_skel, k0_part18_eq_skeleton, k0_part18_skel, Prog.lift, Prog.bind_op, Prog.bind_ret, Prog.pure_eq_ret]
    have ha := (p3_1 c).1 h
    rw [A2_on m ha, A3_on m ha]
    refine st6 m K c 1 _ ha (s1 := _) ?_ ?_ ?_ ?_ ?_ ?_ ?_ ?_ ?_ ?_ ?_ ?_ [] ?_ <;> first | rfl | simp
  · iintro ⟨⟨HA3, HO⟩, #HE, HA0, HA1, HA4, HF⟩
    isplitr; · iexact HE
    isplitl [HA1 HO]
    · isplitl [HA1]; iexact HA1; iexact HO
    isplitr; · iexact HE
    isplitl [HA0]; iexact HA0; isplitl [HA3]; iexact HA3; isplitl [HA4]; iexact HA4; iexact HF
  simp only [e3]
  refine wp_use (E := Env m K) (R := iprop(A2 m c 4 ∗ Ow c [])) (R' := iprop(A3 m c 4 ∗ Ow c []))
    (P := iprop(Env m K ∗ A3 m c 0 ∗ A3 m c 3 ∗ A3 m c 1 ∗ Φ)) (W := WP c (j4 ⟨⟩) Q) ?_ ?_ ?_
  · refine stepD (i := 4) p3_4 (fun h => ?_)
    simp only [k0_part19_eq_skeleton, k0_part19_skel, k0_part20_eq_skeleton, k0_part20_skel, Prog.lift, Prog.bind_op, Prog.bind_ret, Prog.pure_eq_ret]
    have ha := (p3_4 c).1 h
    rw [A2_on m ha, A3_on m ha]
    refine st6 m K c 4 _ ha (s1 := _) ?_ ?_ ?_ ?_ ?_ ?_ ?_ ?_ ?_ ?_ ?_ ?_ [] ?_ <;> first | rfl | simp
  · iintro ⟨⟨HA1, HO⟩, #HE, HA0, HA3, HA4, HF⟩
    isplitr; · iexact HE
    isplitl [HA4 HO]
    · isplitl [HA4]; iexact HA4; iexact HO
    isplitr; · iexact HE
    isplitl [HA0]; iexact HA0; isplitl [HA3]; iexact HA3; isplitl [HA1]; iexact HA1; iexact HF
  simp only [e4]
  refine BIBase.Entails.trans (BIBase.Entails.trans ?_ (hQ _)) (le_wp_ret _ _ _ _ _)
  iintro ⟨⟨HA4, HO⟩, #HE, HA0, HA3, HA1, HF⟩
  isplitr; · iexact HE
  isplitl [HA0]; iexact HA0; isplitl [HA3]; iexact HA3; isplitl [HA1]; iexact HA1; isplitl [HA4]; iexact HA4; isplitl [HO]; iexact HO; iexact HF

/-- The rest of the third phase, and the first four of the transfers along the planes. -/
theorem part35 (c : Dev nD) (v2 v5 v8 v13 v24 v35 v284 : BitVec 32) (v287 : BitVec 1) (v289 v291 : BitVec 32) {Q : _ → sProp 𝕄} {Φ : sProp 𝕄}
    (hQ : ∀ v, iprop(Env m K ∗ A3 m c 2 ∗ A3 m c 5 ∗ Y2 m c 0 ∗ Y2 m c 3 ∗ Y2 m c 1 ∗ Y2 m c 4 ∗ Ow c [] ∗ Φ) ⊢ Q v) :
    iprop(Env m K ∗ A2 m c 2 ∗ A2 m c 5 ∗ Y1 c 0 ∗ Y1 c 3 ∗ Y1 c 1 ∗ Y1 c 4 ∗ Ow c [] ∗ Φ) ⊢ WP c (k0_part35_skel xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13 c v2 v5 v8 v13 v24 v35 v284 v287 v289 v291) Q := by
  unfold k0_part35_skel
  extract_lets
  rename_i j6 _ _ j5 _ _ j4 _ _ j3 _ _ j2 _ _ j1 _ _
  clear_value (e6 : j6 = _)
  clear_value (e5 : j5 = _)
  clear_value (e4 : j4 = _)
  clear_value (e3 : j3 = _)
  clear_value (e2 : j2 = _)
  clear_value (e1 : j1 = _)
  refine wp_use (E := Env m K) (R := iprop(A2 m c 2 ∗ Ow c [])) (R' := iprop(A3 m c 2 ∗ Ow c []))
    (P := iprop(Env m K ∗ A2 m c 5 ∗ Y1 c 0 ∗ Y1 c 3 ∗ Y1 c 1 ∗ Y1 c 4 ∗ Φ)) (W := WP c (j1 ⟨⟩) Q) ?_ ?_ ?_
  · refine stepD (i := 2) p3_2 (fun h => ?_)
    simp only [k0_part21_eq_skeleton, k0_part21_skel, k0_part22_eq_skeleton, k0_part22_skel, Prog.lift, Prog.bind_op, Prog.bind_ret, Prog.pure_eq_ret]
    have ha := (p3_2 c).1 h
    rw [A2_on m ha, A3_on m ha]
    refine st6 m K c 2 _ ha (s1 := _) ?_ ?_ ?_ ?_ ?_ ?_ ?_ ?_ ?_ ?_ ?_ ?_ [] ?_ <;> first | rfl | simp
  · iintro ⟨#HE, HA2, HA5, HY0, HY3, HY1, HY4, HO, HF⟩
    isplitr; · iexact HE
    isplitl [HA2 HO]
    · isplitl [HA2]; iexact HA2; iexact HO
    isplitr; · iexact HE
    isplitl [HA5]; iexact HA5; isplitl [HY0]; iexact HY0; isplitl [HY3]; iexact HY3; isplitl [HY1]; iexact HY1; isplitl [HY4]; iexact HY4; iexact HF
  simp only [e1]
  refine wp_use (E := Env m K) (R := iprop(A2 m c 5 ∗ Ow c [])) (R' := iprop(A3 m c 5 ∗ Ow c []))
    (P := iprop(Env m K ∗ A3 m c 2 ∗ Y1 c 0 ∗ Y1 c 3 ∗ Y1 c 1 ∗ Y1 c 4 ∗ Φ)) (W := WP c (j2 ⟨⟩) Q) ?_ ?_ ?_
  · refine stepD (i := 5) p3_5 (fun h => ?_)
    simp only [k0_part23_eq_skeleton, k0_part23_skel, k0_part24_eq_skeleton, k0_part24_skel, Prog.lift, Prog.bind_op, Prog.bind_ret, Prog.pure_eq_ret]
    have ha := (p3_5 c).1 h
    rw [A2_on m ha, A3_on m ha]
    refine st6 m K c 5 _ ha (s1 := _) ?_ ?_ ?_ ?_ ?_ ?_ ?_ ?_ ?_ ?_ ?_ ?_ [] ?_ <;> first | rfl | simp
  · iintro ⟨⟨HA2, HO⟩, #HE, HA5, HY0, HY3, HY1, HY4, HF⟩
    isplitr; · iexact HE
    isplitl [HA5 HO]
    · isplitl [HA5]; iexact HA5; iexact HO
    isplitr; · iexact HE
    isplitl [HA2]; iexact HA2; isplitl [HY0]; iexact HY0; isplitl [HY3]; iexact HY3; isplitl [HY1]; iexact HY1; isplitl [HY4]; iexact HY4; iexact HF
  simp only [e2]
  refine wp_use (E := Env m K) (R := iprop(Y1 c 0 ∗ Ow c [])) (R' := iprop(Y2 m c 0 ∗ Ow c []))
    (P := iprop(Env m K ∗ A3 m c 2 ∗ A3 m c 5 ∗ Y1 c 3 ∗ Y1 c 1 ∗ Y1 c 4 ∗ Φ)) (W := WP c (j3 ⟨⟩) Q) ?_ ?_ ?_
  · refine stepZ (i := 0) pz_0 (fun h => ?_)
    simp only [Prog.lift, Prog.bind_op, Prog.bind_ret, Prog.pure_eq_ret]
    refine pZ m K c 0 pz_0 h ?_ ?_ <;> rfl
  · iintro ⟨⟨HA5, HO⟩, #HE, HA2, HY0, HY3, HY1, HY4, HF⟩
    isplitr; · iexact HE
    isplitl [HY0 HO]
    · isplitl [HY0]; iexact HY0; iexact HO
    isplitr; · iexact HE
    isplitl [HA2]; iexact HA2; isplitl [HA5]; iexact HA5; isplitl [HY3]; iexact HY3; isplitl [HY1]; iexact HY1; isplitl [HY4]; iexact HY4; iexact HF
  simp only [e3]
  refine wp_use (E := Env m K) (R := iprop(Y1 c 3 ∗ Ow c [])) (R' := iprop(Y2 m c 3 ∗ Ow c []))
    (P := iprop(Env m K ∗ A3 m c 2 ∗ A3 m c 5 ∗ Y2 m c 0 ∗ Y1 c 1 ∗ Y1 c 4 ∗ Φ)) (W := WP c (j4 ⟨⟩) Q) ?_ ?_ ?_
  · refine stepZ (i := 3) pz_3 (fun h => ?_)
    simp only [Prog.lift, Prog.bind_op, Prog.bind_ret, Prog.pure_eq_ret]
    refine pZ m K c 3 pz_3 h ?_ ?_ <;> rfl
  · iintro ⟨⟨HY0, HO⟩, #HE, HA2, HA5, HY3, HY1, HY4, HF⟩
    isplitr; · iexact HE
    isplitl [HY3 HO]
    · isplitl [HY3]; iexact HY3; iexact HO
    isplitr; · iexact HE
    isplitl [HA2]; iexact HA2; isplitl [HA5]; iexact HA5; isplitl [HY0]; iexact HY0; isplitl [HY1]; iexact HY1; isplitl [HY4]; iexact HY4; iexact HF
  simp only [e4]
  refine wp_use (E := Env m K) (R := iprop(Y1 c 1 ∗ Ow c [])) (R' := iprop(Y2 m c 1 ∗ Ow c []))
    (P := iprop(Env m K ∗ A3 m c 2 ∗ A3 m c 5 ∗ Y2 m c 0 ∗ Y2 m c 3 ∗ Y1 c 4 ∗ Φ)) (W := WP c (j5 ⟨⟩) Q) ?_ ?_ ?_
  · refine stepZ (i := 1) pz_1 (fun h => ?_)
    simp only [Prog.lift, Prog.bind_op, Prog.bind_ret, Prog.pure_eq_ret]
    refine pZ m K c 1 pz_1 h ?_ ?_ <;> rfl
  · iintro ⟨⟨HY3, HO⟩, #HE, HA2, HA5, HY0, HY1, HY4, HF⟩
    isplitr; · iexact HE
    isplitl [HY1 HO]
    · isplitl [HY1]; iexact HY1; iexact HO
    isplitr; · iexact HE
    isplitl [HA2]; iexact HA2; isplitl [HA5]; iexact HA5; isplitl [HY0]; iexact HY0; isplitl [HY3]; iexact HY3; isplitl [HY4]; iexact HY4; iexact HF
  simp only [e5]
  refine wp_use (E := Env m K) (R := iprop(Y1 c 4 ∗ Ow c [])) (R' := iprop(Y2 m c 4 ∗ Ow c []))
    (P := iprop(Env m K ∗ A3 m c 2 ∗ A3 m c 5 ∗ Y2 m c 0 ∗ Y2 m c 3 ∗ Y2 m c 1 ∗ Φ)) (W := WP c (j6 ⟨⟩) Q) ?_ ?_ ?_
  · refine stepZ (i := 4) pz_4 (fun h => ?_)
    simp only [Prog.lift, Prog.bind_op, Prog.bind_ret, Prog.pure_eq_ret]
    refine pZ m K c 4 pz_4 h ?_ ?_ <;> rfl
  · iintro ⟨⟨HY1, HO⟩, #HE, HA2, HA5, HY0, HY3, HY4, HF⟩
    isplitr; · iexact HE
    isplitl [HY4 HO]
    · isplitl [HY4]; iexact HY4; iexact HO
    isplitr; · iexact HE
    isplitl [HA2]; iexact HA2; isplitl [HA5]; iexact HA5; isplitl [HY0]; iexact HY0; isplitl [HY3]; iexact HY3; isplitl [HY1]; iexact HY1; iexact HF
  simp only [e6]
  refine BIBase.Entails.trans (BIBase.Entails.trans ?_ (hQ _)) (le_wp_ret _ _ _ _ _)
  iintro ⟨⟨HY4, HO⟩, #HE, HA2, HA5, HY0, HY3, HY1, HF⟩
  isplitr; · iexact HE
  isplitl [HA2]; iexact HA2; isplitl [HA5]; iexact HA5; isplitl [HY0]; iexact HY0; isplitl [HY3]; iexact HY3; isplitl [HY1]; iexact HY1; isplitl [HY4]; iexact HY4; isplitl [HO]; iexact HO; iexact HF

end Cert.KernelIdeal.Hand

end
-- ==== Proof.PhaseTwoIdeal.lean ====
module

public import proofs.«01_k».proof.Proof.PhaseOneIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

attribute [local irreducible] k0_cond1 k0_cond2 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond33 k0_cond34

variable {h0 : xM.IsWhole} {h1 : oM.IsWhole} {h2 : vM.IsWhole}

set_option maxHeartbeats 4000000

/-- The last steps of the first phase and the first of the second. -/
theorem part32 (c : Dev nD) (v2 v5 v8 v13 v24 v35 v37 v41 v43 v47 v200 v201 : BitVec 32) {Q : _ → sProp 𝕄} {Φ : sProp 𝕄}
    (hQ : ∀ v, iprop(Env m K ∗ A1 m c 2 ∗ A1 m c 5 ∗ A2 m c 0 ∗ A2 m c 3 ∗ Ow c (order.drop 26) ∗ Φ) ⊢ Q v) :
    iprop(Env m K ∗ A0 m c 2 ∗ A0 m c 5 ∗ A1 m c 0 ∗ A1 m c 3 ∗ Ow c (order.drop 18) ∗ Φ) ⊢ WP c (k0_part32_skel xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13 c v2 v5 v8 v13 v24 v35 v37 v41 v43 v47 v200 v201) Q := by
  unfold k0_part32_skel
  extract_lets
  rename_i j4 _ _ _ _ _ _ j3 _ _ _ _ _ _ j2 _ _ _ _ j1 _ _ _ _
  clear_value (e4 : j4 = _)
  clear_value (e3 : j3 = _)
  clear_value (e2 : j2 = _)
  clear_value (e1 : j1 = _)
  refine wp_use (E := Env m K) (R := iprop(A0 m c 2 ∗ Ow c (.inr (1, 2) :: .inr (2, 2) :: order.drop 20))) (R' := iprop(A1 m c 2 ∗ Ow c (order.drop 20)))
    (P := iprop(Env m K ∗ A0 m c 5 ∗ A1 m c 0 ∗ A1 m c 3 ∗ Φ)) (W := WP c (j1 ⟨⟩) Q) ?_ ?_ ?_
  · refine stepB (i := 2) (l := order.drop 20) p1_2.1 (fun h => ?_)
    simp only [k0_part5_eq_skeleton, k0_part5_skel, Prog.lift, Prog.bind_op, Prog.bind_ret, Prog.pure_eq_ret]
    refine pB m K c 2 (Or.inr (by decide)) p1_2 h ?_ ?_ ?_ ?_ ?_ ?_ _ ?_ <;> first | rfl | decide
  · rw [show order.drop 18 = (.inr (1, 2) :: .inr (2, 2) :: order.drop 20 : List S) from rfl]
    iintro ⟨#HE, HA2, HA5, HA0, HA3, HO, HF⟩
    isplitr; · iexact HE
    isplitl [HA2 HO]
    · isplitl [HA2]; iexact HA2; iexact HO
    isplitr; · iexact HE
    isplitl [HA5]; iexact HA5; isplitl [HA0]; iexact HA0; isplitl [HA3]; iexact HA3; iexact HF
  simp only [e1]
  refine wp_use (E := Env m K) (R := iprop(A0 m c 5 ∗ Ow c (.inr (1, 5) :: .inr (2, 5) :: order.drop 22))) (R' := iprop(A1 m c 5 ∗ Ow c (order.drop 22)))
    (P := iprop(Env m K ∗ A1 m c 2 ∗ A1 m c 0 ∗ A1 m c 3 ∗ Φ)) (W := WP c (j2 ⟨⟩) Q) ?_ ?_ ?_
  · refine stepB (i := 5) (l := order.drop 22) p1_5.1 (fun h => ?_)
    simp only [k0_part6_eq_skeleton, k0_part6_skel, Prog.lift, Prog.bind_op, Prog.bind_ret, Prog.pure_eq_ret]
    refine pB m K c 5 (Or.inr (by decide)) p1_5 h ?_ ?_ ?_ ?_ ?_ ?_ _ ?_ <;> first | rfl | decide
  · rw [show order.drop 20 = (.inr (1, 5) :: .inr (2, 5) :: order.drop 22 : List S) from rfl]
    iintro ⟨⟨HA2, HO⟩, #HE, HA5, HA0, HA3, HF⟩
    isplitr; · iexact HE
    isplitl [HA5 HO]
    · isplitl [HA5]; iexact HA5; iexact HO
    isplitr; · iexact HE
    isplitl [HA2]; iexact HA2; isplitl [HA0]; iexact HA0; isplitl [HA3]; iexact HA3; iexact HF
  simp only [e2]
  refine wp_use (E := Env m K) (R := iprop(A1 m c 0 ∗ Ow c (.inr (3, 0) :: .inr (4, 0) :: order.drop 24))) (R' := iprop(A2 m c 0 ∗ Ow c (order.drop 24)))
    (P := iprop(Env m K ∗ A1 m c 2 ∗ A1 m c 5 ∗ A1 m c 3 ∗ Φ)) (W := WP c (j3 ⟨⟩) Q) ?_ ?_ ?_
  · refine stepC (i := 0) (l := order.drop 24) p2_0.1 (fun h => ?_)
    simp only [k0_part7_eq_skeleton, k0_part7_skel, Prog.lift, Prog.bind_op, Prog.bind_ret, Prog.pure_eq_ret]
    refine pC m K c 0 p2_0 h ?_ ?_ ?_ ?_ ?_ ?_ ?_ ?_ _ ?_ <;> first | rfl | decide
  · rw [show order.drop 22 = (.inr (3, 0) :: .inr (4, 0) :: order.drop 24 : List S) from rfl]
    iintro ⟨⟨HA5, HO⟩, #HE, HA2, HA0, HA3, HF⟩
    isplitr; · iexact HE
    isplitl [HA0 HO]
    · isplitl [HA0]; iexact HA0; iexact HO
    isplitr; · iexact HE
    isplitl [HA2]; iexact HA2; isplitl [HA5]; iexact HA5; isplitl [HA3]; iexact HA3; iexact HF
  simp only [e3]
  refine wp_use (E := Env m K) (R := iprop(A1 m c 3 ∗ Ow c (.inr (3, 3) :: .inr (4, 3) :: order.drop 26))) (R' := iprop(A2 m c 3 ∗ Ow c (order.drop 26)))
    (P := iprop(Env m K ∗ A1 m c 2 ∗ A1 m c 5 ∗ A2 m c 0 ∗ Φ)) (W := WP c (j4 ⟨⟩) Q) ?_ ?_ ?_
  · refine stepC (i := 3) (l := order.drop 26) p2_3.1 (fun h => ?_)
    simp only [k0_part8_eq_skeleton, k0_part8_skel, Prog.lift, Prog.bind_op, Prog.bind_ret, Prog.pure_eq_ret]
    refine pC m K c 3 p2_3 h ?_ ?_ ?_ ?_ ?_ ?_ ?_ ?_ _ ?_ <;> first | rfl | decide
  · rw [show order.drop 24 = (.inr (3, 3) :: .inr (4, 3) :: order.drop 26 : List S) from rfl]
    iintro ⟨⟨HA0, HO⟩, #HE, HA2, HA5, HA3, HF⟩
    isplitr; · iexact HE
    isplitl [HA3 HO]
    · isplitl [HA3]; iexact HA3; iexact HO
    isplitr; · iexact HE
    isplitl [HA2]; iexact HA2; isplitl [HA5]; iexact HA5; isplitl [HA0]; iexact HA0; iexact HF
  simp only [e4]
  refine BIBase.Entails.trans (BIBase.Entails.trans ?_ (hQ _)) (le_wp_ret _ _ _ _ _)
  iintro ⟨⟨HA3, HO⟩, #HE, HA2, HA5, HA0, HF⟩
  isplitr; · iexact HE
  isplitl [HA2]; iexact HA2; isplitl [HA5]; iexact HA5; isplitl [HA0]; iexact HA0; isplitl [HA3]; iexact HA3; isplitl [HO]; iexact HO; iexact HF

/-- The rest of the second phase. -/
theorem part33 (c : Dev nD) (v2 v5 v8 v24 v35 v37 v41 v43 v47 v228 : BitVec 32) (v231 : BitVec 1) {Q : _ → sProp 𝕄} {Φ : sProp 𝕄}
    (hQ : ∀ v, iprop(Env m K ∗ A2 m c 1 ∗ A2 m c 4 ∗ A2 m c 2 ∗ A2 m c 5 ∗ Ow c [] ∗ Φ) ⊢ Q v) :
    iprop(Env m K ∗ A1 m c 1 ∗ A1 m c 4 ∗ A1 m c 2 ∗ A1 m c 5 ∗ Ow c (order.drop 26) ∗ Φ) ⊢ WP c (k0_part33_skel xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13 c v2 v5 v8 v24 v35 v37 v41 v43 v47 v228 v231) Q := by
  unfold k0_part33_skel
  extract_lets
  rename_i j4 _ _ _ _ _ _ j3 _ _ _ _ _ _ j2 _ _ _ _ _ _ j1 _ _ _ _ _ _
  clear_value (e4 : j4 = _)
  clear_value (e3 : j3 = _)
  clear_value (e2 : j2 = _)
  clear_value (e1 : j1 = _)
  refine wp_use (E := Env m K) (R := iprop(A1 m c 1 ∗ Ow c (.inr (3, 1) :: .inr (4, 1) :: order.drop 28))) (R' := iprop(A2 m c 1 ∗ Ow c (order.drop 28)))
    (P := iprop(Env m K ∗ A1 m c 4 ∗ A1 m c 2 ∗ A1 m c 5 ∗ Φ)) (W := WP c (j1 ⟨⟩) Q) ?_ ?_ ?_
  · refine stepC (i := 1) (l := order.drop 28) p2_1.1 (fun h => ?_)
    simp only [k0_part9_eq_skeleton, k0_part9_skel, Prog.lift, Prog.bind_op, Prog.bind_ret, Prog.pure_eq_ret]
    refine pC m K c 1 p2_1 h ?_ ?_ ?_ ?_ ?_ ?_ ?_ ?_ _ ?_ <;> first | rfl | decide
  · rw [show order.drop 26 = (.inr (3, 1) :: .inr (4, 1) :: order.drop 28 : List S) from rfl]
    iintro ⟨#HE, HA1, HA4, HA2, HA5, HO, HF⟩
    isplitr; · iexact HE
    isplitl [HA1 HO]
    · isplitl [HA1]; iexact HA1; iexact HO
    isplitr; · iexact HE
    isplitl [HA4]; iexact HA4; isplitl [HA2]; iexact HA2; isplitl [HA5]; iexact HA5; iexact HF
  simp only [e1]
  refine wp_use (E := Env m K) (R := iprop(A1 m c 4 ∗ Ow c (.inr (3, 4) :: .inr (4, 4) :: order.drop 30))) (R' := iprop(A2 m c 4 ∗ Ow c (order.drop 30)))
    (P := iprop(Env m K ∗ A2 m c 1 ∗ A1 m c 2 ∗ A1 m c 5 ∗ Φ)) (W := WP c (j2 ⟨⟩) Q) ?_ ?_ ?_
  · refine stepC (i := 4) (l := order.drop 30) p2_4.1 (fun h => ?_)
    simp only [k0_part10_eq_skeleton, k0_part10_skel, Prog.lift, Prog.bind_op, Prog.bind_ret, Prog.pure_eq_ret]
    refine pC m K c 4 p2_4 h ?_ ?_ ?_ ?_ ?_ ?_ ?_ ?_ _ ?_ <;> first | rfl | decide
  · rw [show order.drop 28 = (.inr (3, 4) :: .inr (4, 4) :: order.drop 30 : List S) from rfl]
    iintro ⟨⟨HA1, HO⟩, #HE, HA4, HA2, HA5, HF⟩
    isplitr; · iexact HE
    isplitl [HA4 HO]
    · isplitl [HA4]; iexact HA4; iexact HO
    isplitr; · iexact HE
    isplitl [HA1]; iexact HA1; isplitl [HA2]; iexact HA2; isplitl [HA5]; iexact HA5; iexact HF
  simp only [e2]
  refine wp_use (E := Env m K) (R := iprop(A1 m c 2 ∗ Ow c (.inr (3, 2) :: .inr (4, 2) :: order.drop 32))) (R' := iprop(A2 m c 2 ∗ Ow c (order.drop 32)))
    (P := iprop(Env m K ∗ A2 m c 1 ∗ A2 m c 4 ∗ A1 m c 5 ∗ Φ)) (W := WP c (j3 ⟨⟩) Q) ?_ ?_ ?_
  · refine stepC (i := 2) (l := order.drop 32) p2_2.1 (fun h => ?_)
    simp only [k0_part11_eq_skeleton, k0_part11_skel, Prog.lift, Prog.bind_op, Prog.bind_ret, Prog.pure_eq_ret]
    refine pC m K c 2 p2_2 h ?_ ?_ ?_ ?_ ?_ ?_ ?_ ?_ _ ?_ <;> first | rfl | decide
  · rw [show order.drop 30 = (.inr (3, 2) :: .inr (4, 2) :: order.drop 32 : List S) from rfl]
    iintro ⟨⟨HA4, HO⟩, #HE, HA1, HA2, HA5, HF⟩
    isplitr; · iexact HE
    isplitl [HA2 HO]
    · isplitl [HA2]; iexact HA2; iexact HO
    isplitr; · iexact HE
    isplitl [HA1]; iexact HA1; isplitl [HA4]; iexact HA4; isplitl [HA5]; iexact HA5; iexact HF
  simp only [e3]
  refine wp_use (E := Env m K) (R := iprop(A1 m c 5 ∗ Ow c (.inr (3, 5) :: .inr (4, 5) :: []))) (R' := iprop(A2 m c 5 ∗ Ow c []))
    (P := iprop(Env m K ∗ A2 m c 1 ∗ A2 m c 4 ∗ A2 m c 2 ∗ Φ)) (W := WP c (j4 ⟨⟩) Q) ?_ ?_ ?_
  · refine stepC (i := 5) (l := []) p2_5.1 (fun h => ?_)
    simp only [k0_part12_eq_skeleton, k0_part12_skel, Prog.lift, Prog.bind_op, Prog.bind_ret, Prog.pure_eq_ret]
    refine pC m K c 5 p2_5 h ?_ ?_ ?_ ?_ ?_ ?_ ?_ ?_ _ ?_ <;> first | rfl | decide
  · rw [show order.drop 32 = (.inr (3, 5) :: .inr (4, 5) :: [] : List S) from rfl]
    iintro ⟨⟨HA2, HO⟩, #HE, HA1, HA4, HA5, HF⟩
    isplitr; · iexact HE
    isplitl [HA5 HO]
    · isplitl [HA5]; iexact HA5; iexact HO
    isplitr; · iexact HE
    isplitl [HA1]; iexact HA1; isplitl [HA4]; iexact HA4; isplitl [HA2]; iexact HA2; iexact HF
  simp only [e4]
  refine BIBase.Entails.trans (BIBase.Entails.trans ?_ (hQ _)) (le_wp_ret _ _ _ _ _)
  iintro ⟨⟨HA5, HO⟩, #HE, HA1, HA4, HA2, HF⟩
  isplitr; · iexact HE
  isplitl [HA1]; iexact HA1; isplitl [HA4]; iexact HA4; isplitl [HA2]; iexact HA2; isplitl [HA5]; iexact HA5; isplitl [HO]; iexact HO; iexact HF

end Cert.KernelIdeal.Hand

end
-- ==== Proof.BodyIdeal.lean ====
module

public import proofs.«01_k».proof.Proof.HeadIdeal
public import proofs.«01_k».proof.Proof.PhaseThreeIdeal
public import proofs.«01_k».proof.Proof.PhaseTwoIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

attribute [local irreducible] k0_cond1 k0_cond2 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond33 k0_cond34

variable {h0 : xM.IsWhole} {h1 : oM.IsWhole} {h2 : vM.IsWhole}

set_option maxHeartbeats 1000000

/-- A program followed by another. -/
theorem wp_bind_le (c : Dev nD) {α β : Type} {p : Prog (TpuEff nD τ sig (Elt F) Λ₀ .tc) α} {k : α → Prog (TpuEff nD τ sig (Elt F) Λ₀ .tc) β}
    {Γ : sProp 𝕄} {Q : β → sProp 𝕄} (h : Γ ⊢ WP c p (fun a => WP c (k a) Q)) : Γ ⊢ WP c (p >>= k) Q := by
  refine BIBase.Entails.trans h (Entails.of_eq ?_)
  exact (wp_bind ..).symm

/-- The device reads its number. -/
theorem part25 (c : Dev nD) {Γ : sProp 𝕄} {Q : _ → sProp 𝕄}
    (hQ : ∀ v2 v5 v13 v24 v35 : BitVec 32, Γ ⊢ Q ⟨c, v2, v5, zw c, v13, v24, v35⟩) : Γ ⊢ WP c (k0_part25_skel xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13) Q := by
  simp only [k0_part25_skel, Prog.lift, Prog.bind_op, Prog.bind_ret, Prog.pure_eq_ret, wp_deviceId]
  exact BIBase.Entails.trans (hQ _ _ _ _ _) (le_wp_ret _ _ _ _ _)

/-- What a device holds once its body has run. -/
def Done (c : Dev nD) : sProp 𝕄 := iprop(A3 m c 0 ∗ A3 m c 1 ∗ A3 m c 2 ∗ A3 m c 3 ∗ A3 m c 4 ∗ A3 m c 5 ∗ Y2 m c 0 ∗ Y2 m c 1 ∗ Y2 m c 2 ∗ Y2 m c 3 ∗ Y2 m c 4 ∗ Y2 m c 5 ∗ argL m c ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ outPt c fullShare (zc c * 16384 + 0) 4096 (G m c) ∗ outPt c fullShare (zc c * 16384 + 4096) 4096 (G m c) ∗ outPt c fullShare (zc c * 16384 + 8192) 4096 (G m c) ∗ outPt c fullShare (zc c * 16384 + 12288) 4096 (G m c) ∗ Ow c [])

/-- The body on a device: from what it holds at first, given what the barrier brings, to what it holds at the end. -/
theorem body_ok (c : Dev nD) {PB RS : sProp 𝕄} {Q : PUnit → sProp 𝕄}
    (hB : iprop(Bar m c (bset c).card ∗ PB) ⊢ iprop(Y0 m c 0 ∗ Y0 m c 3 ∗ Y0 m c 1 ∗ Y0 m c 4 ∗ Y0 m c 2 ∗ Y0 m c 5 ∗ A0 m c 0 ∗ A0 m c 3 ∗ A0 m c 1 ∗ A0 m c 4 ∗ A0 m c 2 ∗ A0 m c 5 ∗ RS))
    (hQ : iprop(Done m c ∗ RS) ⊢ Q ⟨⟩) :
    iprop(Env m K ∗ Sg m 0 c ∗ Sg m 1 c ∗ Sg m 2 c ∗ Sg m 3 c ∗ Bar m c 0 ∗ argL m c ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ outPt c fullShare (zc c * 16384 + 0) 4096 (argO m c) ∗ outPt c fullShare (zc c * 16384 + 4096) 4096 (argO m c) ∗ outPt c fullShare (zc c * 16384 + 8192) 4096 (argO m c) ∗ outPt c fullShare (zc c * 16384 + 12288) 4096 (argO m c) ∗ PB ∗ Ow c (order)) ⊢ WP c (cc0_body xM h0 oM h1 vM h2 cc0_scratch1 cc0_scratch2 cc0_scratch3 cc0_scratch4 cc0_scratch5 cc0_scratch6 cc0_scratch7 cc0_scratch8 cc0_scratch9 cc0_scratch10 cc0_scratch11 cc0_scratch12 cc0_scratch13) Q := by
  rw [cc0_body_eq_skeleton]
  unfold cc0_body_skel
  refine wp_bind_le c ?_
  rw [k0_part25_eq_skeleton]
  refine part25 c (fun v2 v5 v13 v24 v35 => ?_)
  dsimp only
  refine wp_bind_le c ?_
  rw [k0_part26_eq_skeleton]
  refine BIBase.Entails.trans (Q := iprop(Env m K ∗ Sg m 0 c ∗ Sg m 1 c ∗ Ow c (order) ∗ Sg m 2 c ∗ Sg m 3 c ∗ Bar m c 0 ∗ argL m c ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ outPt c fullShare (zc c * 16384 + 0) 4096 (argO m c) ∗ outPt c fullShare (zc c * 16384 + 4096) 4096 (argO m c) ∗ outPt c fullShare (zc c * 16384 + 8192) 4096 (argO m c) ∗ outPt c fullShare (zc c * 16384 + 12288) 4096 (argO m c) ∗ PB)) ?_ (part26 m K c _ _ (Φ := iprop(Sg m 2 c ∗ Sg m 3 c ∗ Bar m c 0 ∗ argL m c ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ outPt c fullShare (zc c * 16384 + 0) 4096 (argO m c) ∗ outPt c fullShare (zc c * 16384 + 4096) 4096 (argO m c) ∗ outPt c fullShare (zc c * 16384 + 8192) 4096 (argO m c) ∗ outPt c fullShare (zc c * 16384 + 12288) 4096 (argO m c) ∗ PB)) ?_)
  · iintro ⟨#HE, HS0, HS1, HS2, HS3, HB, HAL, HV0, HV1, HM0, HM1, HM2, HM3, HQ0, HQ1, HQ2, HQ3, HPB, HO⟩
    isplitr; · iexact HE
    isplitl [HS0]; iexact HS0; isplitl [HS1]; iexact HS1; isplitl [HO]; iexact HO; isplitl [HS2]; iexact HS2; isplitl [HS3]; iexact HS3; isplitl [HB]; iexact HB; isplitl [HAL]; iexact HAL; isplitl [HV0]; iexact HV0; isplitl [HV1]; iexact HV1; isplitl [HM0]; iexact HM0; isplitl [HM1]; iexact HM1; isplitl [HM2]; iexact HM2; isplitl [HM3]; iexact HM3; isplitl [HQ0]; iexact HQ0; isplitl [HQ1]; iexact HQ1; isplitl [HQ2]; iexact HQ2; isplitl [HQ3]; iexact HQ3; iexact HPB
  intro v37 v41 v43 v47 v49 v51 c3
  dsimp only
  refine wp_bind_le c ?_
  rw [k0_part27_eq_skeleton]
  refine BIBase.Entails.trans (Q := iprop(Env m K ∗ Sg m 2 c ∗ Sg m 3 c ∗ Bar m c 0 ∗ argL m c ∗ slotE c slot0 ∗ semVal ((c : Thread nD τ), .dma (s0 : DmaSem sig)) 0 ∗ Ow c (order.drop 2) ∗ slotE c slot1 ∗ semVal ((c : Thread nD τ), .dma (s1 : DmaSem sig)) 0 ∗ semVal ((c : Thread nD τ), .dma (s2 : DmaSem sig)) 0 ∗ semVal ((c : Thread nD τ), .dma (s3 : DmaSem sig)) 0 ∗ outPt c fullShare (zc c * 16384 + 0) 4096 (argO m c) ∗ outPt c fullShare (zc c * 16384 + 4096) 4096 (argO m c) ∗ outPt c fullShare (zc c * 16384 + 8192) 4096 (argO m c) ∗ outPt c fullShare (zc c * 16384 + 12288) 4096 (argO m c) ∗ PB)) ?_ (part27 m K c _ _ _ _ _ _ (Φ := iprop(slotE c slot1 ∗ semVal ((c : Thread nD τ), .dma (s1 : DmaSem sig)) 0 ∗ semVal ((c : Thread nD τ), .dma (s2 : DmaSem sig)) 0 ∗ semVal ((c : Thread nD τ), .dma (s3 : DmaSem sig)) 0 ∗ outPt c fullShare (zc c * 16384 + 0) 4096 (argO m c) ∗ outPt c fullShare (zc c * 16384 + 4096) 4096 (argO m c) ∗ outPt c fullShare (zc c * 16384 + 8192) 4096 (argO m c) ∗ outPt c fullShare (zc c * 16384 + 12288) 4096 (argO m c) ∗ PB)) (Φ' := iprop(slotE c slot1 ∗ semVal ((c : Thread nD τ), .dma (s1 : DmaSem sig)) 0 ∗ semVal ((c : Thread nD τ), .dma (s2 : DmaSem sig)) 0 ∗ semVal ((c : Thread nD τ), .dma (s3 : DmaSem sig)) 0 ∗ outPt c fullShare (zc c * 16384 + 0) 4096 (argO m c) ∗ outPt c fullShare (zc c * 16384 + 4096) 4096 (argO m c) ∗ outPt c fullShare (zc c * 16384 + 8192) 4096 (argO m c) ∗ outPt c fullShare (zc c * 16384 + 12288) 4096 (argO m c) ∗ A0 m c 0 ∗ A0 m c 3 ∗ A0 m c 1 ∗ A0 m c 4 ∗ A0 m c 2 ∗ A0 m c 5 ∗ Y0 m c 1 ∗ Y0 m c 4 ∗ Y0 m c 2 ∗ Y0 m c 5 ∗ RS)) (by
    iintro ⟨HBar, HV1, HM1, HM2, HM3, HQ0, HQ1, HQ2, HQ3, HPB⟩
    ihave ⟨HY00, HY03, HY01, HY04, HY02, HY05, HA00, HA03, HA01, HA04, HA02, HA05, HRS⟩ := hB $$ [HBar HPB]
    · isplitl [HBar] <;> iassumption
    isplitl [HY00]; iexact HY00; isplitl [HY03]; iexact HY03; isplitl [HV1]; iexact HV1; isplitl [HM1]; iexact HM1; isplitl [HM2]; iexact HM2; isplitl [HM3]; iexact HM3; isplitl [HQ0]; iexact HQ0; isplitl [HQ1]; iexact HQ1; isplitl [HQ2]; iexact HQ2; isplitl [HQ3]; iexact HQ3; isplitl [HA00]; iexact HA00; isplitl [HA03]; iexact HA03; isplitl [HA01]; iexact HA01; isplitl [HA04]; iexact HA04; isplitl [HA02]; iexact HA02; isplitl [HA05]; iexact HA05; isplitl [HY01]; iexact HY01; isplitl [HY04]; iexact HY04; isplitl [HY02]; iexact HY02; isplitl [HY05]; iexact HY05; iexact HRS) ?_)
  · iintro ⟨#HE, HO, HS2, HS3, HB, HAL, HV0, HV1, HM0, HM1, HM2, HM3, HQ0, HQ1, HQ2, HQ3, HPB⟩
    isplitr; · iexact HE
    isplitl [HS2]; iexact HS2; isplitl [HS3]; iexact HS3; isplitl [HB]; iexact HB; isplitl [HAL]; iexact HAL; isplitl [HV0]; iexact HV0; isplitl [HM0]; iexact HM0; isplitl [HO]; iexact HO; isplitl [HV1]; iexact HV1; isplitl [HM1]; iexact HM1; isplitl [HM2]; iexact HM2; isplitl [HM3]; iexact HM3; isplitl [HQ0]; iexact HQ0; isplitl [HQ1]; iexact HQ1; isplitl [HQ2]; iexact HQ2; isplitl [HQ3]; iexact HQ3; iexact HPB
  intro _
  refine wp_bind_le c ?_
  rw [k0_part28_eq_skeleton]
  refine BIBase.Entails.trans (Q := iprop(Env m K ∗ flyIn m c slot0 0 s0 ∗ slotE c slot1 ∗ semVal ((c : Thread nD τ), .dma (s1 : DmaSem sig)) 0 ∗ semVal ((c : Thread nD τ), .dma (s2 : DmaSem sig)) 0 ∗ semVal ((c : Thread nD τ), .dma (s3 : DmaSem sig)) 0 ∗ outPt c fullShare (zc c * 16384 + 0) 4096 (argO m c) ∗ outPt c fullShare (zc c * 16384 + 4096) 4096 (argO m c) ∗ Ow c (order.drop 6) ∗ Y1 c 0 ∗ Y1 c 3 ∗ outPt c fullShare (zc c * 16384 + 8192) 4096 (argO m c) ∗ outPt c fullShare (zc c * 16384 + 12288) 4096 (argO m c) ∗ A0 m c 0 ∗ A0 m c 3 ∗ A0 m c 1 ∗ A0 m c 4 ∗ A0 m c 2 ∗ A0 m c 5 ∗ Y0 m c 1 ∗ Y0 m c 4 ∗ Y0 m c 2 ∗ Y0 m c 5 ∗ RS)) ?_ (part28 m K c _ (Φ := iprop(Y1 c 0 ∗ Y1 c 3 ∗ outPt c fullShare (zc c * 16384 + 8192) 4096 (argO m c) ∗ outPt c fullShare (zc c * 16384 + 12288) 4096 (argO m c) ∗ A0 m c 0 ∗ A0 m c 3 ∗ A0 m c 1 ∗ A0 m c 4 ∗ A0 m c 2 ∗ A0 m c 5 ∗ Y0 m c 1 ∗ Y0 m c 4 ∗ Y0 m c 2 ∗ Y0 m c 5 ∗ RS)) ?_)
  · iintro ⟨#HE, HY10, HY13, HFI, HO, HV1, HM1, HM2, HM3, HQ0, HQ1, HQ2, HQ3, HA00, HA03, HA01, HA04, HA02, HA05, HY01, HY04, HY02, HY05, HRS⟩
    isplitr; · iexact HE
    isplitl [HFI]; iexact HFI; isplitl [HV1]; iexact HV1; isplitl [HM1]; iexact HM1; isplitl [HM2]; iexact HM2; isplitl [HM3]; iexact HM3; isplitl [HQ0]; iexact HQ0; isplitl [HQ1]; iexact HQ1; isplitl [HO]; iexact HO; isplitl [HY10]; iexact HY10; isplitl [HY13]; iexact HY13; isplitl [HQ2]; iexact HQ2; isplitl [HQ3]; iexact HQ3; isplitl [HA00]; iexact HA00; isplitl [HA03]; iexact HA03; isplitl [HA01]; iexact HA01; isplitl [HA04]; iexact HA04; isplitl [HA02]; iexact HA02; isplitl [HA05]; iexact HA05; isplitl [HY01]; iexact HY01; isplitl [HY04]; iexact HY04; isplitl [HY02]; iexact HY02; isplitl [HY05]; iexact HY05; iexact HRS
  intro _
  refine wp_bind_le c ?_
  rw [k0_part29_eq_skeleton]
  refine BIBase.Entails.trans (Q := iprop(Env m K ∗ flyOut m c slot0 0 s2 ∗ flyOut m c slot1 4096 s3 ∗ semVal ((c : Thread nD τ), .dma (s0 : DmaSem sig)) 0 ∗ argL m c ∗ outPt c fullShare (zc c * 16384 + 8192) 4096 (argO m c) ∗ Ow c (order.drop 6) ∗ semVal ((c : Thread nD τ), .dma (s1 : DmaSem sig)) 0 ∗ Y1 c 0 ∗ Y1 c 3 ∗ outPt c fullShare (zc c * 16384 + 12288) 4096 (argO m c) ∗ A0 m c 0 ∗ A0 m c 3 ∗ A0 m c 1 ∗ A0 m c 4 ∗ A0 m c 2 ∗ A0 m c 5 ∗ Y0 m c 1 ∗ Y0 m c 4 ∗ Y0 m c 2 ∗ Y0 m c 5 ∗ RS)) ?_ (part29 m K c _ (Φ := iprop(semVal ((c : Thread nD τ), .dma (s1 : DmaSem sig)) 0 ∗ Y1 c 0 ∗ Y1 c 3 ∗ outPt c fullShare (zc c * 16384 + 12288) 4096 (argO m c) ∗ A0 m c 0 ∗ A0 m c 3 ∗ A0 m c 1 ∗ A0 m c 4 ∗ A0 m c 2 ∗ A0 m c 5 ∗ Y0 m c 1 ∗ Y0 m c 4 ∗ Y0 m c 2 ∗ Y0 m c 5 ∗ RS)) ?_)
  · iintro ⟨#HE, HFO0, HFO1, HM0, HM1, HAL, HO, HY10, HY13, HQ2, HQ3, HA00, HA03, HA01, HA04, HA02, HA05, HY01, HY04, HY02, HY05, HRS⟩
    isplitr; · iexact HE
    isplitl [HFO0]; iexact HFO0; isplitl [HFO1]; iexact HFO1; isplitl [HM0]; iexact HM0; isplitl [HAL]; iexact HAL; isplitl [HQ2]; iexact HQ2; isplitl [HO]; iexact HO; isplitl [HM1]; iexact HM1; isplitl [HY10]; iexact HY10; isplitl [HY13]; iexact HY13; isplitl [HQ3]; iexact HQ3; isplitl [HA00]; iexact HA00; isplitl [HA03]; iexact HA03; isplitl [HA01]; iexact HA01; isplitl [HA04]; iexact HA04; isplitl [HA02]; iexact HA02; isplitl [HA05]; iexact HA05; isplitl [HY01]; iexact HY01; isplitl [HY04]; iexact HY04; isplitl [HY02]; iexact HY02; isplitl [HY05]; iexact HY05; iexact HRS
  intro _
  refine wp_bind_le c ?_
  rw [k0_part30_eq_skeleton]
  refine BIBase.Entails.trans (Q := iprop(Env m K ∗ flyOut m c slot0 8192 s2 ∗ slotE c slot1 ∗ semVal ((c : Thread nD τ), .dma (s0 : DmaSem sig)) 0 ∗ semVal ((c : Thread nD τ), .dma (s1 : DmaSem sig)) 0 ∗ semVal ((c : Thread nD τ), .dma (s3 : DmaSem sig)) 0 ∗ argL m c ∗ outPt c fullShare (zc c * 16384 + 12288) 4096 (argO m c) ∗ Ow c (order.drop 6) ∗ outPt c fullShare (zc c * 16384 + 0) 4096 (G m c) ∗ outPt c fullShare (zc c * 16384 + 4096) 4096 (G m c) ∗ Y1 c 0 ∗ Y1 c 3 ∗ A0 m c 0 ∗ A0 m c 3 ∗ A0 m c 1 ∗ A0 m c 4 ∗ A0 m c 2 ∗ A0 m c 5 ∗ Y0 m c 1 ∗ Y0 m c 4 ∗ Y0 m c 2 ∗ Y0 m c 5 ∗ RS)) ?_ (part30 m K c _ (Φ := iprop(outPt c fullShare (zc c * 16384 + 0) 4096 (G m c) ∗ outPt c fullShare (zc c * 16384 + 4096) 4096 (G m c) ∗ Y1 c 0 ∗ Y1 c 3 ∗ A0 m c 0 ∗ A0 m c 3 ∗ A0 m c 1 ∗ A0 m c 4 ∗ A0 m c 2 ∗ A0 m c 5 ∗ Y0 m c 1 ∗ Y0 m c 4 ∗ Y0 m c 2 ∗ Y0 m c 5 ∗ RS)) ?_)
  · iintro ⟨#HE, HFO2, HV1, HM0, HM3, HAL, HR0, HR1, HO, HM1, HY10, HY13, HQ3, HA00, HA03, HA01, HA04, HA02, HA05, HY01, HY04, HY02, HY05, HRS⟩
    isplitr; · iexact HE
    isplitl [HFO2]; iexact HFO2; isplitl [HV1]; iexact HV1; isplitl [HM0]; iexact HM0; isplitl [HM1]; iexact HM1; isplitl [HM3]; iexact HM3; isplitl [HAL]; iexact HAL; isplitl [HQ3]; iexact HQ3; isplitl [HO]; iexact HO; isplitl [HR0]; iexact HR0; isplitl [HR1]; iexact HR1; isplitl [HY10]; iexact HY10; isplitl [HY13]; iexact HY13; isplitl [HA00]; iexact HA00; isplitl [HA03]; iexact HA03; isplitl [HA01]; iexact HA01; isplitl [HA04]; iexact HA04; isplitl [HA02]; iexact HA02; isplitl [HA05]; iexact HA05; isplitl [HY01]; iexact HY01; isplitl [HY04]; iexact HY04; isplitl [HY02]; iexact HY02; isplitl [HY05]; iexact HY05; iexact HRS
  intro v171
  refine wp_bind_le c ?_
  rw [k0_part31_eq_skeleton]
  refine BIBase.Entails.trans (Q := iprop(Env m K ∗ A0 m c 0 ∗ A0 m c 3 ∗ A0 m c 1 ∗ A0 m c 4 ∗ Y0 m c 1 ∗ Y0 m c 4 ∗ Y0 m c 2 ∗ Y0 m c 5 ∗ Ow c (order.drop 6) ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ Y1 c 0 ∗ Y1 c 3 ∗ A0 m c 2 ∗ A0 m c 5 ∗ RS)) ?_ (part31 m K c _ _ _ _ _ _ _ _ _ _ _ (Φ := iprop(slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ Y1 c 0 ∗ Y1 c 3 ∗ A0 m c 2 ∗ A0 m c 5 ∗ RS)) ?_)
  · iintro ⟨#HE, HV0, HV1, HM0, HM1, HM2, HM3, HAL, HR2, HR3, HO, HR0, HR1, HY10, HY13, HA00, HA03, HA01, HA04, HA02, HA05, HY01, HY04, HY02, HY05, HRS⟩
    isplitr; · iexact HE
    isplitl [HA00]; iexact HA00; isplitl [HA03]; iexact HA03; isplitl [HA01]; iexact HA01; isplitl [HA04]; iexact HA04; isplitl [HY01]; iexact HY01; isplitl [HY04]; iexact HY04; isplitl [HY02]; iexact HY02; isplitl [HY05]; iexact HY05; isplitl [HO]; iexact HO; isplitl [HV0]; iexact HV0; isplitl [HV1]; iexact HV1; isplitl [HM0]; iexact HM0; isplitl [HM1]; iexact HM1; isplitl [HM2]; iexact HM2; isplitl [HM3]; iexact HM3; isplitl [HAL]; iexact HAL; isplitl [HR2]; iexact HR2; isplitl [HR3]; iexact HR3; isplitl [HR0]; iexact HR0; isplitl [HR1]; iexact HR1; isplitl [HY10]; iexact HY10; isplitl [HY13]; iexact HY13; isplitl [HA02]; iexact HA02; isplitl [HA05]; iexact HA05; iexact HRS
  rintro ⟨v200, v201⟩
  dsimp only
  refine wp_bind_le c ?_
  rw [k0_part32_eq_skeleton]
  refine BIBase.Entails.trans (Q := iprop(Env m K ∗ A0 m c 2 ∗ A0 m c 5 ∗ A1 m c 0 ∗ A1 m c 3 ∗ Ow c (order.drop 18) ∗ A1 m c 1 ∗ A1 m c 4 ∗ Y1 c 1 ∗ Y1 c 4 ∗ Y1 c 2 ∗ Y1 c 5 ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ Y1 c 0 ∗ Y1 c 3 ∗ RS)) ?_ (part32 m K c _ _ _ _ _ _ _ _ _ _ _ _ (Φ := iprop(A1 m c 1 ∗ A1 m c 4 ∗ Y1 c 1 ∗ Y1 c 4 ∗ Y1 c 2 ∗ Y1 c 5 ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ Y1 c 0 ∗ Y1 c 3 ∗ RS)) ?_)
  · iintro ⟨#HE, HA10, HA13, HA11, HA14, HY11, HY14, HY12, HY15, HO, HV0, HV1, HM0, HM1, HM2, HM3, HAL, HR2, HR3, HR0, HR1, HY10, HY13, HA02, HA05, HRS⟩
    isplitr; · iexact HE
    isplitl [HA02]; iexact HA02; isplitl [HA05]; iexact HA05; isplitl [HA10]; iexact HA10; isplitl [HA13]; iexact HA13; isplitl [HO]; iexact HO; isplitl [HA11]; iexact HA11; isplitl [HA14]; iexact HA14; isplitl [HY11]; iexact HY11; isplitl [HY14]; iexact HY14; isplitl [HY12]; iexact HY12; isplitl [HY15]; iexact HY15; isplitl [HV0]; iexact HV0; isplitl [HV1]; iexact HV1; isplitl [HM0]; iexact HM0; isplitl [HM1]; iexact HM1; isplitl [HM2]; iexact HM2; isplitl [HM3]; iexact HM3; isplitl [HAL]; iexact HAL; isplitl [HR2]; iexact HR2; isplitl [HR3]; iexact HR3; isplitl [HR0]; iexact HR0; isplitl [HR1]; iexact HR1; isplitl [HY10]; iexact HY10; isplitl [HY13]; iexact HY13; iexact HRS
  rintro ⟨v228, v231⟩
  dsimp only
  refine wp_bind_le c ?_
  rw [k0_part33_eq_skeleton]
  refine BIBase.Entails.trans (Q := iprop(Env m K ∗ A1 m c 1 ∗ A1 m c 4 ∗ A1 m c 2 ∗ A1 m c 5 ∗ Ow c (order.drop 26) ∗ A2 m c 0 ∗ A2 m c 3 ∗ Y1 c 1 ∗ Y1 c 4 ∗ Y1 c 2 ∗ Y1 c 5 ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ Y1 c 0 ∗ Y1 c 3 ∗ RS)) ?_ (part33 m K c _ _ _ _ _ _ _ _ _ _ _ (Φ := iprop(A2 m c 0 ∗ A2 m c 3 ∗ Y1 c 1 ∗ Y1 c 4 ∗ Y1 c 2 ∗ Y1 c 5 ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ Y1 c 0 ∗ Y1 c 3 ∗ RS)) ?_)
  · iintro ⟨#HE, HA12, HA15, HA20, HA23, HO, HA11, HA14, HY11, HY14, HY12, HY15, HV0, HV1, HM0, HM1, HM2, HM3, HAL, HR2, HR3, HR0, HR1, HY10, HY13, HRS⟩
    isplitr; · iexact HE
    isplitl [HA11]; iexact HA11; isplitl [HA14]; iexact HA14; isplitl [HA12]; iexact HA12; isplitl [HA15]; iexact HA15; isplitl [HO]; iexact HO; isplitl [HA20]; iexact HA20; isplitl [HA23]; iexact HA23; isplitl [HY11]; iexact HY11; isplitl [HY14]; iexact HY14; isplitl [HY12]; iexact HY12; isplitl [HY15]; iexact HY15; isplitl [HV0]; iexact HV0; isplitl [HV1]; iexact HV1; isplitl [HM0]; iexact HM0; isplitl [HM1]; iexact HM1; isplitl [HM2]; iexact HM2; isplitl [HM3]; iexact HM3; isplitl [HAL]; iexact HAL; isplitl [HR2]; iexact HR2; isplitl [HR3]; iexact HR3; isplitl [HR0]; iexact HR0; isplitl [HR1]; iexact HR1; isplitl [HY10]; iexact HY10; isplitl [HY13]; iexact HY13; iexact HRS
  rintro ⟨v256, v259, v261⟩
  dsimp only
  refine wp_bind_le c ?_
  rw [k0_part34_eq_skeleton]
  refine BIBase.Entails.trans (Q := iprop(Env m K ∗ A2 m c 0 ∗ A2 m c 3 ∗ A2 m c 1 ∗ A2 m c 4 ∗ Ow c [] ∗ A2 m c 2 ∗ A2 m c 5 ∗ Y1 c 1 ∗ Y1 c 4 ∗ Y1 c 2 ∗ Y1 c 5 ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ Y1 c 0 ∗ Y1 c 3 ∗ RS)) ?_ (part34 m K c _ _ _ _ _ _ _ _ _ (Φ := iprop(A2 m c 2 ∗ A2 m c 5 ∗ Y1 c 1 ∗ Y1 c 4 ∗ Y1 c 2 ∗ Y1 c 5 ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ Y1 c 0 ∗ Y1 c 3 ∗ RS)) ?_)
  · iintro ⟨#HE, HA21, HA24, HA22, HA25, HO, HA20, HA23, HY11, HY14, HY12, HY15, HV0, HV1, HM0, HM1, HM2, HM3, HAL, HR2, HR3, HR0, HR1, HY10, HY13, HRS⟩
    isplitr; · iexact HE
    isplitl [HA20]; iexact HA20; isplitl [HA23]; iexact HA23; isplitl [HA21]; iexact HA21; isplitl [HA24]; iexact HA24; isplitl [HO]; iexact HO; isplitl [HA22]; iexact HA22; isplitl [HA25]; iexact HA25; isplitl [HY11]; iexact HY11; isplitl [HY14]; iexact HY14; isplitl [HY12]; iexact HY12; isplitl [HY15]; iexact HY15; isplitl [HV0]; iexact HV0; isplitl [HV1]; iexact HV1; isplitl [HM0]; iexact HM0; isplitl [HM1]; iexact HM1; isplitl [HM2]; iexact HM2; isplitl [HM3]; iexact HM3; isplitl [HAL]; iexact HAL; isplitl [HR2]; iexact HR2; isplitl [HR3]; iexact HR3; isplitl [HR0]; iexact HR0; isplitl [HR1]; iexact HR1; isplitl [HY10]; iexact HY10; isplitl [HY13]; iexact HY13; iexact HRS
  rintro ⟨v284, v287, v289, v291⟩
  dsimp only
  refine wp_bind_le c ?_
  rw [k0_part35_eq_skeleton]
  refine BIBase.Entails.trans (Q := iprop(Env m K ∗ A2 m c 2 ∗ A2 m c 5 ∗ Y1 c 0 ∗ Y1 c 3 ∗ Y1 c 1 ∗ Y1 c 4 ∗ Ow c [] ∗ A3 m c 0 ∗ A3 m c 3 ∗ A3 m c 1 ∗ A3 m c 4 ∗ Y1 c 2 ∗ Y1 c 5 ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ RS)) ?_ (part35 m K c _ _ _ _ _ _ _ _ _ _ (Φ := iprop(A3 m c 0 ∗ A3 m c 3 ∗ A3 m c 1 ∗ A3 m c 4 ∗ Y1 c 2 ∗ Y1 c 5 ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ RS)) ?_)
  · iintro ⟨#HE, HA30, HA33, HA31, HA34, HO, HA22, HA25, HY11, HY14, HY12, HY15, HV0, HV1, HM0, HM1, HM2, HM3, HAL, HR2, HR3, HR0, HR1, HY10, HY13, HRS⟩
    isplitr; · iexact HE
    isplitl [HA22]; iexact HA22; isplitl [HA25]; iexact HA25; isplitl [HY10]; iexact HY10; isplitl [HY13]; iexact HY13; isplitl [HY11]; iexact HY11; isplitl [HY14]; iexact HY14; isplitl [HO]; iexact HO; isplitl [HA30]; iexact HA30; isplitl [HA33]; iexact HA33; isplitl [HA31]; iexact HA31; isplitl [HA34]; iexact HA34; isplitl [HY12]; iexact HY12; isplitl [HY15]; iexact HY15; isplitl [HV0]; iexact HV0; isplitl [HV1]; iexact HV1; isplitl [HM0]; iexact HM0; isplitl [HM1]; iexact HM1; isplitl [HM2]; iexact HM2; isplitl [HM3]; iexact HM3; isplitl [HAL]; iexact HAL; isplitl [HR2]; iexact HR2; isplitl [HR3]; iexact HR3; isplitl [HR0]; iexact HR0; isplitl [HR1]; iexact HR1; iexact HRS
  rintro ⟨v322, v323⟩
  refine wp_use (E := Env m K) (R := iprop(Y1 c 2 ∗ Ow c [])) (R' := iprop(Y2 m c 2 ∗ Ow c []))
    (P := iprop(Env m K ∗ A3 m c 2 ∗ A3 m c 5 ∗ Y2 m c 0 ∗ Y2 m c 3 ∗ Y2 m c 1 ∗ Y2 m c 4 ∗ A3 m c 0 ∗ A3 m c 3 ∗ A3 m c 1 ∗ A3 m c 4 ∗ Y1 c 5 ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ RS)) (W := WP c _ Q) (stepZ pz_2 (fun h => ?_)) ?_ ?_
  · simp only [Prog.lift, Prog.bind_op, Prog.bind_ret, Prog.pure_eq_ret]
    refine pZ m K c 2 pz_2 h ?_ ?_ (k := fun _ => _) <;> rfl
  · iintro ⟨#HE, HA32, HA35, HY20, HY23, HY21, HY24, HO, HA30, HA33, HA31, HA34, HY12, HY15, HV0, HV1, HM0, HM1, HM2, HM3, HAL, HR2, HR3, HR0, HR1, HRS⟩
    isplitr; · iexact HE
    isplitl [HY12 HO]
    · isplitl [HY12]; iexact HY12; iexact HO
    isplitr; · iexact HE
    isplitl [HA32]; iexact HA32; isplitl [HA35]; iexact HA35; isplitl [HY20]; iexact HY20; isplitl [HY23]; iexact HY23; isplitl [HY21]; iexact HY21; isplitl [HY24]; iexact HY24; isplitl [HA30]; iexact HA30; isplitl [HA33]; iexact HA33; isplitl [HA31]; iexact HA31; isplitl [HA34]; iexact HA34; isplitl [HY15]; iexact HY15; isplitl [HV0]; iexact HV0; isplitl [HV1]; iexact HV1; isplitl [HM0]; iexact HM0; isplitl [HM1]; iexact HM1; isplitl [HM2]; iexact HM2; isplitl [HM3]; iexact HM3; isplitl [HAL]; iexact HAL; isplitl [HR2]; iexact HR2; isplitl [HR3]; iexact HR3; isplitl [HR0]; iexact HR0; isplitl [HR1]; iexact HR1; iexact HRS
  refine wp_use (E := Env m K) (R := iprop(Y1 c 5 ∗ Ow c [])) (R' := iprop(Y2 m c 5 ∗ Ow c []))
    (P := iprop(Env m K ∗ Y2 m c 2 ∗ A3 m c 2 ∗ A3 m c 5 ∗ Y2 m c 0 ∗ Y2 m c 3 ∗ Y2 m c 1 ∗ Y2 m c 4 ∗ A3 m c 0 ∗ A3 m c 3 ∗ A3 m c 1 ∗ A3 m c 4 ∗ slotE c slot0 ∗ slotE c slot1 ∗ semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0 ∗ argL m c ∗ outPt c fullShare (zc c * 16384 + 8192) 4096 (G m c) ∗ outPt c fullShare (zc c * 16384 + 12288) 4096 (G m c) ∗ outPt c fullShare (zc c * 16384 + 0) 4096 (G m c) ∗ outPt c fullShare (zc c * 16384 + 4096) 4096 (G m c) ∗ RS)) (W := WP c _ Q) (stepZ pz_5 (fun h => ?_)) ?_ ?_
  · simp only [Prog.lift, Prog.bind_op, Prog.bind_ret, Prog.pure_eq_ret]
    refine pZ m K c 5 pz_5 h ?_ ?_ (k := fun _ => _) <;> rfl
  · iintro ⟨⟨HY22, HO⟩, #HE, HA32, HA35, HY20, HY23, HY21, HY24, HA30, HA33, HA31, HA34, HY15, HV0, HV1, HM0, HM1, HM2, HM3, HAL, HR2, HR3, HR0, HR1, HRS⟩
    isplitr; · iexact HE
    isplitl [HY15 HO]
    · isplitl [HY15]; iexact HY15; iexact HO
    isplitr; · iexact HE
    isplitl [HY22]; iexact HY22; isplitl [HA32]; iexact HA32; isplitl [HA35]; iexact HA35; isplitl [HY20]; iexact HY20; isplitl [HY23]; iexact HY23; isplitl [HY21]; iexact HY21; isplitl [HY24]; iexact HY24; isplitl [HA30]; iexact HA30; isplitl [HA33]; iexact HA33; isplitl [HA31]; iexact HA31; isplitl [HA34]; iexact HA34; isplitl [HV0]; iexact HV0; isplitl [HV1]; iexact HV1; isplitl [HM0]; iexact HM0; isplitl [HM1]; iexact HM1; isplitl [HM2]; iexact HM2; isplitl [HM3]; iexact HM3; isplitl [HAL]; iexact HAL; isplitl [HR2]; iexact HR2; isplitl [HR3]; iexact HR3; isplitl [HR0]; iexact HR0; isplitl [HR1]; iexact HR1; iexact HRS
  refine BIBase.Entails.trans (BIBase.Entails.trans ?_ hQ) (le_wp_ret _ _ _ _ _)
  iintro ⟨⟨HY25, HO⟩, #HE, HY22, HA32, HA35, HY20, HY23, HY21, HY24, HA30, HA33, HA31, HA34, HV0, HV1, HM0, HM1, HM2, HM3, HAL, HR2, HR3, HR0, HR1, HRS⟩
  unfold Done
  isplitr [HRS]
  · isplitl [HA30]; iexact HA30; isplitl [HA31]; iexact HA31; isplitl [HA32]; iexact HA32; isplitl [HA33]; iexact HA33; isplitl [HA34]; iexact HA34; isplitl [HA35]; iexact HA35; isplitl [HY20]; iexact HY20; isplitl [HY21]; iexact HY21; isplitl [HY22]; iexact HY22; isplitl [HY23]; iexact HY23; isplitl [HY24]; iexact HY24; isplitl [HY25]; iexact HY25; isplitl [HAL]; iexact HAL; isplitl [HV0]; iexact HV0; isplitl [HV1]; iexact HV1; isplitl [HM0]; iexact HM0; isplitl [HM1]; iexact HM1; isplitl [HM2]; iexact HM2; isplitl [HM3]; iexact HM3; isplitl [HR0]; iexact HR0; isplitl [HR1]; iexact HR1; isplitl [HR2]; iexact HR2; isplitl [HR3]; iexact HR3; iexact HO
  · iexact HRS

end Cert.KernelIdeal.Hand

end
-- ==== Proof.EndsIdeal.lean ====
module

public import proofs.«01_k».proof.Proof.SplitIdeal
public import proofs.«01_k».proof.Proof.BodyIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

variable (m : (ℓ : Loc nD τ sig) → Buf (Elt F) ℓ) (K : Dev nD × Cell → ℕ)

/-! ## Lists of all the transfers -/

theorem big5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem big6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ
/-- All the transfers, index by index. -/
theorem bigX (Φ : X → sProp 𝕄) : bigSep Finset.univ Φ
    = bigSep Finset.univ fun i : Fin 6 => iprop(Φ (0, i) ∗ Φ (1, i) ∗ Φ (2, i) ∗ Φ (3, i) ∗ Φ (4, i)) := by
  rw [bigSep_univ_equiv (Equiv.prodComm (Fin 6) (Fin 5)) Φ, bigSep_univ_prod]
  exact bigSep_congr fun i _ => by rw [big5]; rfl

/-! ## From the barrier to the steps -/

/-- For a transfer a device issues: its place in the cell that counts it out, its duties. -/
def Pr (c : Dev nD) (x : X) : sProp 𝕄 := if on x c = true then iprop(atPos ER (cell c (sc x)) 0 ∅ 0 ∗ Tk c x) else Z c (sc x)
/-- For a transfer that ends on it: the right to wait for it. -/
def Rr (c : Dev nD) (x : X) : sProp 𝕄 := if onto x c = true then Wt c (rc x) else Z c (rc x)
/-- A transfer ready to be issued. -/
def Sx (c : Dev nD) (x : X) : sProp 𝕄 := if on x c = true then Snd m c x else Z c (sc x)

/-- What a device keeps through the barrier. -/
def PB (c : Dev nD) : sProp 𝕄 :=
  iprop(argY m c 0 fullShare.left ∗ argY m c 3 fullShare.right.left ∗ argK m c 0 fullShare.left ∗ argK m c 3 fullShare.right.left
    ∗ bigSep Finset.univ fun x : X => iprop(Pr c x ∗ Rr c x))
/-- What it puts aside after. -/
def RS (c : Dev nD) : sProp 𝕄 := iprop(Z c none ∗ argK m c 0 fullShare.left ∗ argK m c 3 fullShare.right.left)

theorem onto_act (c : Dev nD) (k : Fin 5) (i : Fin 6) : onto (k, i) c = act (zc c) i := (onto_live (k, i) c).symm.trans (live_act c k i)

theorem ready (c : Dev nD) (x : X) : iprop((if on x c = true then landPt m x c else iprop(emp)) ∗ Pr c x) ⊢ Sx m c x := by
  unfold Pr Sx Snd
  split
  · iintro ⟨H, Ha, Ht⟩
    isplitl [Ha]; · iexact Ha
    isplitl [Ht] <;> iassumption
  · iintro ⟨-, H⟩; iexact H

/-- The transfers of an index are those of its step and the one along the planes. -/
theorem step_of (c : Dev nD) (i : Fin 6) :
    iprop((Sx m c (0, i) ∗ Rr c (0, i)) ∗ (Sx m c (1, i) ∗ Rr c (1, i)) ∗ (Sx m c (2, i) ∗ Rr c (2, i)) ∗ (Sx m c (3, i) ∗ Rr c (3, i)) ∗ (Sx m c (4, i) ∗ Rr c (4, i)))
      ⊢ iprop(A0 m c i ∗ Sx m c (0, i)) := by
  have h1 : ∀ k : Fin 5, k ≠ 0 → Sx m c (k, i) = if act (zc c) i = true then Snd m c (k, i) else Z c (sc (k, i)) := fun k hk => by
    unfold Sx; rw [on_act c k i hk]
  have h2 : ∀ k : Fin 5, (Rr c (k, i) : sProp 𝕄) = if act (zc c) i = true then Wt c (rc (k, i)) else Z c (rc (k, i)) := fun k => by
    unfold Rr; rw [onto_act]
  rw [h1 1 (by decide), h1 2 (by decide), h1 3 (by decide), h1 4 (by decide), h2 0, h2 1, h2 2, h2 3, h2 4]
  unfold A0 on0 W4 Zs
  split
  · iintro ⟨⟨H0, R0⟩, ⟨H1, R1⟩, ⟨H2, R2⟩, ⟨H3, R3⟩, H4, R4⟩
    isplitr [H0]
    · isplitl [R0]; · iexact R0
      isplitl [R1 R2 R3 R4]
      · isplitl [R1]; · iexact R1
        isplitl [R2]; · iexact R2
        isplitl [R3] <;> iassumption
      isplitl [H1]; · iexact H1
      isplitl [H2]; · iexact H2
      isplitl [H3] <;> iassumption
    · iexact H0
  · iintro ⟨⟨H0, R0⟩, ⟨H1, R1⟩, ⟨H2, R2⟩, ⟨H3, R3⟩, H4, R4⟩
    isplitr [H0]
    · isplitl [R0]; · iexact R0
      isplitl [R1]; · iexact R1
      isplitl [R2]; · iexact R2
      isplitl [R3]; · iexact R3
      isplitl [R4]; · iexact R4
      isplitl [H1]; · iexact H1
      isplitl [H2]; · iexact H2
      isplitl [H3] <;> iassumption
    · iexact H0

/-- A transfer along the planes, not a first step, -/
theorem y_later (c : Dev nD) (i : Fin 6) (hf : first (0, i) = false) : Sx m c (0, i) ⊢ Y0 m c i := by
  unfold Sx Y0
  rw [hf, show on (0, i) c = zact (zc c) i from rfl]
  split
  · rw [if_neg (by decide)]; iintro H; isplitl; · iexact H
    iempintro
  · iintro H; iexact H
/-- and a first one, with its rows of the argument. -/
theorem y_first (c : Dev nD) (i : Fin 6) (hf : first (0, i) = true) : iprop(argY m c i (shr (0, i)) ∗ Sx m c (0, i)) ⊢ Y0 m c i := by
  unfold Sx Y0 argY sendPay
  rw [hf, show on (0, i) c = zact (zc c) i from rfl]
  split
  · rw [if_pos rfl, if_pos rfl]; iintro ⟨Ha, H⟩; isplitl [H] <;> iassumption
  · iintro ⟨-, H⟩; iexact H

/-- What the barrier brings, with what was kept, is what all the steps start from. -/
theorem after_bar (c : Dev nD) : iprop(Bar m c (bset c).card ∗ PB m c) ⊢ iprop(Y0 m c 0 ∗ Y0 m c 3 ∗ Y0 m c 1 ∗ Y0 m c 4 ∗ Y0 m c 2 ∗ Y0 m c 5 ∗ A0 m c 0 ∗ A0 m c 3 ∗ A0 m c 1 ∗ A0 m c 4 ∗ A0 m c 2 ∗ A0 m c 5 ∗ RS m c) := by
  have hx : iprop((bigSep Finset.univ fun x : X => if on x c = true then landPt m x c else iprop(emp)) ∗ bigSep Finset.univ fun x : X => iprop(Pr c x ∗ Rr c x))
      ⊢ (bigSep Finset.univ fun x : X => iprop(Sx m c x ∗ Rr c x) : sProp 𝕄) := by
    rw [← bigSep_sep']
    have h1 : ∀ x : X, iprop((if on x c = true then landPt m x c else iprop(emp)) ∗ Pr c x ∗ Rr c x) ⊢ iprop(Sx m c x ∗ Rr c x) := fun x => by
      iintro ⟨H, HP, HR⟩
      isplitr [HR]
      · iapply (ready m c x); isplitl [H] <;> iassumption
      · iexact HR
    exact bigSep_mono fun x _ => h1 x
  have hi : (bigSep Finset.univ fun x : X => iprop(Sx m c x ∗ Rr c x) : sProp 𝕄) ⊢ bigSep Finset.univ fun i : Fin 6 => iprop(A0 m c i ∗ Sx m c (0, i)) := by
    rw [bigX]; exact bigSep_mono fun i _ => step_of m c i
  rw [big6] at hi
  unfold Bar PB RS
  rw [if_pos rfl, bar_take]
  iintro ⟨⟨HL, HZ⟩, HY0, HY3, HK0, HK3, HX⟩
  ihave HS := hx $$ [HL HX]
  · isplitl [HL] <;> iassumption
  ihave ⟨⟨A0, S0⟩, ⟨A1, S1⟩, ⟨A2, S2⟩, ⟨A3, S3⟩, ⟨A4, S4⟩, A5, S5⟩ := hi $$ HS
  isplitl [HY0 S0]
  · iapply (y_first m c 0 rfl); isplitl [HY0]; · iexact HY0
    iexact S0
  isplitl [HY3 S3]
  · iapply (y_first m c 3 rfl); isplitl [HY3]; · iexact HY3
    iexact S3
  isplitl [S1]; · iapply (y_later m c 1 rfl); iexact S1
  isplitl [S4]; · iapply (y_later m c 4 rfl); iexact S4
  isplitl [S2]; · iapply (y_later m c 2 rfl); iexact S2
  isplitl [S5]; · iapply (y_later m c 5 rfl); iexact S5
  isplitl [A0]; · iexact A0
  isplitl [A3]; · iexact A3
  isplitl [A1]; · iexact A1
  isplitl [A4]; · iexact A4
  isplitl [A2]; · iexact A2
  isplitl [A5]; · iexact A5
  isplitl [HZ]; · iexact HZ
  isplitl [HK0] <;> iassumption

/-! ## The end -/

/-- All of a transfer's cells done with, its rows here. -/
def Rx (c : Dev nD) (x : X) : sProp 𝕄 := iprop(inPt x c (G m c) ∗ Z c (sc x) ∗ Z c (rc x))

theorem in_act (c : Dev nD) (k : Fin 5) (i : Fin 6) (h : act (zc c) i = true) : inPt (k, i) c (G m c) = recvPay m (k, i) c :=
  if_pos ((onto_act c k i).trans h)
theorem in_off (c : Dev nD) (k : Fin 5) (i : Fin 6) (h : ¬ act (zc c) i = true) : inPt (k, i) c (G m c) = (iprop(emp) : sProp 𝕄) :=
  if_neg (fun h' => h ((onto_act c k i).symm.trans h'))

/-- What a step that is done has left, the rows that went on along the planes being back. -/
theorem step_done (c : Dev nD) (i : Fin 6) (b : Bool) (hb : act (zc c) i = true → b = fwd c i) :
    iprop(A3 m c i ∗ (if b = true then Kp m c i else iprop(emp)) ∗ Z c (sc (0, i)))
      ⊢ iprop(Rx m c (0, i) ∗ Rx m c (1, i) ∗ Rx m c (2, i) ∗ Rx m c (3, i) ∗ Rx m c (4, i)) := by
  unfold Rx A3 Zs
  by_cases h : act (zc c) i = true
  · rw [if_pos h, ← hb h, in_act m c 0 i h, in_act m c 1 i h, in_act m c 2 i h, in_act m c 3 i h, in_act m c 4 i h]
    have hk : iprop((if b = true then Kp m c i else iprop(emp)) ∗ KpIf m c i b) ⊢ Kp m c i := by
      unfold KpIf; split
      · iintro ⟨H, -⟩; iexact H
      · iintro ⟨-, H⟩; iexact H
    unfold on3 Zs
    iintro ⟨⟨HK, HS1, HS2, HR1, HR2, HR3, HR4, Z0, Z1, Z2, Z3, Z4, Y1, Y2, Y3, Y4⟩, HK', Y0⟩
    isplitl [HK HK' HS1 HS2 Y0 Z0]
    · isplitl [HK HK' HS1 HS2]
      · iapply (recv_z m c i h).2
        isplitl [HK HK']
        · iapply hk; isplitl [HK'] <;> iassumption
        isplitl [HS1] <;> iassumption
      · isplitl [Y0] <;> iassumption
    isplitl [HR1 Y1 Z1]
    · isplitl [HR1]; · iexact HR1
      isplitl [Y1] <;> iassumption
    isplitl [HR2 Y2 Z2]
    · isplitl [HR2]; · iexact HR2
      isplitl [Y2] <;> iassumption
    isplitl [HR3 Y3 Z3]
    · isplitl [HR3]; · iexact HR3
      isplitl [Y3] <;> iassumption
    · isplitl [HR4]; · iexact HR4
      isplitl [Y4] <;> iassumption
  · rw [if_neg h, in_off m c 0 i h, in_off m c 1 i h, in_off m c 2 i h, in_off m c 3 i h, in_off m c 4 i h]
    iintro ⟨⟨Z0, Z1, Z2, Z3, Z4, Y1, Y2, Y3, Y4⟩, -, Y0⟩
    isplitl [Y0 Z0]
    · isplitr; · iempintro
      isplitl [Y0] <;> iassumption
    isplitl [Y1 Z1]
    · isplitr; · iempintro
      isplitl [Y1] <;> iassumption
    isplitl [Y2 Z2]
    · isplitr; · iempintro
      isplitl [Y2] <;> iassumption
    isplitl [Y3 Z3]
    · isplitr; · iempintro
      isplitl [Y3] <;> iassumption
    · isplitr; · iempintro
      isplitl [Y4] <;> iassumption

/-- A transfer along the planes that was no first step gives back the rows it read. -/
theorem y_back (c : Dev nD) (i j : Fin 6) (hj : j = i + 1) (hi : st i < 2) :
    Y2 m c j ⊢ iprop((if fwd c i = true then Kp m c i else iprop(emp)) ∗ Z c (sc (0, j))) := by
  subst hj
  unfold Y2
  have hd : fwd c i = zact (zc c) (i + 1) := by unfold fwd; rw [decide_eq_true hi, Bool.true_and]
  rw [hd]
  by_cases h : zact (zc c) (i + 1) = true
  · rw [if_pos h, if_pos h, send_f m c i (hd.trans h) (act_f ⟨zc c, zc_lt c⟩ i hi h)]
  · rw [if_neg h, if_neg h]; iintro H; isplitr; · iempintro
    iexact H
/-- A first one gives back its rows of the argument. -/
theorem y_arg (c : Dev nD) (i : Fin 6) (hf : first (0, i) = true) : Y2 m c i ⊢ iprop(argY m c i (shr (0, i)) ∗ Z c (sc (0, i))) := by
  unfold Y2 argY sendPay
  rw [hf]
  split
  · rw [if_pos rfl]
  · iintro H; isplitr; · iempintro
    iexact H

/-- What a device has in the end: its argument as it was, its result final, every cell done with. -/
def Fin1 (c : Dev nD) : sProp 𝕄 :=
  iprop(argPt c fullShare 0 16384 (argX m c) ∗ outPt c fullShare 0 65536 (G m c) ∗ Z c none
    ∗ (bigSep Finset.univ fun x : X => iprop(Z c (sc x) ∗ Z c (rc x))) ∗ slotE c slot0 ∗ slotE c slot1
    ∗ (semVal ((c : Thread nD τ), .dma (s0 : DmaSem sig)) 0 ∗ semVal ((c : Thread nD τ), .dma (s1 : DmaSem sig)) 0 ∗ semVal ((c : Thread nD τ), .dma (s2 : DmaSem sig)) 0 ∗ semVal ((c : Thread nD τ), .dma (s3 : DmaSem sig)) 0) ∗ Ow c [])

theorem all_done (c : Dev nD) : iprop(Done m c ∗ RS m c) ⊢ Fin1 m c := by
  have hr : iprop((bigSep Finset.univ fun x : X => Rx m c x) ∗ outPt c fullShare (zc c * 16384) 16384 (G m c))
      ⊢ iprop(outPt c fullShare 0 65536 (G m c) ∗ bigSep Finset.univ fun x : X => iprop(Z c (sc x) ∗ Z c (rc x))) := by
    unfold Rx; rw [bigSep_sep']
    iintro ⟨⟨HI, HZ⟩, HO⟩
    isplitr [HZ]
    · iapply (out_pieces c (G m c)).2; isplitl [HO] <;> iassumption
    · iexact HZ
  rw [bigX, big6] at hr
  have hd := fun i b hb => step_done m c i b hb
  unfold Done RS Fin1
  iintro ⟨⟨A0, A1, A2, A3, A4, A5, Y0, Y1, Y2, Y3, Y4, Y5, HL, HV0, HV1, HM0, HM1, HM2, HM3, HR0, HR1, HR2, HR3, HO⟩, HZ, HK0, HK3⟩
  ihave ⟨HA0, Y0⟩ := (y_arg m c 0 rfl) $$ Y0
  ihave ⟨HA3, Y3⟩ := (y_arg m c 3 rfl) $$ Y3
  ihave ⟨P0, Y1⟩ := (y_back m c 0 1 rfl (by decide)) $$ Y1
  ihave ⟨P1, Y2⟩ := (y_back m c 1 2 rfl (by decide)) $$ Y2
  ihave ⟨P3, Y4⟩ := (y_back m c 3 4 rfl (by decide)) $$ Y4
  ihave ⟨P4, Y5⟩ := (y_back m c 4 5 rfl (by decide)) $$ Y5
  isplitl [HA0 HA3 HK0 HK3 HL]
  · iapply (arg_shares m c).2
    isplitl [HA0 HK0]
    · iapply (arg_cut m c 0 _).2; isplitl [HA0]; · iexact HA0
      iexact HK0
    isplitl [HA3 HK3]
    · iapply (arg_cut m c 3 _).2; isplitl [HA3]; · iexact HA3
      iexact HK3
    iexact HL
  ihave ⟨HOUT, HZZ⟩ := hr $$ [A0 A1 A2 A3 A4 A5 Y0 Y1 Y2 Y3 Y4 Y5 P0 P1 P3 P4 HR0 HR1 HR2 HR3]
  · isplitr [HR0 HR1 HR2 HR3]
    · isplitl [A0 P0 Y0]
      · iapply (step_done m c 0 _ (fun _ => rfl)); isplitl [A0]; iexact A0; isplitl [P0] <;> iassumption
      isplitl [A1 P1 Y1]
      · iapply (step_done m c 1 _ (fun _ => rfl)); isplitl [A1]; iexact A1; isplitl [P1] <;> iassumption
      isplitl [A2 Y2]
      · iapply (step_done m c 2 false (fun _ => rfl)); isplitl [A2]; iexact A2; isplitr; · iempintro
        iexact Y2
      isplitl [A3 P3 Y3]
      · iapply (step_done m c 3 _ (fun _ => rfl)); isplitl [A3]; iexact A3; isplitl [P3] <;> iassumption
      isplitl [A4 P4 Y4]
      · iapply (step_done m c 4 _ (fun _ => rfl)); isplitl [A4]; iexact A4; isplitl [P4] <;> iassumption
      · iapply (step_done m c 5 false (fun _ => rfl)); isplitl [A5]; iexact A5; isplitr; · iempintro
        iexact Y5
    · iapply (out_quarters c _ _ _).2
      isplitl [HR0]; · iexact HR0
      isplitl [HR1]; · iexact HR1
      isplitl [HR2] <;> iassumption
  isplitl [HOUT]; · iexact HOUT
  isplitl [HZ]; · iexact HZ
  isplitl [HZZ]; · iexact HZZ
  isplitl [HV0]; · iexact HV0
  isplitl [HV1]; · iexact HV1
  isplitr [HO]
  · isplitl [HM0]; · iexact HM0
    isplitl [HM1]; · iexact HM1
    isplitl [HM2] <;> iassumption
  iexact HO

end Cert.KernelIdeal.Hand

end
-- ==== Proof.GhostIdeal.lean ====
module

public import proofs.«01_k».proof.Proof.EndsIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## The cells and their marks -/

theorem cell_injective : Function.Injective fun ck : Dev nD × Cell => (cell ck.1 ck.2 : GSem nD τ sig) := by
  rintro ⟨c, x⟩ ⟨c', x'⟩ h
  obtain ⟨rfl, rfl⟩ := cell_inj h; rfl
def cells : Finset (GSem nD τ sig) := Finset.univ.map ⟨_, cell_injective⟩

/-- The duties of a device's own cells: the cell and the name. What others pay is listed by what they do, what the device
    pays itself by its own transfers. -/
def tcell : S ⊕ X → Cell := Sum.elim srcv sc
def tname : S ⊕ X → B := Sum.elim sname fun _ => 0
theorem t_all : Function.Injective fun t : S ⊕ X => (tcell t, tname t) := by decide +kernel
theorem t_inj (t t' : S ⊕ X) (h : tcell t = tcell t') (h' : tname t = tname t') : t = t' := t_all (Prod.ext h h')

theorem tok_injective : Function.Injective fun ct : Dev nD × (S ⊕ X) => ((cell ct.1 (tcell ct.2), 0, tname ct.2) : GSem nD τ sig × ℕ × B) := by
  rintro ⟨c, t⟩ ⟨c', t'⟩ h
  obtain ⟨rfl, h2⟩ := cell_inj (congrArg (fun a : GSem nD τ sig × ℕ × B => a.1) h)
  rw [t_inj t t' h2 (congrArg (fun a : GSem nD τ sig × ℕ × B => a.2.2) h)]
def marks : Finset (GSem nD τ sig × ℕ × B) := Finset.univ.map ⟨_, tok_injective⟩

def u₀ : UU :=
  (initOf (Pipeline.cells cfgs cellOf_inj) (Pipeline.launchToks cfgs cellOf_inj), (initOf cells marks, 1))

/-- The marks of device `c`'s own cells, -/
def toks (c : Dev nD) : sProp 𝕄 := bigSep Finset.univ fun t : S ⊕ X => dutyTok ER (cell c (tcell t)) 0 (tname t)
/-- and those of the duties it pays. -/
def payToks (c : Dev nD) : sProp 𝕄 :=
  iprop((bigSep Finset.univ fun s : S => dutyTok ER (cell (stgt s c) (srcv s)) 0 (sname s)) ∗ bigSep Finset.univ fun x : X => dutyTok ER (cell c (sc x)) 0 (0 : B))

/-- What the launch deals device `c`. -/
def Gh (c : Dev nD) : sProp 𝕄 :=
  iprop((bigSep Finset.univ fun x : Cell => roundState ER (rd m) (cell c x) 0)
    ∗ (bigSep Finset.univ fun x : Cell => iprop(atPos ER (cell c x) 0 ∅ 0 ∗ reached ER (cell c x) 0)) ∗ toks c)

theorem fund_own : BI.own (ER (F := F) (initOf cells marks)) ⊢ (|==> bigSep Finset.univ (Gh m) : sProp 𝕄) := by
  have hX (Φ : GSem nD τ sig → sProp 𝕄) : bigSep cells Φ = bigSep Finset.univ fun c : Dev nD => bigSep Finset.univ fun x : Cell => Φ (cell c x) := by
    unfold cells; rw [Idealize.SL.BI.bigSep_map, bigSep_univ_prod]; rfl
  have hT : bigSep marks (fun x => (dutyTok ER x.1 x.2.1 x.2.2 : sProp 𝕄)) = bigSep Finset.univ fun c : Dev nD => toks c := by
    unfold marks; rw [Idealize.SL.BI.bigSep_map, bigSep_univ_prod]; rfl
  iintro HX
  imod (Rounds.fund ER (rd m) cells marks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Gh; simp only [bigSep_sep']
  isplitl [Hst']; · iexact Hst'
  isplitl [Hat' Hr']
  · isplitl [Hat'] <;> iassumption
  iexact Htok'

/-! ## The kernel's semaphores -/

def osem : Fin 64 → SemLoc sig := fun k => .dma k
theorem ownSemFacts : Pipeline.OwnSemFacts cfg0.spec osem := by decide +kernel

/-- The pool of semaphores: four for the device's own copies, the others the cells of the transfers. -/
def pool : Fin 4 ⊕ (Fin 10 × Fin 6) → Fin 64 := Sum.elim (fun i => ⟨i.val, by omega⟩) fun p => num p.1 p.2
theorem pool_bij : Function.Bijective pool :=
  (Fintype.bijective_iff_injective_and_card _).2 ⟨fun a b => by
    have h : ∀ a b, pool a = pool b → a = b := by decide +kernel
    exact h a b, by decide⟩

/-- Every cell is the barrier's or a transfer's. -/
theorem bigCell (Φ : Cell → sProp 𝕄) : bigSep Finset.univ Φ = iprop(Φ none ∗ bigSep Finset.univ fun p : Fin 10 × Fin 6 => Φ (some p)) := by
  have h : (Finset.univ : Finset Cell).erase none = Finset.univ.map Function.Embedding.some := by decide +kernel
  rw [bigSep_univ_at Φ none, h, Idealize.SL.BI.bigSep_map]; rfl
theorem bigXcells (Φ : Cell → sProp 𝕄) : (bigSep Finset.univ fun p : Fin 10 × Fin 6 => Φ (some p)) = bigSep Finset.univ fun x : X => iprop(Φ (sc x) ∗ Φ (rc x)) := by
  have e : Function.Bijective fun t : X ⊕ X => (Sum.elim (fun x : X => ((⟨2 * x.1.val, by omega⟩, x.2) : Fin 10 × Fin 6)) (fun x : X => ((⟨2 * x.1.val + 1, by omega⟩, x.2) : Fin 10 × Fin 6)) t) :=
    (Fintype.bijective_iff_injective_and_card _).2 ⟨fun a b => by revert a b; decide +kernel, by decide⟩
  rw [bigSep_univ_equiv (Equiv.ofBijective _ e), BI.bigSep_univ_sum, bigSep_sep']
  rfl

/-- The four semaphores of the device's own copies at zero. -/
def Z4 (c : Dev nD) : sProp 𝕄 :=
  iprop(semVal ((c : Thread nD τ), .dma (s0 : DmaSem sig)) 0 ∗ semVal ((c : Thread nD τ), .dma (s1 : DmaSem sig)) 0
    ∗ semVal ((c : Thread nD τ), .dma (s2 : DmaSem sig)) 0 ∗ semVal ((c : Thread nD τ), .dma (s3 : DmaSem sig)) 0)

theorem ownSems0_eq (c : Dev nD) : (Pipeline.ownSems0 (Ix := Unit) (Name := ℕ) (U := UU) (Lvl := ℕ) (Val := Elt F) (τ := τ) osem c : sProp 𝕄)
    = iprop(Z4 c ∗ bigSep Finset.univ fun p : Fin 10 × Fin 6 => Z c (some p)) := by
  unfold Pipeline.ownSems0
  rw [bigSep_univ_equiv (Equiv.ofBijective _ pool_bij), BI.bigSep_univ_sum, bigSep_univ_eq_bigSepL [0, 1, 2, 3] (by decide) (by decide)]
  rfl
theorem unscopedSems0_eq (c : Dev nD) : (unscopedSems0 c : sProp 𝕄) = Z c none := by
  unfold unscopedSems0; rw [bigSep_eq_bigSepL_of_eq [SemLoc.reg barS] (by decide) (by decide)]; rfl

/-! ## The launch, once for all devices -/

/-- Each device's cells are set up. -/
theorem core_alloc (c : Dev nD) :
    iprop(Pipeline.ownSems0 (Ix := Unit) (Name := ℕ) (U := UU) (Lvl := ℕ) (Val := Elt F) (τ := τ) osem c ∗ unscopedSems0 c ∗ Gh m c)
      ⊢ |={Set.univ}=> iprop((bigSep Finset.univ fun x : Cell => iprop(∃ κ : ℕ, cellInv ER (rd m) κ (cell c x)))
          ∗ (bigSep Finset.univ fun x : Cell => iprop(atPos ER (cell c x) 0 ∅ 0 ∗ reached ER (cell c x) 0)) ∗ toks c ∗ Z4 c) := by
  have hz : iprop((bigSep Finset.univ fun p : Fin 10 × Fin 6 => Z c (some p)) ∗ Z c none) ⊢ (bigSep Finset.univ fun x : Cell => Z c x : sProp 𝕄) := by
    rw [bigCell]; iintro ⟨H1, H2⟩; isplitl [H2] <;> iassumption
  have ha : iprop((bigSep Finset.univ fun x : Cell => Z c x) ∗ bigSep Finset.univ fun x : Cell => roundState ER (rd m) (cell c x) 0)
      ⊢ (|={Set.univ}=> bigSep Finset.univ fun x : Cell => iprop(∃ κ : ℕ, cellInv ER (rd m) κ (cell c x)) : sProp 𝕄) := by
    rw [← bigSep_sep']
    exact (bigSep_mono fun x _ => (Rounds.body_intro ER (rd m) (cell c x)).trans inv_alloc).trans (bigSep_fupd _ _)
  unfold Gh
  rw [ownSems0_eq, unscopedSems0_eq]
  iintro ⟨⟨H4, Hp⟩, Hn, Hst, Hat, Htok⟩
  ihave Hv := hz $$ [Hp Hn]
  · isplitl [Hp] <;> iassumption
  imod ha $$ [Hv Hst] with Hinv
  · isplitl [Hv] <;> iassumption
  imodintro
  isplitl [Hinv]; · iexact Hinv
  isplitl [Hat]; · iexact Hat
  isplitl [Htok] <;> iassumption

/-- The cells' invariants under names, and that every cell's round is reached. -/
def Recs (K : Dev nD × Cell → ℕ) : sProp 𝕄 :=
  iprop((bigSep Finset.univ fun ck : Dev nD × Cell => cellInv ER (rd m) (K ck) (cell ck.1 ck.2))
    ∗ bigSep Finset.univ fun ck : Dev nD × Cell => reached ER (cell ck.1 ck.2) 0)
instance Recs_persistent (K : Dev nD × Cell → ℕ) : BI.Persistent (Recs m K) := by unfold Recs; infer_instance

/-- What a device starts from: those records, its places in its cells, the marks of the duties it pays, its own four
    semaphores. -/
def Own (c : Dev nD) : sProp 𝕄 := iprop((bigSep Finset.univ fun x : Cell => atPos ER (cell c x) 0 ∅ 0) ∗ payToks c ∗ Z4 c)
def Gh' (c : Dev nD) : sProp 𝕄 := iprop(∃ K, Recs m K ∗ Own c)

/-- Two listings in either order. -/
theorem swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), bigSep_univ_equiv (Equiv.prodComm J I), bigSep_univ_prod]; rfl

/-- The marks go to those who pay the duties. -/
theorem toks_around : (bigSep Finset.univ fun c : Dev nD => (toks c : sProp 𝕄)) = bigSep Finset.univ fun c : Dev nD => payToks c := by
  have h1 : (bigSep Finset.univ fun c : Dev nD => bigSep Finset.univ fun s : S => (dutyTok ER (cell c (srcv s)) 0 (sname s) : sProp 𝕄))
      = bigSep Finset.univ fun c : Dev nD => bigSep Finset.univ fun s : S => dutyTok ER (cell (stgt s c) (srcv s)) 0 (sname s) := by
    rw [swap, swap fun (c : Dev nD) (s : S) => (dutyTok ER (cell (stgt s c) (srcv s)) 0 (sname s) : sProp 𝕄)]
    exact bigSep_congr fun s _ => bigSep_univ_equiv (stgt s) _
  unfold toks payToks
  rw [bigSep_sep', ← h1, ← bigSep_sep']
  exact bigSep_congr fun c _ => BI.bigSep_univ_sum _

theorem bigSep_beside {I : Type} [DecidableEq I] {T : Finset I} {R : sProp 𝕄} [BI.Persistent R] {Φ Ψ : I → sProp 𝕄}
    (h : ∀ i ∈ T, iprop(R ∗ Φ i) ⊢ Ψ i) : iprop(R ∗ bigSep T Φ) ⊢ bigSep T Ψ :=
  (sep_mono_left (BI.bigSep_of_persistent T R)).trans (by rw [← bigSep_sep']; exact bigSep_mono h)

theorem regroup :
    (bigSep Finset.univ fun c : Dev nD => iprop((bigSep Finset.univ fun x : Cell => iprop(∃ κ : ℕ, cellInv ER (rd m) κ (cell c x)))
          ∗ (bigSep Finset.univ fun x : Cell => iprop(atPos ER (cell c x) 0 ∅ 0 ∗ reached ER (cell c x) 0)) ∗ toks c ∗ Z4 c) : sProp 𝕄)
      ⊢ bigSep Finset.univ (Gh' m) := by
  have hK : (bigSep Finset.univ fun c : Dev nD => bigSep Finset.univ fun x : Cell => iprop(∃ κ : ℕ, cellInv ER (rd m) κ (cell c x)))
      ⊢ (iprop(∃ K : Dev nD × Cell → ℕ, bigSep Finset.univ fun ck : Dev nD × Cell => cellInv ER (rd m) (K ck) (cell ck.1 ck.2)) : sProp 𝕄) := by
    rw [← bigSep_univ_prod (fun ck : Dev nD × Cell => iprop(∃ κ : ℕ, (cellInv ER (rd m) κ (cell ck.1 ck.2) : sProp 𝕄)))]
    exact BI.bigSep_exists_pi Finset.univ _
  have hR : (bigSep Finset.univ fun c : Dev nD => bigSep Finset.univ fun x : Cell => iprop(atPos ER (cell c x) 0 ∅ 0 ∗ reached ER (cell c x) 0))
      ⊢ (iprop((bigSep Finset.univ fun ck : Dev nD × Cell => reached ER (cell ck.1 ck.2) 0)
        ∗ bigSep Finset.univ fun c : Dev nD => bigSep Finset.univ fun x : Cell => atPos ER (cell c x) 0 ∅ 0) : sProp 𝕄) := by
    rw [bigSep_univ_prod (fun ck : Dev nD × Cell => (reached ER (cell ck.1 ck.2) 0 : sProp 𝕄)), ← bigSep_sep']
    have h1 : ∀ c : Dev nD, (bigSep Finset.univ fun x : Cell => iprop(atPos ER (cell c x) 0 ∅ 0 ∗ reached ER (cell c x) 0) : sProp 𝕄)
        ⊢ iprop((bigSep Finset.univ fun x : Cell => reached ER (cell c x) 0) ∗ bigSep Finset.univ fun x : Cell => atPos ER (cell c x) 0 ∅ 0) := fun c => by
      rw [bigSep_sep']; iintro ⟨H1, H2⟩; isplitl [H2] <;> iassumption
    exact bigSep_mono fun c _ => h1 c
  have hO : iprop((bigSep Finset.univ fun c : Dev nD => bigSep Finset.univ fun x : Cell => atPos ER (cell c x) 0 ∅ 0)
      ∗ (bigSep Finset.univ fun c : Dev nD => payToks c) ∗ bigSep Finset.univ fun c : Dev nD => Z4 c) ⊢ (bigSep Finset.univ Own : sProp 𝕄) := by
    rw [← bigSep_sep', ← bigSep_sep']; exact Entails.of_eq rfl
  have hG : ∀ K, iprop(Recs m K ∗ bigSep Finset.univ Own) ⊢ bigSep Finset.univ (Gh' m) := fun K =>
    bigSep_beside fun c _ => by
      unfold Gh'; iintro ⟨#H1, H2⟩; iexists K; isplitr; · iexact H1
      iexact H2
  rw [bigSep_sep', bigSep_sep', bigSep_sep', toks_around]
  iintro ⟨HI, Hat, Htok, H4⟩
  ihave ⟨%K, #HI⟩ := hK $$ HI
  ihave ⟨#HR, Hat⟩ := hR $$ Hat
  iapply (hG K)
  isplitr
  · unfold Recs; isplitl; · iexact HI
    iexact HR
  · iapply hO; isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ Gh m c) : sProp 𝕄)
    ⊢ |={Set.univ}=> bigSep Finset.univ (Gh' m) :=
  ((bigSep_mono fun c _ => core_alloc m c).trans (bigSep_fupd _ _)).trans (BI.fupd_mono (regroup m))

/-! ## The credit for what the others owe -/

theorem owe_sum (c : Dev nD) (l : List S) (g : GSem nD τ sig) : owe c l g () = (l.map fun s => oweT c s g ()).sum := by
  induction l with
  | nil => rfl
  | cons s l ih =>
    rw [List.map_cons, List.sum_cons, ← ih, Nat.add_comm]
    show (owe c l + oweT c s) g () = _; rw [Pi.add_apply, Finsupp.add_apply]

/-- What all devices together owe a cell. -/
theorem owed_all (c : Dev nD) (x : Cell) : (∑ d : Dev nD, owe d order (cell c x) ())
    = (Finset.univ.filter fun s : S => srcv s = x ∧ son s ((stgt s).symm c) = true).card * amt x := by
  have h1 : ∀ d : Dev nD, owe d order (cell c x) () = ∑ s : S, oweT d s (cell c x) () := fun d => by
    rw [owe_sum, ← List.sum_toFinset _ order_nodup, order_all]
  have h2 : ∀ s : S, (∑ d : Dev nD, oweT d s (cell c x) ()) = if srcv s = x ∧ son s ((stgt s).symm c) = true then amt x else 0 := fun s => by
    rw [Finset.sum_eq_single_of_mem ((stgt s).symm c) (Finset.mem_univ _) (fun d _ hd => by
      unfold oweT; split
      · rw [tallyAt_apply, if_neg]
        rintro ⟨h, -⟩
        exact hd (((stgt s).symm_apply_eq.2 (cell_inj h).1).symm)
      · rfl)]
    unfold oweT
    rw [Equiv.apply_symm_apply]
    by_cases hx : srcv s = x
    · subst hx
      by_cases hs : son s ((stgt s).symm c) = true
      · rw [if_pos hs, if_pos ⟨rfl, hs⟩, tallyAt_apply, if_pos ⟨rfl, rfl⟩]
      · rw [if_neg hs, if_neg (fun h => hs h.2)]; rfl
    · rw [if_neg (fun h : srcv s = x ∧ _ => hx h.1)]
      by_cases hs : son s ((stgt s).symm c) = true
      · rw [if_pos hs, tallyAt_apply, if_neg]
        rintro ⟨h, -⟩; exact hx (cell_inj h).2.symm
      · rw [if_neg hs]; rfl
  rw [Finset.sum_congr rfl fun d _ => h1 d, Finset.sum_comm, Finset.sum_congr rfl fun s _ => h2 s, ← Finset.sum_filter,
    Finset.sum_const, smul_eq_mul]

theorem count_bar : ∀ c : D, (Finset.univ.filter fun s : S => srcv s = none ∧ son s ((stgt s).symm c) = true).card = (bset c).card := by decide +kernel
theorem count_rc : ∀ (x : X) (c : D), (Finset.univ.filter fun s : S => srcv s = rc x ∧ son s ((stgt s).symm c) = true).card = if onto x c = true then 1 else 0 := by decide +kernel

/-- The credit for a cell. -/
def Cr (c : Dev nD) (x : Cell) : sProp 𝕄 :=
  cred (tallyAt (cell c x) () ((Finset.univ.filter fun s : S => srcv s = x ∧ son s ((stgt s).symm c) = true).card * amt x))

theorem creds (c : Dev nD) : (Pipeline.launchCred (fun d => owe d order) c : sProp 𝕄) ⊢ bigSep Finset.univ fun x : Cell => Cr c x := by
  have h : ∀ x : Cell, (cred (tallyOn ((c.tc : Thread nD τ), csem x) (launchCredit (Pipeline.owing fun d => owe d order) 0 ((c.tc : Thread nD τ), csem x))) : sProp 𝕄) = Cr c x := fun x => by
    unfold Cr; congr 1; unfold tallyAt
    refine congrArg _ (Finsupp.ext fun u => ?_); cases u
    rw [Pipeline.launchCredit_owing, Finsupp.single_eq_same]
    exact owed_all c x
  unfold Pipeline.launchCred
  have h2 : (bigSep (Finset.univ.map ⟨csem, csem_inj⟩) fun sm : SemLoc sig => (cred (tallyOn ((c.tc : Thread nD τ), sm) (launchCredit (Pipeline.owing fun d => owe d order) 0 ((c.tc : Thread nD τ), sm))) : sProp 𝕄))
      = bigSep Finset.univ fun x : Cell => Cr c x := by
    rw [Idealize.SL.BI.bigSep_map]
    exact bigSep_congr fun x _ => h x
  exact BIBase.Entails.trans (bigSep_subset (Finset.subset_univ _)) (Entails.of_eq h2)

end Cert.KernelIdeal.Hand

end
-- ==== Proof.StartIdeal.lean ====
module

public import proofs.«01_k».proof.Proof.GhostIdeal

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## What a device starts from -/

/-- Its marks, by the barrier's signals and by the transfers. -/
theorem payToks_eq (c : Dev nD) : (payToks c : sProp 𝕄)
    ⊢ iprop((bigSep Finset.univ fun b : B => dutyTok ER (cell (btgt b c) none) 0 b) ∗ bigSep Finset.univ fun x : X => Tk c x) := by
  have hs : (bigSep Finset.univ fun s : S => (dutyTok ER (cell (stgt s c) (srcv s)) 0 (sname s) : sProp 𝕄))
      = iprop((bigSep Finset.univ fun b : B => dutyTok ER (cell (btgt b c) none) 0 b) ∗ bigSep Finset.univ fun x : X => dutyTok ER (cell (tgt x c) (rc x)) 0 (0 : B)) :=
    BI.bigSep_univ_sum _
  unfold payToks Tk
  rw [hs, bigSep_sep']
  iintro ⟨⟨H1, H2⟩, H3⟩
  isplitl [H1]; · iexact H1
  isplitl [H3]; · iexact H3
  iexact H2

theorem big4 (Φ : B → sProp 𝕄) : bigSep Finset.univ Φ = iprop(Φ 0 ∗ Φ 1 ∗ Φ 2 ∗ Φ 3) := bigSep_univ_eq_bigSepL [0, 1, 2, 3] (by decide) (by decide) Φ

/-- The signals, each with the rows it hands over. -/
theorem signals (c : Dev nD) : iprop((bigSep Finset.univ fun b : B => dutyTok ER (cell (btgt b c) none) 0 b) ∗ bigSep Finset.univ fun b : B => barPay m b (btgt b c))
    ⊢ (iprop(Sg m 0 c ∗ Sg m 1 c ∗ Sg m 2 c ∗ Sg m 3 c) : sProp 𝕄) := by
  have h : ∀ b : B, iprop(dutyTok ER (cell (btgt b c) none) 0 b ∗ barPay m b (btgt b c)) ⊢ (Sg m b c : sProp 𝕄) := fun b => by
    unfold Sg; split
    · iintro H; iexact H
    · iintro -; iempintro
  rw [← bigSep_sep', ← big4 fun b => Sg m b c]
  exact bigSep_mono fun b _ => h b

/-- A transfer's cells: used, or done with from the start. -/
theorem one_ready (c : Dev nD) (x : X) :
    iprop(Env m K ∗ (atPos ER (cell c (sc x)) 0 ∅ 0 ∗ atPos ER (cell c (rc x)) 0 ∅ 0) ∗ Tk c x ∗ Cr c (rc x)) ⊢ |={Set.univ}=> iprop(Pr c x ∗ Rr c x) := by
  have h1 : iprop(Env m K ∗ atPos ER (cell c (sc x)) 0 ∅ 0 ∗ Tk c x) ⊢ |={Set.univ}=> Pr c x := by
    unfold Pr
    by_cases h : on x c = true
    · rw [if_pos h]; iintro ⟨-, H⟩; imodintro; iexact H
    · rw [if_neg h]; iintro ⟨#HE, H, -⟩
      iapply (close0 m K c (sc x) (if_neg (fun h' => h ((live_sc x c).symm.trans h'))))
      isplitr; · iexact HE
      iexact H
  have h2 : iprop(Env m K ∗ atPos ER (cell c (rc x)) 0 ∅ 0 ∗ Cr c (rc x)) ⊢ |={Set.univ}=> Rr c x := by
    unfold Rr Cr Wt
    rw [count_rc]
    by_cases h : onto x c = true
    · rw [if_pos h, if_pos h, Nat.one_mul]; iintro ⟨-, H⟩; imodintro; iexact H
    · rw [if_neg h, if_neg h]; iintro ⟨#HE, H, -⟩
      iapply (close0 m K c (rc x) (if_neg (fun h' => h ((onto_live x c).symm.trans h'))))
      isplitr; · iexact HE
      iexact H
  iintro ⟨#HE, ⟨Ha, Hb⟩, Ht, Hc⟩
  imod h1 $$ [Ha Ht] with H1
  · isplitr; · iexact HE
    isplitl [Ha] <;> iassumption
  imod h2 $$ [Hb Hc] with H2
  · isplitr; · iexact HE
    isplitl [Hb] <;> iassumption
  imodintro
  isplitl [H1] <;> iassumption

theorem all_ready (c : Dev nD) :
    iprop(Env m K ∗ (bigSep Finset.univ fun x : X => iprop(atPos ER (cell c (sc x)) 0 ∅ 0 ∗ atPos ER (cell c (rc x)) 0 ∅ 0))
        ∗ (bigSep Finset.univ fun x : X => Tk c x) ∗ bigSep Finset.univ fun x : X => Cr c (rc x))
      ⊢ |={Set.univ}=> bigSep Finset.univ fun x : X => iprop(Pr c x ∗ Rr c x) := by
  rw [← bigSep_sep', ← bigSep_sep']
  exact (bigSep_beside fun x _ => one_ready m K c x).trans (bigSep_fupd _ _)

/-- The barrier before any wait. -/
theorem bar_zero (c : Dev nD) : iprop(atPos ER (cell c none) 0 ∅ 0 ∗ Cr c none) ⊢ (Bar m c 0 : sProp 𝕄) := by
  unfold Bar Cr
  rw [count_bar, if_neg (by rw [bset_card]; omega), Nat.sub_zero, show amt none = 1 from rfl, Nat.mul_one]
  iintro ⟨H1, H2⟩
  iexists ∅
  isplitr; · ipureintro; exact Finset.empty_subset _
  isplitl [H1]; · iexact H1
  isplitl [H2]; · iexact H2
  iempintro

/-- All a device's body starts from, its scratch buffer and its debts apart. -/
def Xs (c : Dev nD) : sProp 𝕄 :=
  iprop(∃ K, Env m K ∗ (Sg m 0 c ∗ Sg m 1 c ∗ Sg m 2 c ∗ Sg m 3 c) ∗ Bar m c 0 ∗ argL m c ∗ Z4 c
    ∗ (outPt c fullShare (zc c * 16384 + 0) 4096 (argO m c) ∗ outPt c fullShare (zc c * 16384 + 4096) 4096 (argO m c)
      ∗ outPt c fullShare (zc c * 16384 + 8192) 4096 (argO m c) ∗ outPt c fullShare (zc c * 16384 + 12288) 4096 (argO m c)) ∗ PB m c)

theorem arg_whole (c : Dev nD) (f : CX F) : (argPt c fullShare 0 16384 f : sProp 𝕄) = (((c : Thread nD τ).loc main_arg0) ↦{fullShare} f) := by
  unfold argPt; rw [rows_all]
theorem out_whole (c : Dev nD) (f : CO F) : (outPt c fullShare 0 65536 f : sProp 𝕄) = (((c : Thread nD τ).loc main_v1) ↦{fullShare} f) := by
  unfold outPt; rw [rows_all]

theorem start_intro (c : Dev nD) (ρ : PrngReg) :
    iprop(Pipeline.unscopedRestP Pipeline.Prefetch.none cfg0.spec c (fun b => m ((c : Thread nD τ).loc b)) ∗ levAts L lv
        ∗ Pipeline.launchCred (fun d => owe d order) c ∗ prngReg c ρ ∗ Gh' m c)
      ⊢ |={Set.univ}=> iprop(Xs m c ∗ emp) := by
  have ha : (((c : Thread nD τ).loc main_arg0) ↦{fullShare} m ((c : Thread nD τ).loc main_arg0)) ⊢ (argPt c fullShare 0 16384 (argX m c) : sProp 𝕄) :=
    Entails.of_eq (arg_whole c _).symm
  have ho : (((c : Thread nD τ).loc main_v1) ↦{fullShare} m ((c : Thread nD τ).loc main_v1)) ⊢ (outPt c fullShare 0 65536 (argO m c) : sProp 𝕄) :=
    Entails.of_eq (out_whole c _).symm
  have hp : (bigSep Finset.univ fun x : Cell => atPos ER (cell c x) 0 ∅ 0 : sProp 𝕄)
      ⊢ iprop(atPos ER (cell c none) 0 ∅ 0 ∗ bigSep Finset.univ fun x : X => iprop(atPos ER (cell c (sc x)) 0 ∅ 0 ∗ atPos ER (cell c (rc x)) 0 ∅ 0)) := by
    rw [bigCell, bigXcells fun x : Cell => (atPos ER (cell c x) 0 ∅ 0 : sProp 𝕄)]
  have hc : (bigSep Finset.univ fun x : Cell => Cr c x : sProp 𝕄)
      ⊢ iprop(Cr c none ∗ bigSep Finset.univ fun x : X => Cr c (rc x)) := by
    rw [bigCell, bigXcells fun x : Cell => (Cr c x : sProp 𝕄), bigSep_sep']
    iintro ⟨H1, -, H2⟩; isplitl [H1] <;> iassumption
  rw [Pipeline.unscopedRestP_none, unscopedRest0_eq]
  unfold Gh' Recs Own
  iintro ⟨⟨Ha, Ho⟩, #Hlev, Hcr, -, ⟨%K, ⟨#HI, #HR⟩, Hat, Htk, H4⟩⟩
  ihave #HE := (show iprop((bigSep Finset.univ fun ck : Dev nD × Cell => cellInv ER (rd m) (K ck) (cell ck.1 ck.2))
    ∗ (bigSep Finset.univ fun ck : Dev nD × Cell => reached ER (cell ck.1 ck.2) 0) ∗ levAts L lv) ⊢ Env m K from by unfold Env; iintro H; iexact H) $$ [HI HR Hlev]
  · isplitr; · iexact HI
    isplitr; · iexact HR
    iexact Hlev
  ihave Ha := ha $$ Ha
  ihave Ho := ho $$ Ho
  ihave Hcr := (creds c) $$ Hcr
  ihave ⟨Hcn, Hcx⟩ := hc $$ Hcr
  ihave ⟨Hpn, Hpx⟩ := hp $$ Hat
  ihave ⟨Htb, Htx⟩ := (payToks_eq c) $$ Htk
  imod (all_ready m K c) $$ [Hpx Htx Hcx] with HX
  · isplitr; · iexact HE
    isplitl [Hpx]; · iexact Hpx
    isplitl [Htx] <;> iassumption
  ihave ⟨Ho, Hi⟩ := (out_pieces c (argO m c)).1 $$ Ho
  ihave Hi := (Entails.of_eq (bar_give m c)) $$ Hi
  ihave HS := (signals m c) $$ [Htb Hi]
  · isplitl [Htb] <;> iassumption
  ihave HQ := (out_quarters c _ _ _).1 $$ Ho
  ihave ⟨HA0, HA3, HL⟩ := (arg_shares m c).1 $$ Ha
  ihave ⟨HY0, HK0⟩ := (arg_cut m c 0 _).1 $$ HA0
  ihave ⟨HY3, HK3⟩ := (arg_cut m c 3 _).1 $$ HA3
  ihave HB := (bar_zero m c) $$ [Hpn Hcn]
  · isplitl [Hpn] <;> iassumption
  imodintro
  isplitl
  · unfold Xs PB
    iexists K
    isplitr; · iexact HE
    isplitl [HS]; · iexact HS
    isplitl [HB]; · iexact HB
    isplitl [HL]; · iexact HL
    isplitl [H4]; · iexact H4
    isplitl [HQ]; · iexact HQ
    isplitl [HY0]; · iexact HY0
    isplitl [HY3]; · iexact HY3
    isplitl [HK0]; · iexact HK0
    isplitl [HK3]; · iexact HK3
    iexact HX
  · iempintro

end Cert.KernelIdeal.Hand

end
-- ==== Proof.RunIdeal.lean ====
module

public import proofs.«01_k».proof.Proof.StartIdeal
public import Idealize.ShloMosaic.Lib.Pipeline.CollectiveSegs

@[expose] public section

set_option maxRecDepth 16384

noncomputable section

namespace Cert.KernelIdeal.Hand

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

variable (ρ : Dev nD → PrngReg)

/-! ## The two slots of the scratch buffer -/

/-- A slot's elements. -/
def half (k : ℕ) : Finset S2x4096x1024.Idx := Finset.univ.filter fun i => (i 0).val = k

theorem slot0_set : slot0.view.set = half 0 := by
  refine (View.set_reshape _ _).trans ((View.set_slice_whole _ _).trans ?_)
  ext i
  rw [Rect.mem_set_unit]; unfold half; rw [Finset.mem_filter]
  constructor
  · intro h; have := h 0; refine ⟨Finset.mem_univ _, ?_⟩
    have h2 : (i 0).val < 0 + 1 := this.2
    omega
  · rintro ⟨-, h⟩ a
    fin_cases a
    · exact ⟨Nat.zero_le _, (by show (i 0).val < 0 + 1; omega)⟩
    · exact ⟨Nat.zero_le _, (by have : (i 1).val < 4096 := (i 1).isLt; show (i 1).val < 0 + 4096; omega)⟩
    · exact ⟨Nat.zero_le _, (by have : (i 2).val < 1024 := (i 2).isLt; show (i 2).val < 0 + 1024; omega)⟩
theorem slot1_set : slot1.view.set = half 1 := by
  refine (View.set_reshape _ _).trans ((View.set_slice_whole _ _).trans ?_)
  ext i
  rw [Rect.mem_set_unit]; unfold half; rw [Finset.mem_filter]
  constructor
  · intro h; have := h 0; refine ⟨Finset.mem_univ _, ?_⟩
    have h1 : 1 ≤ (i 0).val := this.1
    have h2 : (i 0).val < 1 + 1 := this.2
    omega
  · rintro ⟨-, h⟩ a
    fin_cases a
    · exact ⟨(by show 1 ≤ (i 0).val; omega), (by show (i 0).val < 1 + 1; omega)⟩
    · exact ⟨Nat.zero_le _, (by have : (i 1).val < 4096 := (i 1).isLt; show (i 1).val < 0 + 4096; omega)⟩
    · exact ⟨Nat.zero_le _, (by have : (i 2).val < 1024 := (i 2).isLt; show (i 2).val < 0 + 1024; omega)⟩
theorem half_disjoint : Disjoint (half 0) (half 1) :=
  Finset.disjoint_filter.2 fun i _ h h' => by omega
theorem half_cover : half 0 ∪ half 1 = Finset.univ := by
  ext i; unfold half
  have : (i 0).val < 2 := (i 0).isLt
  simp only [Finset.mem_union, Finset.mem_filter, Finset.mem_univ, true_and, iff_true]; omega

/-- The scratch buffer, whatever it holds. -/
def scr (c : Dev nD) : sProp 𝕄 := iprop(∃ f : Buf (Elt F) ((c : Thread nD τ).loc cc0_scratch0), ((c : Thread nD τ).loc cc0_scratch0) ↦{fullShare} f)

theorem scr_split (c : Dev nD) : scr c ⊢ (iprop(slotE c slot0 ∗ slotE c slot1) : sProp 𝕄) := by
  have h : ∀ f : Buf (Elt F) ((c : Thread nD τ).loc cc0_scratch0), (((c : Thread nD τ).loc cc0_scratch0) ↦{fullShare} f)
      ⊢ (iprop((slot0.view.loc (c : Thread nD τ) ↦[slot0.view.set]{fullShare} f) ∗ (slot1.view.loc (c : Thread nD τ) ↦[slot1.view.set]{fullShare} f)) : sProp 𝕄) := fun f => by
    rw [slot0_set, slot1_set]
    refine BIBase.Entails.trans (Entails.of_eq ?_) (pointsTo_union (ℓ := (c : Thread nD τ).loc cc0_scratch0) half_disjoint).1
    rw [half_cover]
  unfold scr slotE
  iintro ⟨%f, H⟩
  ihave ⟨H0, H1⟩ := (h f) $$ H
  isplitl [H0]
  · iexists f; iexact H0
  · iexists f; iexact H1
theorem scr_join (c : Dev nD) : (iprop(slotE c slot0 ∗ slotE c slot1) : sProp 𝕄) ⊢ scr c := by
  have h : ∀ f g : Buf (Elt F) ((c : Thread nD τ).loc cc0_scratch0), (iprop((slot0.view.loc (c : Thread nD τ) ↦[slot0.view.set]{fullShare} f) ∗ (slot1.view.loc (c : Thread nD τ) ↦[slot1.view.set]{fullShare} g)) : sProp 𝕄)
      ⊢ scr c := fun f g => by
    rw [slot0_set, slot1_set]
    refine BIBase.Entails.trans (pointsTo_join (ℓ := (c : Thread nD τ).loc cc0_scratch0) half_disjoint) ?_
    unfold scr
    rw [half_cover]
    iintro H; iexists _; iexact H
  unfold slotE
  iintro ⟨⟨%f, H0⟩, ⟨%g, H1⟩⟩
  iapply (h f g)
  isplitl [H0] <;> iassumption

/-! ## The body between its two ends -/

def Φ₀ (c : Dev nD) : sProp 𝕄 := iprop(Xs m c ∗ scr c)
/-- In the end: the argument as it was, the result, every semaphore at zero, the scratch buffer. -/
def Φ₁ (c : Dev nD) : sProp 𝕄 :=
  iprop(argPt c fullShare 0 16384 (argX m c) ∗ outPt c fullShare 0 65536 (G m c) ∗ Z c none
    ∗ (bigSep Finset.univ fun x : X => iprop(Z c (sc x) ∗ Z c (rc x))) ∗ Z4 c ∗ scr c)

theorem body_run (c : Dev nD) : iprop(Φ₀ m c ∗ Ow c order) ⊢ WP c (cc0_body (F := F) xM (Memref.isWhole_whole _) oM (Memref.isWhole_whole _) vM (Memref.isWhole_whole _) cc0_scratch1 cc0_scratch2 cc0_scratch3 cc0_scratch4 cc0_scratch5 cc0_scratch6 cc0_scratch7 cc0_scratch8 cc0_scratch9 cc0_scratch10 cc0_scratch11 cc0_scratch12 cc0_scratch13) fun _ => iprop(Φ₁ m c ∗ Ow c []) := by
  unfold Φ₀ Xs Z4
  iintro ⟨⟨⟨%K, #HE, ⟨HS0, HS1, HS2, HS3⟩, HB, HL, ⟨HM0, HM1, HM2, HM3⟩, ⟨HQ0, HQ1, HQ2, HQ3⟩, HP⟩, Hs⟩, HO⟩
  ihave ⟨HV0, HV1⟩ := (scr_split c) $$ Hs
  iapply (body_ok m K c (after_bar m c) (Q := fun _ => iprop(Φ₁ m c ∗ Ow c [])) (BIBase.Entails.trans (all_done m c) (by
    unfold Fin1 Φ₁ Z4
    iintro ⟨HA, HO, HZ, HX, HV0, HV1, HM, HW⟩
    isplitr [HW]
    · isplitl [HA]; · iexact HA
      isplitl [HO]; · iexact HO
      isplitl [HZ]; · iexact HZ
      isplitl [HX]; · iexact HX
      isplitl [HM]; · iexact HM
      iapply (scr_join c)
      isplitl [HV0] <;> iassumption
    · iexact HW)))
  isplitr; · iexact HE
  isplitl [HS0]; · iexact HS0
  isplitl [HS1]; · iexact HS1
  isplitl [HS2]; · iexact HS2
  isplitl [HS3]; · iexact HS3
  isplitl [HB]; · iexact HB
  isplitl [HL]; · iexact HL
  isplitl [HV0]; · iexact HV0
  isplitl [HV1]; · iexact HV1
  isplitl [HM0]; · iexact HM0
  isplitl [HM1]; · iexact HM1
  isplitl [HM2]; · iexact HM2
  isplitl [HM3]; · iexact HM3
  isplitl [HQ0]; · iexact HQ0
  isplitl [HQ1]; · iexact HQ1
  isplitl [HQ2]; · iexact HQ2
  isplitl [HQ3]; · iexact HQ3
  isplitl [HP] <;> iassumption

/-! ## The launch -/

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owe c order
    | ⟨_ + 1, _⟩ => 0

theorem bigSep_none (Φ : Fin cfg0.W → sProp 𝕄) : bigSep Finset.univ Φ = iprop(emp) := rfl

theorem body_obligation (c : Dev nD) : Pipeline.BodyObligation (dats (F := F) m 0 c) (defs₀ (F := F)) 𝒱₀ () Set.univ := fun t => by
  rw [fin_N0 t]
  have hin : iprop(Φ₀ m c ∗ (dats m 0 c).owesAt () t0_0.castSucc) ⊢ iprop(Φ₀ m c ∗ Ow c order) := by
    unfold Ow Pipeline.Dat.owesAt Pipeline.owesWithin
    iintro ⟨H1, ⟨%W, -, H2⟩⟩
    isplitl [H1]; · iexact H1
    iexists W; iexact H2
  have hout : iprop(Φ₁ m c ∗ Ow c []) ⊢ iprop(Φ₁ m c ∗ (dats m 0 c).owesAt () t0_0.succ ∗ emp) := by
    unfold Ow Pipeline.Dat.owesAt Pipeline.owesWithin
    iintro ⟨H1, ⟨%W, H2⟩⟩
    isplitl [H1]; · iexact H1
    isplitl
    · iexists W; isplitr
      · ipureintro; exact fun _ _ => Or.inl trivial
      · iexact H2
    · iempintro
  show iprop(Φ₀ m c ∗ (dats m 0 c).owesAt () t0_0.castSucc ∗ emp) ⊢ wp frame (wpE (defs₀ (F := F)) 𝒱₀ c none) Set.univ (bodyAt0 t0_0)
    (fun _ => iprop(Φ₁ m c ∗ (dats m 0 c).owesAt () t0_0.succ ∗ emp))
  iintro ⟨H1, H2, -⟩
  ihave H := hin $$ [H1 H2]
  · isplitl [H1] <;> iassumption
  ihave H := (body_run m c) $$ H
  iapply (wp_wand _ _ _) $$ H
  iintro %a H
  iapply hout; iexact H

theorem phi0_intro (c : Dev nD) :
    iprop(Xs m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs] <;> iassumption

/-- What leaves the launch: the arguments, the results, the barrier's semaphore. -/
def Ys (c : Dev nD) : sProp 𝕄 := iprop(argPt c fullShare 0 16384 (argX m c) ∗ outPt c fullShare 0 65536 (G m c) ∗ unscopedSems0 c)

theorem phi1_exit (c : Dev nD) :
    (dats m 0 c).Φ (Fin.last cfg0.N) ⊢ iprop(Ys m c ∗ Pipeline.ownSems0 osem c ∗ Pipeline.scopedRest cfg0.spec c) := by
  rw [show (dats m 0 c).Φ (Fin.last cfg0.N) = Φ₁ m c from rfl, scopedRest0_eq, ownSems0_eq]
  unfold Φ₁ Ys scr
  rw [unscopedSems0_eq, bigXcells fun x : Cell => (Z c x : sProp 𝕄)]
  iintro ⟨HA, HO, HZ, HX, H4, Hr⟩
  isplitl [HA HO HZ]
  · isplitl [HA]; · iexact HA
    isplitl [HO] <;> iassumption
  isplitr [Hr]
  · isplitl [H4] <;> iassumption
  · iexact Hr

theorem waits (c : Dev nD) : (levAts L lv : sProp 𝕄) ⊢ Pipeline.cellsWaits cfgs (dats m) () 0 c :=
  Pipeline.cellsWaits_intro cfgs (dats m) () 0 c fun w s t => w.elim0

/-- What holds of device `c`'s memory in the end. -/
def Qs (c : Dev nD) (s : MemSt nD τ sig (Elt F)) : Prop :=
  s.mem ((c : Thread nD τ).loc main_arg0) = argX m c ∧ s.mem ((c : Thread nD τ).loc main_v1) = G m c
    ∧ ∀ sm : SemLoc sig, sm.isScoped .tc = false → s.sem ((c.tc : Thread nD τ), sm) = 0

theorem end_read (c : Dev nD) (s' : Phys nD τ sig (Elt F)) : iprop(Ys m c ∗ emp ∗ SI s') ⊢ |={Set.univ}=> (iprop(⌜Qs m c s'.mem⌝ ∗ SI s') : sProp 𝕄) := by
  unfold Ys
  rw [arg_whole, out_whole]
  iintro ⟨⟨HA, HO, HU⟩, -, HSI⟩
  ihave %h1 := (SI_pointsTo_agree) $$ [HSI HA]
  · isplitl [HSI] <;> iassumption
  ihave %h2 := (SI_pointsTo_agree) $$ [HSI HO]
  · isplitl [HSI] <;> iassumption
  imod (Pipeline.unscopedSems0_read (X := unscopedSems0 c) (c := c) fupd_intro s') $$ [HU HSI] with ⟨%h3, HSI⟩
  · isplitl [HU] <;> iassumption
  imodintro
  isplitr
  · ipureintro
    exact ⟨funext fun i => h1 i (Finset.mem_univ _), funext fun i => h2 i (Finset.mem_univ _), h3⟩
  · iexact HSI

/-- The kernel's part of the launch element. -/
theorem own_mine : (BI.own (embR ((initOf cells marks, 1) : UB × Counters)) : sProp 𝕄) ⊢ BI.own (ER (F := F) (initOf cells marks)) := by
  unfold ER; exact Entails.of_eq rfl

/-- From any memory with every counter at zero, every fair run of the sixteen devices ends, with every argument as it was,
    every result at what `G` says and every counter at zero. -/
theorem run_main : θ_run defs (onTc (τ := τ) (main (F := F))) ⟨m, fun _ => 0, ρ⟩ (fun r =>
    (∀ c : Dev nD, r.2.mem ((c : Thread nD τ).loc main_arg0) = argX m c ∧ r.2.mem ((c : Thread nD τ).loc main_v1) = G m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun d => owe d order) (howed₀ := fun _ => rfl) (howedN := fun _ => rfl)
    (L := L) (lv := lv) (hL := L_of_ne) (hwaits := waits m)
    (G := Gh m) (G' := Gh' m) (u₀ := u₀)
    (hu₀ := by
      unfold u₀
      iintro Hu
      ihave H := (ownU_pair _ _) $$ Hu
      icases H with ⟨HP, HX⟩
      ihave HX := (own_mine) $$ HX
      imod (fund_own m) $$ HX with HG
      imodintro
      isplitl [HP] <;> iassumption)
    (hglob := glob m)
    (hA := fun _ w => w.elim0) (hpf := fun _ k => k.elim0)
    (X := Xs m) (Y := Ys m) (Z := fun _ => iprop(emp))
    (hX := fun c => start_intro m c (ρ c)) (hin := phi0_intro m) (hout := phi1_exit m)
    (QY := Qs m)
    (hY := end_read m)
    (hQ := fun s h hs => ⟨fun c => ⟨(h c).2.2.1, (h c).2.2.2.1⟩, sem_eq_zero hs fun c => (h c).2.2.2.2⟩)

end Cert.KernelIdeal.Hand

end
-- ==== Proof.ValueIdeal.lean ====
/- What every device's result holds is the whole array: each row of it comes from a device whose argument is that row's
   block. -/
module

public import proofs.«01_k».proof.Proof.PiecesIdeal
public import Idealize.ShloMosaic.Lib.Layout

@[expose] public section

noncomputable section

namespace Cert.KernelIdeal.Hand

open Cert.KernelIdeal Cert.KernelIdeal.Gen Cert.Mesh
open Idealize.ShloMosaic Idealize.ShloMosaic.TcCoe

variable {F : FTy → Type} [FloatOps F]

/-- The source of a row of the result lies on the plane whose block the row is in. -/
theorem src_plane (c : Dev nD) {r : ℕ} (h : r < 65536) : (src c r).val % 4 = r / 16384 := by
  unfold src
  split_ifs with hz
  · exact hz.symm
  · show ((if _ then 0 else if _ then 4 else if _ then 12 else 8) + r / 16384 % 4) % 4 = _
    split_ifs <;> omega

/-- A device's place along the cut axis of the mesh is its plane. -/
theorem lin_plane : ∀ d : Dev nD, Layout.meshLin [2, 2, 4] d.val [2] = d.val % 4 := by decide +kernel

/-- If each device's argument is its plane's block of `w`, every device's result ends holding `w`. -/
theorem G_eq (m : (ℓ : Loc nD τ sig) → Buf (Elt F) ℓ) (w : CO F)
    (h : ∀ c : Dev nD, m ((c.tc : Thread nD τ).loc main_arg0)
      = Layout.blockN ⟨2, ![16384, 1024]⟩ ⟨2, ![65536, 1024]⟩ (Layout.meshBlock [2, 2, 4] ![[2], []] c) w)
    (c : Dev nD) : G m c = w := by
  funext i
  have hi : (i 0).val < 65536 := (i 0).isLt
  have e : argX m (src c (i 0).val) = _ := h (src c (i 0).val)
  unfold G
  rw [e]
  refine congrArg w (idx_ext ?_ ?_)
  · show Layout.meshLin [2, 2, 4] (src c (i 0).val).val [2] * 16384 + (i 0).val % 16384 = (i 0).val
    rw [lin_plane, src_plane c hi]; omega
  · show 0 * 1024 + (i 1).val = (i 1).val
    omega

end Cert.KernelIdeal.Hand

end
-- ==== Proof.RefRun.lean ====
/- The reference's run: it returns its argument, so nothing changes. -/
module

public import proofs.«01_k».proof.Proof.Gen.ReferenceIdeal
public import Idealize.ShloMosaic.Lib.StableHlo.Run

@[expose] public section

noncomputable section

namespace Cert.ReferenceIdeal.Hand

open Cert.ReferenceIdeal Cert.ReferenceIdeal.Gen
open Idealize.ShloMosaic Idealize.SL.Sem

variable {F : FTy → Type} [FloatOps F] [∀ e, Nonempty (Elt F e)]

/-- The reference has no semaphore, so two readings of all its counters agree. -/
theorem sem_eq (f g : GSem nD τ sig → ℤ) : f = g := by
  funext s
  obtain ⟨_, s⟩ := s
  cases s with
  | reg s => exact s.elim0
  | dma s => exact s.elim0

/-- The reference runs, its argument, which is its result, ends unchanged and every counter ends at zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0))
        ∧ r.2.sem = fun _ => 0) :=
  (θ_run _ _ _).mono (fun r h => ⟨fun c => h c main_arg0, sem_eq _ _⟩)
    (StableHlo.run_seq (by decide) (by decide) defs main (fun _ => []) (fun _ => rfl) (fun _ => trivial) m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RunKernel
public import proofs.«01_k».proof.Proof.RunIdeal
public import proofs.«01_k».proof.Proof.ValueIdeal
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The kernel, over the machine's own floats, runs, leaves its arguments alone and every counter at zero. -/
theorem frame_kernel : Cert.quiescent_Kernel (hKernel := Cert.Kernel.Gen.facts) := fun m g _ =>
  (θ_run _ _ _).mono (fun _ h => ⟨fun c => (h.1 c).1, h.2⟩) (Cert.Kernel.Hand.run_main (F := Bits) m g)

/-- The kernel, over the extended reals, runs, leaves its arguments alone and every counter at zero. -/
theorem frame_ideal : Cert.quiescent_KernelIdeal (hKernelIdeal := Cert.KernelIdeal.Gen.facts) := fun m g _ =>
  (θ_run _ _ _).mono (fun _ h => ⟨fun c => (h.1 c).1, h.2⟩) (Cert.KernelIdeal.Hand.run_main (F := Ideal) m g)

/-- The reference runs, leaves its argument alone and every counter at zero. -/
theorem frame_reference : Cert.quiescent_ReferenceIdeal (hReferenceIdeal := Cert.ReferenceIdeal.Gen.facts) := fun m g _ =>
  Cert.ReferenceIdeal.Hand.run_main (F := Ideal) m g

/-- On arguments that are the blocks of one array, every device of the kernel ends holding that array, which is what the
    reference returns. -/
theorem same_value : Cert.algebraic_KernelIdeal_ReferenceIdeal (hKernelIdeal := Cert.KernelIdeal.Gen.facts)
    (hReferenceIdeal := Cert.ReferenceIdeal.Gen.facts) := fun m g m' g' _ hm =>
  ⟨m' (((0 : Dev Cert.ReferenceIdeal.nD).tc : Thread Cert.ReferenceIdeal.nD Cert.ReferenceIdeal.τ).loc Cert.ReferenceIdeal.main_arg0),
    (θ_run _ _ _).mono (fun _ h c => ⟨((h.1 c).2).trans (Cert.KernelIdeal.Hand.G_eq m _ hm c), (h.1 c).1⟩)
      (Cert.KernelIdeal.Hand.run_main (F := Ideal) m g),
    (θ_run _ _ _).mono (fun _ h => ⟨h.1 0, h.1 0⟩) (Cert.ReferenceIdeal.Hand.run_main (F := Ideal) m' g')⟩

theorem claim : Cert.Claim := ⟨Cert.Kernel.Gen.facts, Cert.KernelIdeal.Gen.facts, Cert.ReferenceIdeal.Gen.facts,
  frame_kernel, frame_ideal, frame_reference, trivial, same_value⟩

end Cert.Proof

end
